-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "score_scale_log2e" .f32 0x3B38AA3B#32 (((512 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)) (v5 : (c : Dev Cert.KernelIdeal.nD) → Buf (Elt Ideal) ((c.tc : Thread Cert.KernelIdeal.nD Cert.KernelIdeal.τ).loc Cert.KernelIdeal.main_v23_5)) (v6 : (c : Dev Cert.KernelIdeal.nD) → Buf (Elt Ideal) ((c.tc : Thread Cert.KernelIdeal.nD Cert.KernelIdeal.τ).loc Cert.KernelIdeal.main_v23_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_v23_5) = v5 c
          ∧ r.2.mem ((c.tc : Thread Cert.KernelIdeal.nD Cert.KernelIdeal.τ).loc Cert.KernelIdeal.main_v23_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_v147) = v5 c
          ∧ r.2.mem ((c.tc : Thread Cert.ReferenceIdeal.nD Cert.ReferenceIdeal.τ).loc Cert.ReferenceIdeal.main_v103) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S5x384x3072 : Shape := ⟨3, ![5, 384, 3072]⟩
abbrev S5x384x512 : Shape := ⟨3, ![5, 384, 512]⟩
abbrev S_ : Shape := ⟨0, ![]⟩

class Facts : Prop where
  bitsLt_bf16_f32 : FTy.bits .bf16 < FTy.bits .f32
  bcast_S_S5x384x3072 : S_.BroadcastsInDim S5x384x3072 (![] : Fin 0 → Fin S5x384x3072.rank)
  bcast_S_S5x384x512 : S_.BroadcastsInDim S5x384x512 (![] : Fin 0 → Fin S5x384x512.rank)

variable [Facts]

def fn {F : FTy → Type} [FloatOps F] (main_arg0 : FVec F S5x384x3072 .bf16) (main_arg1 : FVec F S5x384x512 .bf16) (main_arg2 : FVec F S5x384x512 .bf16) : IVec S5x384x3072 1 × IVec S5x384x512 1 × IVec S5x384x512 1 :=
  let main_v0 : FVec F S5x384x3072 .f32 := (extf .f32 · bitsLt_bf16_f32) main_arg0
  let main_v1 : FVec F S5x384x3072 .f32 := Host.absf main_v0
  let main_cst : FVec F S_ .f32 := constant S_ .f32 0x7F7F0000#32
  let main_v2 : FVec F S5x384x3072 .f32 := broadcastInDim S5x384x3072 ![] bcast_S_S5x384x3072 main_cst
  let main_v3 : IVec S5x384x3072 1 := cmpf .ole main_v1 main_v2
  let main_v4 : FVec F S5x384x512 .f32 := (extf .f32 · bitsLt_bf16_f32) main_arg1
  let main_v5 : FVec F S5x384x512 .f32 := Host.absf main_v4
  let main_cst_0 : FVec F S_ .f32 := constant S_ .f32 0x7F7F0000#32
  let main_v6 : FVec F S5x384x512 .f32 := broadcastInDim S5x384x512 ![] bcast_S_S5x384x512 main_cst_0
  let main_v7 : IVec S5x384x512 1 := cmpf .ole main_v5 main_v6
  let main_v8 : FVec F S5x384x512 .f32 := (extf .f32 · bitsLt_bf16_f32) main_arg2
  let main_v9 : FVec F S5x384x512 .f32 := Host.absf main_v8
  let main_cst_1 : FVec F S_ .f32 := constant S_ .f32 0x7F7F0000#32
  let main_v10 : FVec F S5x384x512 .f32 := broadcastInDim S5x384x512 ![] bcast_S_S5x384x512 main_cst_1
  let main_v11 : IVec S5x384x512 1 := cmpf .ole main_v9 main_v10
  (main_v3, main_v7, main_v11)
-- ==== Kernel.lean ====
abbrev S5x384x3072 : Shape := ⟨3, ![5, 384, 3072]⟩
abbrev S5x384x512 : Shape := ⟨3, ![5, 384, 512]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S5x48x64x384 : Shape := ⟨4, ![5, 48, 64, 384]⟩
abbrev S5x48x384 : Shape := ⟨3, ![5, 48, 384]⟩
abbrev S5x8x64x384 : Shape := ⟨4, ![5, 8, 64, 384]⟩
abbrev S5x8x384 : Shape := ⟨3, ![5, 8, 384]⟩
abbrev S5x8x64 : Shape := ⟨3, ![5, 8, 64]⟩
abbrev S1x384x768 : Shape := ⟨3, ![1, 384, 768]⟩
abbrev S1x384x128 : Shape := ⟨3, ![1, 384, 128]⟩
abbrev S1x12x64x384 : Shape := ⟨4, ![1, 12, 64, 384]⟩
abbrev S1x48x384 : Shape := ⟨3, ![1, 48, 384]⟩
abbrev S1x2x64x384 : Shape := ⟨4, ![1, 2, 64, 384]⟩
abbrev S1x8x384 : Shape := ⟨3, ![1, 8, 384]⟩
abbrev S1x8x64 : Shape := ⟨3, ![1, 8, 64]⟩
abbrev S128x128 : Shape := ⟨2, ![128, 128]⟩
abbrev S384x128 : Shape := ⟨2, ![384, 128]⟩
abbrev S128x384 : Shape := ⟨2, ![128, 384]⟩
abbrev S128 : Shape := ⟨1, ![128]⟩
abbrev S1x128 : Shape := ⟨2, ![1, 128]⟩
abbrev S1x384x256 : Shape := ⟨3, ![1, 384, 256]⟩
abbrev S384x256 : Shape := ⟨2, ![384, 256]⟩
abbrev S256x384 : Shape := ⟨2, ![256, 384]⟩
abbrev S64x384 : Shape := ⟨2, ![64, 384]⟩
abbrev S384 : Shape := ⟨1, ![384]⟩
abbrev S1x384 : Shape := ⟨2, ![1, 384]⟩
abbrev S1x1x64x384 : Shape := ⟨4, ![1, 1, 64, 384]⟩
abbrev S1x1x384 : Shape := ⟨3, ![1, 1, 384]⟩
abbrev S384x64 : Shape := ⟨2, ![384, 64]⟩
abbrev S1x64 : Shape := ⟨2, ![1, 64]⟩
abbrev S1x1x64 : Shape := ⟨3, ![1, 1, 64]⟩
abbrev S64x128 : Shape := ⟨2, ![64, 128]⟩
abbrev S128x64 : Shape := ⟨2, ![128, 64]⟩
abbrev S1x128x64 : Shape := ⟨3, ![1, 128, 64]⟩
abbrev S256x64 : Shape := ⟨2, ![256, 64]⟩
abbrev S256x128 : Shape := ⟨2, ![256, 128]⟩
abbrev S64x256 : Shape := ⟨2, ![64, 256]⟩

abbrev nBuf : Space → Nat
  | .hbm => 135
  | .vmem => 21
  | .smem => 0
  | _ => 0

abbrev hbmTy0_0 (i : Nat) : BufTy := match i % 128 with
  | 0 => ⟨S5x384x3072, .bf16⟩
  | 1 => ⟨S5x384x512, .bf16⟩
  | 2 => ⟨S5x384x512, .bf16⟩
  | 3 => ⟨S256, .i32⟩
  | 4 => ⟨S256x1, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S256x1, .i32⟩
  | 12 => ⟨S256x1, .i32⟩
  | 13 => ⟨S_, .i32⟩
  | 14 => ⟨S256x1, .i32⟩
  | 15 => ⟨S256x1, .i1⟩
  | 16 => ⟨S_, .i32⟩
  | 17 => ⟨S256x1, .i32⟩
  | 18 => ⟨S256x1, .i1⟩
  | 19 => ⟨S_, .i32⟩
  | 20 => ⟨S_, .i1⟩
  | 21 => ⟨S256x1, .i1⟩
  | 22 => ⟨S256x1, .i1⟩
  | 23 => ⟨S256x1, .i1⟩
  | 24 => ⟨S256x1, .i32⟩
  | 25 => ⟨S256x1, .i32⟩
  | 26 => ⟨S256x1, .i32⟩
  | 27 => ⟨S1x256, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S1x256, .i32⟩
  | 35 => ⟨S1x256, .i32⟩
  | 36 => ⟨S_, .i32⟩
  | 37 => ⟨S1x256, .i32⟩
  | 38 => ⟨S1x256, .i1⟩
  | 39 => ⟨S_, .i32⟩
  | 40 => ⟨S1x256, .i32⟩
  | 41 => ⟨S1x256, .i1⟩
  | 42 => ⟨S_, .i32⟩
  | 43 => ⟨S_, .i1⟩
  | 44 => ⟨S1x256, .i1⟩
  | 45 => ⟨S1x256, .i1⟩
  | 46 => ⟨S1x256, .i1⟩
  | 47 => ⟨S1x256, .i32⟩
  | 48 => ⟨S1x256, .i32⟩
  | 49 => ⟨S1x256, .i32⟩
  | 50 => ⟨S256x256, .i32⟩
  | 51 => ⟨S256x256, .i32⟩
  | 52 => ⟨S256x256, .i32⟩
  | 53 => ⟨S256x256, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S256x256, .i32⟩
  | 61 => ⟨S256x256, .i32⟩
  | 62 => ⟨S_, .i32⟩
  | 63 => ⟨S256x256, .i32⟩
  | 64 => ⟨S256x256, .i1⟩
  | 65 => ⟨S_, .i32⟩
  | 66 => ⟨S256x256, .i32⟩
  | 67 => ⟨S256x256, .i1⟩
  | 68 => ⟨S_, .i32⟩
  | 69 => ⟨S_, .i1⟩
  | 70 => ⟨S256x256, .i1⟩
  | 71 => ⟨S256x256, .i1⟩
  | 72 => ⟨S256x256, .i1⟩
  | 73 => ⟨S256x256, .i32⟩
  | 74 => ⟨S256x256, .i32⟩
  | 75 => ⟨S256x256, .i32⟩
  | 76 => ⟨S_, .i32⟩
  | 77 => ⟨S256x256, .i32⟩
  | 78 => ⟨S256x256, .i32⟩
  | 79 => ⟨S_, .i32⟩
  | 80 => ⟨S256x256, .i32⟩
  | 81 => ⟨S256x256, .i32⟩
  | 82 => ⟨S256x1, .i32⟩
  | 83 => ⟨S_, .i32⟩
  | 84 => ⟨S_, .i32⟩
  | 85 => ⟨S256x1, .i32⟩
  | 86 => ⟨S256x1, .i32⟩
  | 87 => ⟨S256x1, .i32⟩
  | 88 => ⟨S_, .i32⟩
  | 89 => ⟨S256x1, .i32⟩
  | 90 => ⟨S256x1, .i1⟩
  | 91 => ⟨S256x1, .i32⟩
  | 92 => ⟨S256x1, .i32⟩
  | 93 => ⟨S_, .i32⟩
  | 94 => ⟨S256x1, .i32⟩
  | 95 => ⟨S256x1, .i1⟩
  | 96 => ⟨S256x1, .i1⟩
  | 97 => ⟨S_, .i32⟩
  | 98 => ⟨S256x1, .i32⟩
  | 99 => ⟨S256x1, .i32⟩
  | 100 => ⟨S256x1, .i32⟩
  | 101 => ⟨S1x256, .i32⟩
  | 102 => ⟨S_, .i32⟩
  | 103 => ⟨S_, .i32⟩
  | 104 => ⟨S1x256, .i32⟩
  | 105 => ⟨S1x256, .i32⟩
  | 106 => ⟨S1x256, .i32⟩
  | 107 => ⟨S_, .i32⟩
  | 108 => ⟨S1x256, .i32⟩
  | 109 => ⟨S1x256, .i1⟩
  | 110 => ⟨S1x256, .i32⟩
  | 111 => ⟨S1x256, .i32⟩
  | 112 => ⟨S_, .i32⟩
  | 113 => ⟨S1x256, .i32⟩
  | 114 => ⟨S1x256, .i1⟩
  | 115 => ⟨S1x256, .i1⟩
  | 116 => ⟨S_, .i32⟩
  | 117 => ⟨S1x256, .i32⟩
  | 118 => ⟨S1x256, .i32⟩
  | 119 => ⟨S1x256, .i32⟩
  | 120 => ⟨S256x256, .i32⟩
  | 121 => ⟨S256x256, .i32⟩
  | 122 => ⟨S256x256, .i1⟩
  | 123 => ⟨S_, .i32⟩
  | 124 => ⟨S_, .i32⟩
  | 125 => ⟨S256x256, .i32⟩
  | 126 => ⟨S256x256, .i32⟩
  | 127 => ⟨S256x256, .bf16⟩
  | _ => ⟨S5x384x3072, .bf16⟩

abbrev hbmTy0_1 (i : Nat) : BufTy := match i % 128 with
  | 0 => ⟨S5x384x3072, .bf16⟩
  | 1 => ⟨S5x48x64x384, .fp8e4m3⟩
  | 2 => ⟨S5x48x384, .f32⟩
  | 3 => ⟨S5x8x64x384, .fp8e4m3⟩
  | 4 => ⟨S5x8x384, .f32⟩
  | 5 => ⟨S5x8x64x384, .fp8e4m3⟩
  | 6 => ⟨S5x8x64, .f32⟩
  | _ => ⟨S5x384x3072, .bf16⟩

abbrev hbmTy (i : Nat) : BufTy := match i / 128 with
  | 0 => hbmTy0_0 i
  | 1 => hbmTy0_1 i
  | _ => ⟨S5x384x3072, .bf16⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S1x384x768, .bf16⟩
  | .local _ .vmem, ⟨2, _⟩ => ⟨S1x384x768, .bf16⟩
  | .local _ .vmem, ⟨3, _⟩ => ⟨S1x384x128, .bf16⟩
  | .local _ .vmem, ⟨4, _⟩ => ⟨S1x384x128, .bf16⟩
  | .local _ .vmem, ⟨5, _⟩ => ⟨S1x384x128, .bf16⟩
  | .local _ .vmem, ⟨6, _⟩ => ⟨S1x384x128, .bf16⟩
  | .local _ .vmem, ⟨7, _⟩ => ⟨S1x384x768, .bf16⟩
  | .local _ .vmem, ⟨8, _⟩ => ⟨S1x384x768, .bf16⟩
  | .local _ .vmem, ⟨9, _⟩ => ⟨S1x12x64x384, .fp8e4m3⟩
  | .local _ .vmem, ⟨10, _⟩ => ⟨S1x12x64x384, .fp8e4m3⟩
  | .local _ .vmem, ⟨11, _⟩ => ⟨S1x48x384, .f32⟩
  | .local _ .vmem, ⟨12, _⟩ => ⟨S1x48x384, .f32⟩
  | .local _ .vmem, ⟨13, _⟩ => ⟨S1x2x64x384, .fp8e4m3⟩
  | .local _ .vmem, ⟨14, _⟩ => ⟨S1x2x64x384, .fp8e4m3⟩
  | .local _ .vmem, ⟨15, _⟩ => ⟨S1x8x384, .f32⟩
  | .local _ .vmem, ⟨16, _⟩ => ⟨S1x8x384, .f32⟩
  | .local _ .vmem, ⟨17, _⟩ => ⟨S1x2x64x384, .fp8e4m3⟩
  | .local _ .vmem, ⟨18, _⟩ => ⟨S1x2x64x384, .fp8e4m3⟩
  | .local _ .vmem, ⟨19, _⟩ => ⟨S1x8x64, .f32⟩
  | .local _ .vmem, ⟨20, _⟩ => ⟨S1x8x64, .f32⟩
  | _, _ => ⟨S5x384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_c_1 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v9 : Ref sig .tc := ⟨.hbm, 75, rfl⟩
abbrev main_c_2 : Ref sig .tc := ⟨.hbm, 76, rfl⟩
abbrev main_v10 : Ref sig .tc := ⟨.hbm, 77, rfl⟩
abbrev main_v11 : Ref sig .tc := ⟨.hbm, 78, rfl⟩
abbrev main_c_3 : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_c_4 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_c : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_0 : Ref sig .tc := ⟨.hbm, 97, rfl⟩
abbrev main_call3_v12 : Ref sig .tc := ⟨.hbm, 98, rfl⟩
abbrev main_call3_v13 : Ref sig .tc := ⟨.hbm, 99, rfl⟩
abbrev main_v15 : Ref sig .tc := ⟨.hbm, 100, rfl⟩
abbrev main_v16 : Ref sig .tc := ⟨.hbm, 101, rfl⟩
abbrev main_c_5 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_c : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_0 : Ref sig .tc := ⟨.hbm, 116, rfl⟩
abbrev main_call4_v12 : Ref sig .tc := ⟨.hbm, 117, rfl⟩
abbrev main_call4_v13 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_c_6 : Ref sig .tc := ⟨.hbm, 123, rfl⟩
abbrev main_call5_v0 : Ref sig .tc := ⟨.hbm, 124, rfl⟩
abbrev main_call5_v1 : Ref sig .tc := ⟨.hbm, 125, rfl⟩
abbrev main_v21 : Ref sig .tc := ⟨.hbm, 126, rfl⟩
abbrev main_v22 : Ref sig .tc := ⟨.hbm, 127, rfl⟩
abbrev main_v23_0 : Ref sig .tc := ⟨.hbm, 128, rfl⟩
abbrev main_v23_1 : Ref sig .tc := ⟨.hbm, 129, rfl⟩
abbrev main_v23_2 : Ref sig .tc := ⟨.hbm, 130, rfl⟩
abbrev main_v23_3 : Ref sig .tc := ⟨.hbm, 131, rfl⟩
abbrev main_v23_4 : Ref sig .tc := ⟨.hbm, 132, rfl⟩
abbrev main_v23_5 : Ref sig .tc := ⟨.hbm, 133, rfl⟩
abbrev main_v23_6 : Ref sig .tc := ⟨.hbm, 134, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![5, 4], ![false, false]⟩

def k0_off1 (i : grid0.Coords) (c0_i32_45 : BitVec 32) : Fin 3 → Nat :=
  let c0_46 : Index := 0#32
  let arg1 : BitVec 32 := BitVec.ofNat 32 (i 1).val
  let c2_i32 : BitVec 32 := 2#32
  let v159 : BitVec 32 := Scalar.muli arg1 c2_i32
  let v160 : BitVec 32 := Scalar.addi v159 c0_i32_45
  let v161 : Index := Scalar.indexCast v160
  let c0_47 : Index := 0#32
  ![0, v161.toNat, 0]
def k0_off2 (i : grid0.Coords) (c0_i32_53 : BitVec 32) : Fin 3 → Nat :=
  let c0_54 : Index := 0#32
  let arg1 : BitVec 32 := BitVec.ofNat 32 (i 1).val
  let c2_i32_52 : BitVec 32 := 2#32
  let v175 : BitVec 32 := Scalar.muli arg1 c2_i32_52
  let v176 : BitVec 32 := Scalar.addi v175 c0_i32_53
  let v177 : Index := Scalar.indexCast v176
  let c0_55 : Index := 0#32
  ![0, v177.toNat, 0]
def k0_off3 (i : grid0.Coords) (c0_i32_78 : BitVec 32) : Fin 3 → Nat :=
  let c0_79 : Index := 0#32
  let arg1 : BitVec 32 := BitVec.ofNat 32 (i 1).val
  let c12_i32 : BitVec 32 := 12#32
  let v251 : BitVec 32 := Scalar.muli arg1 c12_i32
  let v252 : BitVec 32 := Scalar.addi v251 c0_i32_78
  let v253 : Index := Scalar.indexCast v252
  let c0_80 : Index := 0#32
  ![0, v253.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x384x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x12x64x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x48x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x64x384 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x64x384 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "score_scale_log2e" => some (((512 * (Real.log 2))⁻¹ : ℝ) : EReal)
  | _ => none
-- ==== ReferenceIdeal.lean ====
abbrev S5x384x3072 : Shape := ⟨3, ![5, 384, 3072]⟩
abbrev S5x384x512 : Shape := ⟨3, ![5, 384, 512]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S5x384x48x64 : Shape := ⟨4, ![5, 384, 48, 64]⟩
abbrev S5x384x8x64 : Shape := ⟨4, ![5, 384, 8, 64]⟩
abbrev S5x384x48 : Shape := ⟨3, ![5, 384, 48]⟩
abbrev S5x384x48x1 : Shape := ⟨4, ![5, 384, 48, 1]⟩
abbrev S5x384x8 : Shape := ⟨3, ![5, 384, 8]⟩
abbrev S5x384x8x1 : Shape := ⟨4, ![5, 384, 8, 1]⟩
abbrev S5x8x64 : Shape := ⟨3, ![5, 8, 64]⟩
abbrev S5x1x8x64 : Shape := ⟨4, ![5, 1, 8, 64]⟩
abbrev S5x384x8x6x64 : Shape := ⟨5, ![5, 384, 8, 6, 64]⟩
abbrev S5x8x384x384x6 : Shape := ⟨5, ![5, 8, 384, 384, 6]⟩
abbrev S5x8x6x384x384 : Shape := ⟨5, ![5, 8, 6, 384, 384]⟩
abbrev S5x384x8x6 : Shape := ⟨4, ![5, 384, 8, 6]⟩
abbrev S5x8x6x384 : Shape := ⟨4, ![5, 8, 6, 384]⟩
abbrev S5x8x384 : Shape := ⟨3, ![5, 8, 384]⟩
abbrev S5x8x6x384x1 : Shape := ⟨5, ![5, 8, 6, 384, 1]⟩
abbrev S5x8x1x1x384 : Shape := ⟨5, ![5, 8, 1, 1, 384]⟩
abbrev S384 : Shape := ⟨1, ![384]⟩
abbrev S1x384 : Shape := ⟨2, ![1, 384]⟩
abbrev S384x1 : Shape := ⟨2, ![384, 1]⟩
abbrev S384x384 : Shape := ⟨2, ![384, 384]⟩
abbrev S5x8x6x384x64 : Shape := ⟨5, ![5, 8, 6, 384, 64]⟩
abbrev S5x8x1x1x64 : Shape := ⟨5, ![5, 8, 1, 1, 64]⟩
abbrev S5x48x384 : Shape := ⟨3, ![5, 48, 384]⟩
abbrev S5x48x64x384 : Shape := ⟨4, ![5, 48, 64, 384]⟩
abbrev S5x8x64x384 : Shape := ⟨4, ![5, 8, 64, 384]⟩

abbrev nBuf : Space → Nat
  | .hbm => 239
  | .vmem => 0
  | .smem => 0
  | _ => 0

abbrev hbmTy0_0 (i : Nat) : BufTy := match i % 128 with
  | 0 => ⟨S5x384x3072, .bf16⟩
  | 1 => ⟨S5x384x512, .bf16⟩
  | 2 => ⟨S5x384x512, .bf16⟩
  | 3 => ⟨S64, .i32⟩
  | 4 => ⟨S64x1, .i32⟩
  | 5 => ⟨S1x64, .i32⟩
  | 6 => ⟨S64x64, .i32⟩
  | 7 => ⟨S64x64, .i32⟩
  | 8 => ⟨S64x64, .i32⟩
  | 9 => ⟨S64x64, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S64x64, .i32⟩
  | 17 => ⟨S64x64, .i32⟩
  | 18 => ⟨S_, .i32⟩
  | 19 => ⟨S64x64, .i32⟩
  | 20 => ⟨S64x64, .i1⟩
  | 21 => ⟨S_, .i32⟩
  | 22 => ⟨S64x64, .i32⟩
  | 23 => ⟨S64x64, .i1⟩
  | 24 => ⟨S_, .i32⟩
  | 25 => ⟨S_, .i1⟩
  | 26 => ⟨S64x64, .i1⟩
  | 27 => ⟨S64x64, .i1⟩
  | 28 => ⟨S64x64, .i1⟩
  | 29 => ⟨S64x64, .i32⟩
  | 30 => ⟨S64x64, .i32⟩
  | 31 => ⟨S64x64, .i32⟩
  | 32 => ⟨S_, .i32⟩
  | 33 => ⟨S64x64, .i32⟩
  | 34 => ⟨S64x64, .i32⟩
  | 35 => ⟨S_, .i32⟩
  | 36 => ⟨S64x64, .i32⟩
  | 37 => ⟨S64x64, .i32⟩
  | 38 => ⟨S64x64, .f32⟩
  | 39 => ⟨S5x384x48x64, .bf16⟩
  | 40 => ⟨S5x384x48x64, .f32⟩
  | 41 => ⟨S5x384x8x64, .bf16⟩
  | 42 => ⟨S5x384x8x64, .f32⟩
  | 43 => ⟨S5x384x8x64, .bf16⟩
  | 44 => ⟨S5x384x8x64, .f32⟩
  | 45 => ⟨S5x384x48x64, .f32⟩
  | 46 => ⟨S5x384x8x64, .f32⟩
  | 47 => ⟨S5x384x48x64, .f32⟩
  | 48 => ⟨S_, .f32⟩
  | 49 => ⟨S5x384x48, .f32⟩
  | 50 => ⟨S5x384x48x1, .f32⟩
  | 51 => ⟨S_, .f32⟩
  | 52 => ⟨S5x384x48x1, .f32⟩
  | 53 => ⟨S5x384x48x1, .f32⟩
  | 54 => ⟨S_, .f32⟩
  | 55 => ⟨S_, .f32⟩
  | 56 => ⟨S_, .f32⟩
  | 57 => ⟨S5x384x48x1, .f32⟩
  | 58 => ⟨S5x384x48x1, .i1⟩
  | 59 => ⟨S5x384x48x1, .f32⟩
  | 60 => ⟨S5x384x48x1, .f32⟩
  | 61 => ⟨S5x384x48x1, .f32⟩
  | 62 => ⟨S5x384x48x1, .f32⟩
  | 63 => ⟨S_, .f32⟩
  | 64 => ⟨S5x384x48x1, .f32⟩
  | 65 => ⟨S5x384x48x1, .f32⟩
  | 66 => ⟨S_, .f32⟩
  | 67 => ⟨S_, .f32⟩
  | 68 => ⟨S5x384x48x1, .f32⟩
  | 69 => ⟨S5x384x48x1, .f32⟩
  | 70 => ⟨S5x384x48x1, .f32⟩
  | 71 => ⟨S5x384x48x1, .f32⟩
  | 72 => ⟨S5x384x48x1, .f32⟩
  | 73 => ⟨S5x384x48x1, .f32⟩
  | 74 => ⟨S5x384x48x1, .f32⟩
  | 75 => ⟨S5x384x48x1, .f32⟩
  | 76 => ⟨S5x384x48x1, .f32⟩
  | 77 => ⟨S5x384x48x64, .f32⟩
  | 78 => ⟨S5x384x48x64, .f32⟩
  | 79 => ⟨S_, .f32⟩
  | 80 => ⟨S_, .f32⟩
  | 81 => ⟨S_, .f32⟩
  | 82 => ⟨S5x384x48x64, .f32⟩
  | 83 => ⟨S5x384x48x64, .f32⟩
  | 84 => ⟨S_, .f32⟩
  | 85 => ⟨S5x384x48x64, .f32⟩
  | 86 => ⟨S5x384x48x64, .f32⟩
  | 87 => ⟨S5x384x8x64, .f32⟩
  | 88 => ⟨S_, .f32⟩
  | 89 => ⟨S5x384x8, .f32⟩
  | 90 => ⟨S5x384x8x1, .f32⟩
  | 91 => ⟨S_, .f32⟩
  | 92 => ⟨S5x384x8x1, .f32⟩
  | 93 => ⟨S5x384x8x1, .f32⟩
  | 94 => ⟨S_, .f32⟩
  | 95 => ⟨S_, .f32⟩
  | 96 => ⟨S_, .f32⟩
  | 97 => ⟨S5x384x8x1, .f32⟩
  | 98 => ⟨S5x384x8x1, .i1⟩
  | 99 => ⟨S5x384x8x1, .f32⟩
  | 100 => ⟨S5x384x8x1, .f32⟩
  | 101 => ⟨S5x384x8x1, .f32⟩
  | 102 => ⟨S5x384x8x1, .f32⟩
  | 103 => ⟨S_, .f32⟩
  | 104 => ⟨S5x384x8x1, .f32⟩
  | 105 => ⟨S5x384x8x1, .f32⟩
  | 106 => ⟨S_, .f32⟩
  | 107 => ⟨S_, .f32⟩
  | 108 => ⟨S5x384x8x1, .f32⟩
  | 109 => ⟨S5x384x8x1, .f32⟩
  | 110 => ⟨S5x384x8x1, .f32⟩
  | 111 => ⟨S5x384x8x1, .f32⟩
  | 112 => ⟨S5x384x8x1, .f32⟩
  | 113 => ⟨S5x384x8x1, .f32⟩
  | 114 => ⟨S5x384x8x1, .f32⟩
  | 115 => ⟨S5x384x8x1, .f32⟩
  | 116 => ⟨S5x384x8x1, .f32⟩
  | 117 => ⟨S5x384x8x64, .f32⟩
  | 118 => ⟨S5x384x8x64, .f32⟩
  | 119 => ⟨S_, .f32⟩
  | 120 => ⟨S_, .f32⟩
  | 121 => ⟨S_, .f32⟩
  | 122 => ⟨S5x384x8x64, .f32⟩
  | 123 => ⟨S5x384x8x64, .f32⟩
  | 124 => ⟨S_, .f32⟩
  | 125 => ⟨S5x384x8x64, .f32⟩
  | 126 => ⟨S5x384x8x64, .f32⟩
  | 127 => ⟨S5x384x8x64, .f32⟩
  | _ => ⟨S5x384x3072, .bf16⟩

abbrev hbmTy0_1 (i : Nat) : BufTy := match i % 128 with
  | 0 => ⟨S_, .f32⟩
  | 1 => ⟨S5x8x64, .f32⟩
  | 2 => ⟨S5x1x8x64, .f32⟩
  | 3 => ⟨S_, .f32⟩
  | 4 => ⟨S5x1x8x64, .f32⟩
  | 5 => ⟨S5x1x8x64, .f32⟩
  | 6 => ⟨S_, .f32⟩
  | 7 => ⟨S_, .f32⟩
  | 8 => ⟨S_, .f32⟩
  | 9 => ⟨S5x1x8x64, .f32⟩
  | 10 => ⟨S5x1x8x64, .i1⟩
  | 11 => ⟨S5x1x8x64, .f32⟩
  | 12 => ⟨S5x1x8x64, .f32⟩
  | 13 => ⟨S5x1x8x64, .f32⟩
  | 14 => ⟨S5x1x8x64, .f32⟩
  | 15 => ⟨S_, .f32⟩
  | 16 => ⟨S5x1x8x64, .f32⟩
  | 17 => ⟨S5x1x8x64, .f32⟩
  | 18 => ⟨S_, .f32⟩
  | 19 => ⟨S_, .f32⟩
  | 20 => ⟨S5x1x8x64, .f32⟩
  | 21 => ⟨S5x1x8x64, .f32⟩
  | 22 => ⟨S5x1x8x64, .f32⟩
  | 23 => ⟨S5x1x8x64, .f32⟩
  | 24 => ⟨S5x1x8x64, .f32⟩
  | 25 => ⟨S5x1x8x64, .f32⟩
  | 26 => ⟨S5x1x8x64, .f32⟩
  | 27 => ⟨S5x1x8x64, .f32⟩
  | 28 => ⟨S5x1x8x64, .f32⟩
  | 29 => ⟨S5x384x8x64, .f32⟩
  | 30 => ⟨S5x384x8x64, .f32⟩
  | 31 => ⟨S_, .f32⟩
  | 32 => ⟨S_, .f32⟩
  | 33 => ⟨S_, .f32⟩
  | 34 => ⟨S5x384x8x64, .f32⟩
  | 35 => ⟨S5x384x8x64, .f32⟩
  | 36 => ⟨S_, .f32⟩
  | 37 => ⟨S5x384x8x64, .f32⟩
  | 38 => ⟨S5x384x8x64, .f32⟩
  | 39 => ⟨S5x384x8x6x64, .f32⟩
  | 40 => ⟨S5x8x384x384x6, .f32⟩
  | 41 => ⟨S5x8x6x384x384, .f32⟩
  | 42 => ⟨S5x384x8x6, .f32⟩
  | 43 => ⟨S5x8x6x384, .f32⟩
  | 44 => ⟨S5x384x8, .f32⟩
  | 45 => ⟨S5x8x384, .f32⟩
  | 46 => ⟨S5x8x64, .f32⟩
  | 47 => ⟨S5x8x6x384x1, .f32⟩
  | 48 => ⟨S5x8x6x384x384, .f32⟩
  | 49 => ⟨S5x8x6x384x384, .f32⟩
  | 50 => ⟨S5x8x1x1x384, .f32⟩
  | 51 => ⟨S5x8x6x384x384, .f32⟩
  | 52 => ⟨S5x8x6x384x384, .f32⟩
  | 53 => ⟨S_, .f32⟩
  | 54 => ⟨S5x8x6x384x384, .f32⟩
  | 55 => ⟨S5x8x6x384x384, .f32⟩
  | 56 => ⟨S384, .i32⟩
  | 57 => ⟨S1x384, .i32⟩
  | 58 => ⟨S384x1, .i32⟩
  | 59 => ⟨S384x384, .i32⟩
  | 60 => ⟨S384x384, .i32⟩
  | 61 => ⟨S384x384, .i1⟩
  | 62 => ⟨S_, .f32⟩
  | 63 => ⟨S_, .f32⟩
  | 64 => ⟨S5x8x6x384x384, .i1⟩
  | 65 => ⟨S5x8x6x384x384, .f32⟩
  | 66 => ⟨S5x8x6x384x384, .f32⟩
  | 67 => ⟨S_, .f32⟩
  | 68 => ⟨S5x8x6x384, .f32⟩
  | 69 => ⟨S5x8x6x384x1, .f32⟩
  | 70 => ⟨S5x8x6x384x384, .f32⟩
  | 71 => ⟨S5x8x6x384x384, .f32⟩
  | 72 => ⟨S5x8x6x384x384, .f32⟩
  | 73 => ⟨S_, .f32⟩
  | 74 => ⟨S_, .f32⟩
  | 75 => ⟨S5x8x6x384x384, .i1⟩
  | 76 => ⟨S5x8x6x384x384, .f32⟩
  | 77 => ⟨S5x8x6x384x384, .f32⟩
  | 78 => ⟨S_, .f32⟩
  | 79 => ⟨S5x8x6x384, .f32⟩
  | 80 => ⟨S5x8x6x384x1, .f32⟩
  | 81 => ⟨S_, .f32⟩
  | 82 => ⟨S5x8x6x384x384, .f32⟩
  | 83 => ⟨S5x8x6x384x384, .f32⟩
  | 84 => ⟨S_, .f32⟩
  | 85 => ⟨S_, .f32⟩
  | 86 => ⟨S_, .f32⟩
  | 87 => ⟨S5x8x6x384x384, .f32⟩
  | 88 => ⟨S5x8x6x384x384, .f32⟩
  | 89 => ⟨S_, .f32⟩
  | 90 => ⟨S5x8x6x384x384, .f32⟩
  | 91 => ⟨S5x8x6x384x384, .f32⟩
  | 92 => ⟨S5x8x6x384x64, .f32⟩
  | 93 => ⟨S_, .f32⟩
  | 94 => ⟨S5x8x6x384x64, .f32⟩
  | 95 => ⟨S5x8x6x384x64, .f32⟩
  | 96 => ⟨S5x8x1x1x64, .f32⟩
  | 97 => ⟨S5x8x6x384x64, .f32⟩
  | 98 => ⟨S5x8x6x384x64, .f32⟩
  | 99 => ⟨S5x8x6x384x64, .f32⟩
  | 100 => ⟨S5x8x6x384x64, .f32⟩
  | 101 => ⟨S5x384x8x6x64, .f32⟩
  | 102 => ⟨S5x384x3072, .f32⟩
  | 103 => ⟨S5x384x3072, .bf16⟩
  | 104 => ⟨S5x48x384, .f32⟩
  | 105 => ⟨S5x48x64x384, .f32⟩
  | 106 => ⟨S5x48x64x384, .fp8e4m3⟩
  | 107 => ⟨S5x8x64x384, .f32⟩
  | 108 => ⟨S5x8x64x384, .fp8e4m3⟩
  | 109 => ⟨S5x8x64x384, .f32⟩
  | 110 => ⟨S5x8x64x384, .fp8e4m3⟩
  | _ => ⟨S5x384x3072, .bf16⟩

abbrev hbmTy (i : Nat) : BufTy := match i / 128 with
  | 0 => hbmTy0_0 i
  | 1 => hbmTy0_1 i
  | _ => ⟨S5x384x3072, .bf16⟩

abbrev bufTy : (tb : Table) → Fin (tcTables nBuf tb) → BufTy
  | .hbm, ⟨i, _⟩ => hbmTy i
  | _, _ => ⟨S5x384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v7 : Ref sig .tc := ⟨.hbm, 31, rfl⟩
abbrev main_c_0 : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_5 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_call1_v0 : Ref sig .tc := ⟨.hbm, 67, rfl⟩
abbrev main_call1_v1 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_7 : Ref sig .tc := ⟨.hbm, 79, rfl⟩
abbrev main_cst_8 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v45 : Ref sig .tc := ⟨.hbm, 86, rfl⟩
abbrev main_v46 : Ref sig .tc := ⟨.hbm, 87, rfl⟩
abbrev main_cst_9 : Ref sig .tc := ⟨.hbm, 88, rfl⟩
abbrev main_v47 : Ref sig .tc := ⟨.hbm, 89, rfl⟩
abbrev main_v48 : Ref sig .tc := ⟨.hbm, 90, rfl⟩
abbrev main_cst_10 : Ref sig .tc := ⟨.hbm, 91, rfl⟩
abbrev main_v49 : Ref sig .tc := ⟨.hbm, 92, rfl⟩
abbrev main_v50 : Ref sig .tc := ⟨.hbm, 93, rfl⟩
abbrev main_cst_11 : Ref sig .tc := ⟨.hbm, 94, rfl⟩
abbrev main_v51 : Ref sig .tc := ⟨.hbm, 95, rfl⟩
abbrev main_cst_12 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_13 : Ref sig .tc := ⟨.hbm, 103, rfl⟩
abbrev main_v58 : Ref sig .tc := ⟨.hbm, 104, rfl⟩
abbrev main_v59 : Ref sig .tc := ⟨.hbm, 105, rfl⟩
abbrev main_cst_14 : Ref sig .tc := ⟨.hbm, 106, rfl⟩
abbrev main_call3_v0 : Ref sig .tc := ⟨.hbm, 107, rfl⟩
abbrev main_call3_v1 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_15 : Ref sig .tc := ⟨.hbm, 119, rfl⟩
abbrev main_cst_16 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_v70 : Ref sig .tc := ⟨.hbm, 126, rfl⟩
abbrev main_v71 : Ref sig .tc := ⟨.hbm, 127, rfl⟩
abbrev main_cst_17 : Ref sig .tc := ⟨.hbm, 128, rfl⟩
abbrev main_v72 : Ref sig .tc := ⟨.hbm, 129, rfl⟩
abbrev main_v73 : Ref sig .tc := ⟨.hbm, 130, rfl⟩
abbrev main_cst_18 : Ref sig .tc := ⟨.hbm, 131, rfl⟩
abbrev main_v74 : Ref sig .tc := ⟨.hbm, 132, rfl⟩
abbrev main_v75 : Ref sig .tc := ⟨.hbm, 133, rfl⟩
abbrev main_cst_19 : Ref sig .tc := ⟨.hbm, 134, rfl⟩
abbrev main_v76 : Ref sig .tc := ⟨.hbm, 135, rfl⟩
abbrev main_cst_20 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_cst_21 : Ref sig .tc := ⟨.hbm, 143, rfl⟩
abbrev main_v83 : Ref sig .tc := ⟨.hbm, 144, rfl⟩
abbrev main_v84 : Ref sig .tc := ⟨.hbm, 145, rfl⟩
abbrev main_cst_22 : Ref sig .tc := ⟨.hbm, 146, rfl⟩
abbrev main_call5_v0 : Ref sig .tc := ⟨.hbm, 147, rfl⟩
abbrev main_call5_v1 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_23 : Ref sig .tc := ⟨.hbm, 159, rfl⟩
abbrev main_cst_24 : Ref sig .tc := ⟨.hbm, 160, rfl⟩
abbrev main_call6_v0 : Ref sig .tc := ⟨.hbm, 161, rfl⟩
abbrev main_call6_v1 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_cst_25 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_26 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_v118 : Ref sig .tc := ⟨.hbm, 194, rfl⟩
abbrev main_cst_27 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_cst_28 : Ref sig .tc := ⟨.hbm, 201, rfl⟩
abbrev main_call8_v0 : Ref sig .tc := ⟨.hbm, 202, rfl⟩
abbrev main_call8_v1 : Ref sig .tc := ⟨.hbm, 203, rfl⟩
abbrev main_call8_v2 : Ref sig .tc := ⟨.hbm, 204, rfl⟩
abbrev main_v124 : Ref sig .tc := ⟨.hbm, 205, rfl⟩
abbrev main_cst_29 : Ref sig .tc := ⟨.hbm, 206, rfl⟩
abbrev main_v125 : Ref sig .tc := ⟨.hbm, 207, rfl⟩
abbrev main_v126 : Ref sig .tc := ⟨.hbm, 208, rfl⟩
abbrev main_cst_30 : Ref sig .tc := ⟨.hbm, 209, rfl⟩
abbrev main_v127 : Ref sig .tc := ⟨.hbm, 210, rfl⟩
abbrev main_v128 : Ref sig .tc := ⟨.hbm, 211, rfl⟩
abbrev main_cst_31 : Ref sig .tc := ⟨.hbm, 212, rfl⟩
abbrev main_cst_32 : Ref sig .tc := ⟨.hbm, 213, rfl⟩
abbrev main_call9_v0 : Ref sig .tc := ⟨.hbm, 214, rfl⟩
abbrev main_call9_v1 : Ref sig .tc := ⟨.hbm, 215, rfl⟩
abbrev main_call9_v2 : Ref sig .tc := ⟨.hbm, 216, rfl⟩
abbrev main_call9_v3 : Ref sig .tc := ⟨.hbm, 217, rfl⟩
abbrev main_call9_v4 : Ref sig .tc := ⟨.hbm, 218, rfl⟩
abbrev main_v129 : Ref sig .tc := ⟨.hbm, 219, rfl⟩
abbrev main_v130 : Ref sig .tc := ⟨.hbm, 220, rfl⟩
abbrev main_cst_33 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩

abbrev nD : Nat := 1
abbrev τ : Topo := Topo.v7x

variable {F : FTy → Type} [FloatOps F]
-- ==== Proof.KFrame.lean ====
/- The kernel's frame: its body run over owned buffers, nothing said of what it leaves in the outputs, and @main's run, after
   which the argument arrays are unchanged and every semaphore counter is zero. -/
module

public import proofs.«01_k».proof.Proof.Gen.Kernel.Frame
public import proofs.«01_k».proof.Proof.Gen.Kernel.Skeleton
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1896000 in
/-- The body's triple: on whole staging memrefs — the inputs' at their contents,
    the FORGOTTEN outputs' (4, 5, 6, 7, 8, 9, 10) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S256x256 .bf16) (harg2 : arg2.IsWhole) (arg3 : Memref sig .tc .vmem S1x384x768 .bf16) (harg3 : arg3.IsWhole) (arg4 : Memref sig .tc .vmem S1x384x128 .bf16) (harg4 : arg4.IsWhole) (arg5 : Memref sig .tc .vmem S1x384x128 .bf16) (harg5 : arg5.IsWhole) (arg6 : Memref sig .tc .vmem S1x384x768 .bf16) (harg6 : arg6.IsWhole) (arg7 : Memref sig .tc .vmem S1x12x64x384 .fp8e4m3) (harg7 : arg7.IsWhole) (arg8 : Memref sig .tc .vmem S1x48x384 .f32) (harg8 : arg8.IsWhole) (arg9 : Memref sig .tc .vmem S1x2x64x384 .fp8e4m3) (harg9 : arg9.IsWhole) (arg10 : Memref sig .tc .vmem S1x8x384 .f32) (harg10 : arg10.IsWhole) (arg11 : Memref sig .tc .vmem S1x2x64x384 .fp8e4m3) (harg11 : arg11.IsWhole) (arg12 : Memref sig .tc .vmem S1x8x64 .f32) (harg12 : arg12.IsWhole)
    (x0 : Vec F S256x256 .bf16) (x1 : Vec F S1x384x768 .bf16) (x2 : Vec F S1x384x128 .bf16) (x3 : Vec F S1x384x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12) K := by
    intro E K
    simp only [cc0_attn_eq_skeleton]; unfold cc0_attn_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

/-- Each window's current staging memref at point `t`, spelled as the pipeline passes it (`bodyAt0`), and its wholeness. -/
abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x384x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x12x64x384 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x48x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x64x384 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x384 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x64x384 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x64 .f32 := win0_10.stage (cfg0.slots t 10)
abbrev hs0_10 (t : Fin cfg0.N) : (ms0_10 t).IsWhole := hstage0_10 ((cfg0.slots t 10).cast nbuf0_10)

/-! ## The pipeline's proof data -/

/-- The output windows this certificate FORGETS (4, 5, 6, 7, 8, 9, 10): nothing reads what the kernel leaves in them, so nothing
    of it is named (Lib/Pipeline/Dat.lean `Dat.toRForget`). -/
def forgets0 : Fin 11 → Bool := fun w => w.val == 4 || w.val == 5 || w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_rel m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.KRun.lean ====
/- The kernel body run once on whole staging buffers, with what it leaves in each output buffer as a list of written pieces. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The lists of pieces one run of the body writes, output window by output window. -/
structure Pieces (F : FTy → Type) where
  L4 : List (View.Piece (Elt F) S1x384x768 .bf16)
  L5 : List (View.Piece (Elt F) S1x12x64x384 .fp8e4m3)
  L6 : List (View.Piece (Elt F) S1x48x384 .f32)
  L7 : List (View.Piece (Elt F) S1x2x64x384 .fp8e4m3)
  L8 : List (View.Piece (Elt F) S1x8x384 .f32)
  L9 : List (View.Piece (Elt F) S1x2x64x384 .fp8e4m3)
  L10 : List (View.Piece (Elt F) S1x8x64 .f32)

set_option maxHeartbeats 4000000 in
/-- One run of the body on whole staging buffers: the inputs come back as they were, each output buffer comes back with the
    pieces the run finds written over what it held before; the scale buffers (windows 6, 8, 10), written one row at a time,
    are given and come back over named contents. -/
def kernelRun (i : grid0.Coords) (c : Dev nD)   (arg2 : Memref sig .tc .vmem S256x256 .bf16) (harg2 : arg2.IsWhole) (arg3 : Memref sig .tc .vmem S1x384x768 .bf16) (harg3 : arg3.IsWhole) (arg4 : Memref sig .tc .vmem S1x384x128 .bf16) (harg4 : arg4.IsWhole) (arg5 : Memref sig .tc .vmem S1x384x128 .bf16) (harg5 : arg5.IsWhole) (arg6 : Memref sig .tc .vmem S1x384x768 .bf16) (harg6 : arg6.IsWhole) (arg7 : Memref sig .tc .vmem S1x12x64x384 .fp8e4m3) (harg7 : arg7.IsWhole) (arg8 : Memref sig .tc .vmem S1x48x384 .f32) (harg8 : arg8.IsWhole) (arg9 : Memref sig .tc .vmem S1x2x64x384 .fp8e4m3) (harg9 : arg9.IsWhole) (arg10 : Memref sig .tc .vmem S1x8x384 .f32) (harg10 : arg10.IsWhole) (arg11 : Memref sig .tc .vmem S1x2x64x384 .fp8e4m3) (harg11 : arg11.IsWhole) (arg12 : Memref sig .tc .vmem S1x8x64 .f32) (harg12 : arg12.IsWhole)
    (x0 : Vec F S256x256 .bf16) (x1 : Vec F S1x384x768 .bf16) (x2 : Vec F S1x384x128 .bf16) (x3 : Vec F S1x384x128 .bf16) :
    { P : Pieces F //
      ∀ (x6 : Vec F S1x48x384 .f32) (x8 : Vec F S1x8x384 .f32) (x10 : Vec F S1x8x64 .f32)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare x6 ∗ (∃ d, owns (c : Thread nD τ) arg9 fullShare d) ∗ owns (c : Thread nD τ) arg10 fullShare x8 ∗ (∃ d, owns (c : Thread nD τ) arg11 fullShare d) ∗ owns (c : Thread nD τ) arg12 fullShare x10
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f P.L4) ∗ (∃ f, arg7.view.loc (c : Thread nD τ) ↦[arg7.view.set]{fullShare} arg7.view.writes (Elt F) f P.L5) ∗ (∃ f, ⌜arg8.view.read (Elt F) f = x6⌝ ∗ arg8.view.loc (c : Thread nD τ) ↦[arg8.view.set]{fullShare} arg8.view.writes (Elt F) f P.L6) ∗ (∃ f, arg9.view.loc (c : Thread nD τ) ↦[arg9.view.set]{fullShare} arg9.view.writes (Elt F) f P.L7) ∗ (∃ f, ⌜arg10.view.read (Elt F) f = x8⌝ ∗ arg10.view.loc (c : Thread nD τ) ↦[arg10.view.set]{fullShare} arg10.view.writes (Elt F) f P.L8) ∗ (∃ f, arg11.view.loc (c : Thread nD τ) ↦[arg11.view.set]{fullShare} arg11.view.writes (Elt F) f P.L9) ∗ (∃ f, ⌜arg12.view.read (Elt F) f = x10⌝ ∗ arg12.view.loc (c : Thread nD τ) ↦[arg12.view.set]{fullShare} arg12.view.writes (Elt F) f P.L10)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12) K } := by
  refine ⟨⟨?_, ?_, ?_, ?_, ?_, ?_, ?_⟩, ?run⟩
  case run =>
    intro x6 x8 x10 E K
    simp only [cc0_attn_eq_skeleton]; unfold cc0_attn_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%d7, %f7, -, H7⟩, ⟨%f8, %hf8, H8⟩, ⟨%d9, %f9, -, H9⟩, ⟨%f10, %hf10, H10⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact hf6
      iexact H6
    isplitl [H7]; · iexists _; iexact H7
    isplitl [H8]
    · iexists _; isplitr; · ipureintro; exact hf8
      iexact H8
    isplitl [H9]; · iexists _; iexact H9
    iexists _; isplitr; · ipureintro; exact hf10
    iexact H10

end Cert.KernelIdeal.Hand

end
-- ==== Proof.Heads.lean ====
/- The kernel's body cut into its pieces: the exponent search, the rotated slabs, the quantised codes and their scales, and
   the three query blocks of a head, each as one function that every head of the body uses. -/
module

public import proofs.«01_k».proof.Proof.KRun

@[expose] public section

set_option maxRecDepth 16384

namespace Cert.KernelIdeal.Hand

open Cert.KernelIdeal Facts₀ Facts
open Cert.KernelIdeal.Gen (facts)
open Idealize.ShloMosaic Idealize.ShloMosaic.TcCoe

variable {F : FTy → Type} [FloatOps F] [Named F]

/-- One step of the exponent search: raise the pattern `b` by `k` where the value is at least the raised pattern's. -/
noncomputable def step {s : Shape} (y : FVec F s .f32) (k : BitVec 32) (b : IVec s 32) : IVec s 32 :=
  select (cmpf .olt y (bitcastToFloat .f32 (addi b (broadcast s k)))) b (addi b (broadcast s k))

/-- The search over the eight exponent bits, from the highest down. -/
noncomputable def fieldOf {s : Shape} (y : FVec F s .f32) : IVec s 32 :=
  step y 8388608#32 (step y 16777216#32 (step y 33554432#32 (step y 67108864#32 (step y 134217728#32
    (step y 268435456#32 (step y 536870912#32 (step y 1073741824#32 (broadcast s 0#32))))))))

/-- The bit pattern of the scale: one exponent above the pattern found, one (`0x3F800000`) where the search found zero. -/
noncomputable def sbitsOf {s : Shape} (y : FVec F s .f32) : IVec s 32 :=
  select (cmpi .slt (fieldOf y) (broadcast s 8388608#32)) (broadcast s 1065353216#32)
    (addi (andi (fieldOf y) (broadcast s 2139095040#32)) (broadcast s 8388608#32))

/-- The scale. -/
noncomputable def sclOf {s : Shape} (y : FVec F s .f32) : FVec F s .f32 := bitcastToFloat .f32 (sbitsOf y)

/-- The inverse of the scale, made from its pattern. -/
noncomputable def invOf {s : Shape} (y : FVec F s .f32) : FVec F s .f32 :=
  bitcastToFloat .f32 (subi (broadcast s 2130706432#32) (sbitsOf y))

/-- The rotation of the keys' slab: two heads of 64 rows. -/
noncomputable def krt (w : Vec F S256x256 .bf16) (kl : Vec F S1x384x128 .bf16) : FVec F S128x384 .f32 :=
  matmul dot_S128x128_S384x128_S128x384_1_1_0_0_n_n none
    (extractStridedSlice S128x128 ![0, 0] (shapeCast S256x256 w shapeCasts_S256x256_S256x256) slices_S256x256_o0_0_S128x128)
    (shapeCast S384x128 kl shapeCasts_S1x384x128_S384x128) (constant S128x384 .f32 0x00000000#32)

/-- The rotation of one slab of four query heads. -/
noncomputable def qrt (w : Vec F S256x256 .bf16) (xl : Vec F S1x384x256 .bf16) : FVec F S256x384 .f32 :=
  matmul dot_S256x256_S384x256_S256x384_1_1_0_0_n_n none (shapeCast S256x256 w shapeCasts_S256x256_S256x256)
    (shapeCast S384x256 xl shapeCasts_S1x384x256_S384x256) (constant S256x384 .f32 0x00000000#32)

/-- A head's greatest absolute value at each position, over 448. -/
noncomputable def amax64 (q : FVec F S64x384 .f32) : FVec F S1x384 .f32 :=
  mulf (shapeCast S1x384 (multiReduction .maximumf [0] S384 (absf q) 0xFF800000#32 reduces_S64x384_S384 (.inl rfl) rfl)
    shapeCasts_S384_S1x384) (broadcast S1x384 (Scalar.ofBits .f32 0x3B124925#32))

/-- A head's scales. -/
noncomputable def scl64 (q : FVec F S64x384 .f32) : FVec F S1x384 .f32 := sclOf (amax64 q)

/-- A head's codes, before they are rounded to fp8. -/
noncomputable def cod64 (q : FVec F S64x384 .f32) : FVec F S64x384 .f32 :=
  minimumf (broadcast S64x384 (Scalar.ofBits .f32 0x43E00000#32)) (maximumf (broadcast S64x384 (Scalar.ofBits .f32 0xC3E00000#32))
    (mulf q (broadcastTo S64x384 (invOf (amax64 q)) broadcasts_S1x384_S64x384)))

/-- The values, widened. -/
noncomputable def vf (vl : Vec F S1x384x128 .bf16) : FVec F S384x128 .f32 :=
  extf .f32 (shapeCast S384x128 vl shapeCasts_S1x384x128_S384x128) bitsLt_bf16_f32

/-- The values' greatest absolute value of each column, over 448. -/
noncomputable def vamax (vl : Vec F S1x384x128 .bf16) : FVec F S1x128 .f32 :=
  mulf (shapeCast S1x128 (multiReduction .maximumf [0] S128 (absf (vf vl)) 0xFF800000#32 reduces_S384x128_S128 (.inl rfl) rfl)
    shapeCasts_S128_S1x128) (broadcast S1x128 (Scalar.ofBits .f32 0x3B124925#32))

/-- The values' scales. -/
noncomputable def vscl (vl : Vec F S1x384x128 .bf16) : FVec F S1x128 .f32 := sclOf (vamax vl)

/-- The values' codes, two heads of 64 rows. -/
noncomputable def vct (vl : Vec F S1x384x128 .bf16) : FVec F S128x384 .fp8e4m3 :=
  truncf .fp8e4m3 (transpose S128x384 [1, 0] (minimumf (broadcast S384x128 (Scalar.ofBits .f32 0x43E00000#32))
    (maximumf (broadcast S384x128 (Scalar.ofBits .f32 0xC3E00000#32))
      (mulf (vf vl) (broadcastTo S384x128 (invOf (vamax vl)) broadcasts_S1x128_S384x128)))) transposes_S384x128_p1_0_S128x384)
    bitsLt_fp8e4m3_f32

/-- The values' scales along the rows. -/
noncomputable def vst (vl : Vec F S1x384x128 .bf16) : FVec F S128x128 .f32 :=
  transpose S128x128 [1, 0] (broadcastTo S128x128 (shapeCast S1x128 (vscl vl) shapeCasts_S1x128_S1x128) broadcasts_S1x128_S128x128)
    transposes_S128x128_p1_0_S128x128

/-- The triangle of a diagonal block. -/
noncomputable def causal : IVec S128x128 1 := cmpi .sle (iota .tc S128x128 32 [0] iota_S128x128_d0_w32) (iota .tc S128x128 32 [1] iota_S128x128_d1_w32)

theorem slicesQ (k : Fin 4) : S256x384.Slices ![k.val * 64, 0] S64x384 := by
  fin_cases k
  exacts [slices_S256x384_o0_0_S64x384, slices_S256x384_o64_0_S64x384, slices_S256x384_o128_0_S64x384, slices_S256x384_o192_0_S64x384]

theorem slicesK (k : Fin 2) : S128x384.Slices ![k.val * 64, 0] S64x384 := by
  fin_cases k
  exacts [slices_S128x384_o0_0_S64x384, slices_S128x384_o64_0_S64x384]

theorem slicesVB (k : Fin 2) : S128x128.Slices ![k.val * 64, 0] S64x128 := by
  fin_cases k
  exacts [slices_S128x128_o0_0_S64x128, slices_S128x128_o64_0_S64x128]

theorem slicesVS (k : Fin 2) : S1x128.Slices ![0, k.val * 64] S1x64 := by
  fin_cases k
  exacts [slices_S1x128_o0_0_S1x64, slices_S1x128_o0_64_S1x64]

/-- Query head `k` of a slab. -/
noncomputable def qHead (r : FVec F S256x384 .f32) (k : Fin 4) : FVec F S64x384 .f32 := extractStridedSlice S64x384 ![k.val * 64, 0] r (slicesQ k)

/-- Key head `k`. -/
noncomputable def kHead (r : FVec F S128x384 .f32) (k : Fin 2) : FVec F S64x384 .f32 := extractStridedSlice S64x384 ![k.val * 64, 0] r (slicesK k)

/-- The codes of value head `k`. -/
noncomputable def vHead (vl : Vec F S1x384x128 .bf16) (k : Fin 2) : FVec F S64x384 .fp8e4m3 :=
  extractStridedSlice S64x384 ![k.val * 64, 0] (vct vl) (slicesK k)

/-- The scales of value head `k` along the rows. -/
noncomputable def vsHead (vl : Vec F S1x384x128 .bf16) (k : Fin 2) : FVec F S64x128 .f32 :=
  extractStridedSlice S64x128 ![k.val * 64, 0] (vst vl) (slicesVB k)

/-- The scale row of value head `k`. -/
noncomputable def vsRow (vl : Vec F S1x384x128 .bf16) (k : Fin 2) : FVec F S1x64 .f32 :=
  extractStridedSlice S1x64 ![0, k.val * 64] (vscl vl) (slicesVS k)

/-- A head's codes as fp8. -/
noncomputable def cod8 (q : FVec F S64x384 .f32) : FVec F S64x384 .fp8e4m3 := truncf .fp8e4m3 (cod64 q) bitsLt_fp8e4m3_f32

/-- A key head's codes, one row per key. -/
noncomputable def knat (kr : FVec F S64x384 .f32) : FVec F S384x64 .fp8e4m3 :=
  truncf .fp8e4m3 (transpose S384x64 [1, 0] (cod64 kr) transposes_S64x384_p1_0_S384x64) bitsLt_fp8e4m3_f32

/-- A key head's scales along the rows. -/
noncomputable def ksb (kr : FVec F S64x384 .f32) : FVec F S384x128 .f32 :=
  transpose S384x128 [1, 0] (broadcastTo S128x384 (shapeCast S1x384 (scl64 kr) shapeCasts_S1x384_S1x384) broadcasts_S1x384_S128x384)
    transposes_S128x384_p1_0_S384x128

/-- A query head's scales times the score scale over the logarithm of two. -/
noncomputable def rrow (q : FVec F S64x384 .f32) : FVec F S1x384 .f32 :=
  mulf (scl64 q) (broadcast S1x384 (Named.named κ "score_scale_log2e" 0x3B38AA3B#32))

/-- The maximum less eight over the scale, kept where the difference times the scale stays below 8.5. -/
noncomputable def shiftMax (m rb : FVec F S1x128 .f32) : FVec F S1x128 .f32 :=
  select (cmpf .olt (mulf (subf m (subf m (divf (broadcast S1x128 (Scalar.ofBits .f32 0x41000000#32)) rb))) rb)
    (broadcast S1x128 (Scalar.ofBits .f32 0x41080000#32)))
    (subf m (divf (broadcast S1x128 (Scalar.ofBits .f32 0x41000000#32)) rb)) m

/-- The weighted sum scaled, divided by the sum of the weights, rounded and transposed. -/
noncomputable def finish (o : FVec F S64x128 .f32) (vsb : FVec F S64x128 .f32) (l : FVec F S1x128 .f32) : FVec F S1x128x64 .bf16 :=
  shapeCast S1x128x64 (transpose S128x64 [1, 0] (truncf .bf16 (divf (mulf o vsb) (broadcastTo S64x128 l broadcasts_S1x128_S64x128))
    bitsLt_bf16_f32) transposes_S64x128_p1_0_S128x64) shapeCasts_S128x64_S1x128x64

/-- The scores of query block 0 against the first 128 keys, scaled by the keys' scales. -/
noncomputable def sc0 (kn : FVec F S384x64 .fp8e4m3) (kb : FVec F S384x128 .f32) (qc : FVec F S64x384 .fp8e4m3) : FVec F S128x128 .f32 :=
  mulf (matmul dot_S128x64_S64x128_S128x128_1_0_0_1_n_n none (extractStridedSlice S128x64 ![0, 0] kn slices_S384x64_o0_0_S128x64)
      (extractStridedSlice S64x128 ![0, 0] qc slices_S64x384_o0_0_S64x128) (constant S128x128 .f32 0x00000000#32))
    (extractStridedSlice S128x128 ![0, 0] kb slices_S384x128_o0_0_S128x128)

/-- The scores of query block 0, the keys after the query set to minus infinity. -/
noncomputable def msk0 (kn : FVec F S384x64 .fp8e4m3) (kb : FVec F S384x128 .f32) (qc : FVec F S64x384 .fp8e4m3) : FVec F S128x128 .f32 :=
  select causal (sc0 kn kb qc) (broadcast S128x128 (Scalar.ofBits .f32 0xFF800000#32))

/-- The greatest score of each query of block 0. -/
noncomputable def mx0 (t : FVec F S128x128 .f32) : FVec F S1x128 .f32 :=
  shapeCast S1x128 (multiReduction .maximumf [0] S128 t 0xFF800000#32 reduces_S128x128_S128 (.inl rfl) rfl) shapeCasts_S128_S1x128

/-- The weights of block 0: powers of two of the scores, counted from the shifted maximum. -/
noncomputable def wt0 (t : FVec F S128x128 .f32) (rb : FVec F S1x128 .f32) : FVec F S128x128 .f32 :=
  exp2 (mulf (subf t (broadcastTo S128x128 (shiftMax (mx0 t) rb) broadcasts_S1x128_S128x128)) (broadcastTo S128x128 rb broadcasts_S1x128_S128x128))

/-- The sum of the weights of each query of block 0. -/
noncomputable def sm0 (e : FVec F S128x128 .f32) : FVec F S1x128 .f32 :=
  shapeCast S1x128 (multiReduction .add [0] S128 e 0x00000000#32 reduces_S128x128_S128 (.inl rfl) rfl) shapeCasts_S128_S1x128

/-- The product of the values' codes with the weights of block 0. -/
noncomputable def pv0 (vt : FVec F S64x384 .fp8e4m3) (e : FVec F S128x128 .f32) : FVec F S64x128 .f32 :=
  matmul dot_S64x128_S128x128_S64x128_1_0_0_1_n_n none (extractStridedSlice S64x128 ![0, 0] vt slices_S64x384_o0_0_S64x128)
    (truncf .fp8e4m3 (minimumf e (broadcast S128x128 (Scalar.ofBits .f32 0x43E00000#32))) bitsLt_fp8e4m3_f32) (constant S64x128 .f32 0x00000000#32)

/-- What a head stores for query block 0. -/
noncomputable def out0 (kn : FVec F S384x64 .fp8e4m3) (kb : FVec F S384x128 .f32) (qc : FVec F S64x384 .fp8e4m3) (r : FVec F S1x384 .f32)
    (vt : FVec F S64x384 .fp8e4m3) (vsb : FVec F S64x128 .f32) : FVec F S1x128x64 .bf16 :=
  finish (pv0 vt (wt0 (msk0 kn kb qc) (extractStridedSlice S1x128 ![0, 0] r slices_S1x384_o0_0_S1x128))) vsb
    (sm0 (wt0 (msk0 kn kb qc) (extractStridedSlice S1x128 ![0, 0] r slices_S1x384_o0_0_S1x128)))

/-- The scores of query block 1 against the first 256 keys, scaled by the keys' scales. -/
noncomputable def sc1 (kn : FVec F S384x64 .fp8e4m3) (kb : FVec F S384x128 .f32) (qc : FVec F S64x384 .fp8e4m3) : FVec F S256x128 .f32 :=
  mulf (matmul dot_S256x64_S64x128_S256x128_1_0_0_1_n_n none (extractStridedSlice S256x64 ![0, 0] kn slices_S384x64_o0_0_S256x64)
      (extractStridedSlice S64x128 ![0, 128] qc slices_S64x384_o0_128_S64x128) (constant S256x128 .f32 0x00000000#32))
    (extractStridedSlice S256x128 ![0, 0] kb slices_S384x128_o0_0_S256x128)

/-- The scores of query block 1, the keys after the query set to minus infinity. -/
noncomputable def msk1 (kn : FVec F S384x64 .fp8e4m3) (kb : FVec F S384x128 .f32) (qc : FVec F S64x384 .fp8e4m3) : FVec F S256x128 .f32 :=
  concatenate S256x128 0 [⟨S128x128, extractStridedSlice S128x128 ![0, 0] (sc1 kn kb qc) slices_S256x128_o0_0_S128x128⟩,
    ⟨S128x128, select causal (extractStridedSlice S128x128 ![128, 0] (sc1 kn kb qc) slices_S256x128_o128_0_S128x128)
      (broadcast S128x128 (Scalar.ofBits .f32 0xFF800000#32))⟩] concatenates_S128x128_S128x128_S256x128_d0

/-- The greatest score of each query of block 1. -/
noncomputable def mx1 (t : FVec F S256x128 .f32) : FVec F S1x128 .f32 :=
  shapeCast S1x128 (multiReduction .maximumf [0] S128 t 0xFF800000#32 reduces_S256x128_S128 (.inl rfl) rfl) shapeCasts_S128_S1x128

/-- The weights of block 1: powers of two of the scores, counted from the shifted maximum. -/
noncomputable def wt1 (t : FVec F S256x128 .f32) (rb : FVec F S1x128 .f32) : FVec F S256x128 .f32 :=
  exp2 (mulf (subf t (broadcastTo S256x128 (shiftMax (mx1 t) rb) broadcasts_S1x128_S256x128)) (broadcastTo S256x128 rb broadcasts_S1x128_S256x128))

/-- The sum of the weights of each query of block 1. -/
noncomputable def sm1 (e : FVec F S256x128 .f32) : FVec F S1x128 .f32 :=
  shapeCast S1x128 (multiReduction .add [0] S128 e 0x00000000#32 reduces_S256x128_S128 (.inl rfl) rfl) shapeCasts_S128_S1x128

/-- The product of the values' codes with the weights of block 1. -/
noncomputable def pv1 (vt : FVec F S64x384 .fp8e4m3) (e : FVec F S256x128 .f32) : FVec F S64x128 .f32 :=
  matmul dot_S64x256_S256x128_S64x128_1_0_0_1_n_n none (extractStridedSlice S64x256 ![0, 0] vt slices_S64x384_o0_0_S64x256)
    (truncf .fp8e4m3 (minimumf e (broadcast S256x128 (Scalar.ofBits .f32 0x43E00000#32))) bitsLt_fp8e4m3_f32) (constant S64x128 .f32 0x00000000#32)

/-- What a head stores for query block 1. -/
noncomputable def out1 (kn : FVec F S384x64 .fp8e4m3) (kb : FVec F S384x128 .f32) (qc : FVec F S64x384 .fp8e4m3) (r : FVec F S1x384 .f32)
    (vt : FVec F S64x384 .fp8e4m3) (vsb : FVec F S64x128 .f32) : FVec F S1x128x64 .bf16 :=
  finish (pv1 vt (wt1 (msk1 kn kb qc) (extractStridedSlice S1x128 ![0, 128] r slices_S1x384_o0_128_S1x128))) vsb
    (sm1 (wt1 (msk1 kn kb qc) (extractStridedSlice S1x128 ![0, 128] r slices_S1x384_o0_128_S1x128)))

/-- The scores of query block 2 against the first 384 keys, scaled by the keys' scales. -/
noncomputable def sc2 (kn : FVec F S384x64 .fp8e4m3) (kb : FVec F S384x128 .f32) (qc : FVec F S64x384 .fp8e4m3) : FVec F S384x128 .f32 :=
  mulf (matmul dot_S384x64_S64x128_S384x128_1_0_0_1_n_n none kn
      (extractStridedSlice S64x128 ![0, 256] qc slices_S64x384_o0_256_S64x128) (constant S384x128 .f32 0x00000000#32))
    kb

/-- The scores of query block 2, the keys after the query set to minus infinity. -/
noncomputable def msk2 (kn : FVec F S384x64 .fp8e4m3) (kb : FVec F S384x128 .f32) (qc : FVec F S64x384 .fp8e4m3) : FVec F S384x128 .f32 :=
  concatenate S384x128 0 [⟨S256x128, extractStridedSlice S256x128 ![0, 0] (sc2 kn kb qc) slices_S384x128_o0_0_S256x128⟩,
    ⟨S128x128, select causal (extractStridedSlice S128x128 ![256, 0] (sc2 kn kb qc) slices_S384x128_o256_0_S128x128)
      (broadcast S128x128 (Scalar.ofBits .f32 0xFF800000#32))⟩] concatenates_S256x128_S128x128_S384x128_d0

/-- The greatest score of each query of block 2. -/
noncomputable def mx2 (t : FVec F S384x128 .f32) : FVec F S1x128 .f32 :=
  shapeCast S1x128 (multiReduction .maximumf [0] S128 t 0xFF800000#32 reduces_S384x128_S128 (.inl rfl) rfl) shapeCasts_S128_S1x128

/-- The weights of block 2: powers of two of the scores, counted from the shifted maximum. -/
noncomputable def wt2 (t : FVec F S384x128 .f32) (rb : FVec F S1x128 .f32) : FVec F S384x128 .f32 :=
  exp2 (mulf (subf t (broadcastTo S384x128 (shiftMax (mx2 t) rb) broadcasts_S1x128_S384x128)) (broadcastTo S384x128 rb broadcasts_S1x128_S384x128))

/-- The sum of the weights of each query of block 2. -/
noncomputable def sm2 (e : FVec F S384x128 .f32) : FVec F S1x128 .f32 :=
  shapeCast S1x128 (multiReduction .add [0] S128 e 0x00000000#32 reduces_S384x128_S128 (.inl rfl) rfl) shapeCasts_S128_S1x128

/-- The product of the values' codes with the weights of block 2. -/
noncomputable def pv2 (vt : FVec F S64x384 .fp8e4m3) (e : FVec F S384x128 .f32) : FVec F S64x128 .f32 :=
  matmul dot_S64x384_S384x128_S64x128_1_0_0_1_n_n none vt
    (truncf .fp8e4m3 (minimumf e (broadcast S384x128 (Scalar.ofBits .f32 0x43E00000#32))) bitsLt_fp8e4m3_f32) (constant S64x128 .f32 0x00000000#32)

/-- What a head stores for query block 2. -/
noncomputable def out2 (kn : FVec F S384x64 .fp8e4m3) (kb : FVec F S384x128 .f32) (qc : FVec F S64x384 .fp8e4m3) (r : FVec F S1x384 .f32)
    (vt : FVec F S64x384 .fp8e4m3) (vsb : FVec F S64x128 .f32) : FVec F S1x128x64 .bf16 :=
  finish (pv2 vt (wt2 (msk2 kn kb qc) (extractStridedSlice S1x128 ![0, 256] r slices_S1x384_o0_256_S1x128))) vsb
    (sm2 (wt2 (msk2 kn kb qc) (extractStridedSlice S1x128 ![0, 256] r slices_S1x384_o0_256_S1x128)))

end Cert.KernelIdeal.Hand
-- ==== Proof.Kept.lean ====
/- The pieces one run of the body writes, as the body's heads: every output window's list in one form for all heads. -/
module

public import proofs.«01_k».proof.Proof.Heads
public import Idealize.ShloMosaic.Lib.WholeRead

@[expose] public section

set_option maxRecDepth 16384

namespace Cert.KernelIdeal.Hand

open Cert.KernelIdeal Facts₀ Facts
open Cert.KernelIdeal.Gen (facts)
open Idealize.ShloMosaic Idealize.ShloMosaic.TcCoe

variable {F : FTy → Type} [FloatOps F] [Named F]

theorem inb4 (p : Fin 36) (a : Fin 3) : (![0, p.val % 3 * 128, p.val / 3 * 64] : Fin 3 → ℕ) a + S1x128x64.size a ≤ S1x384x768.size a := by
  revert p a; decide

theorem inb5 (p : Fin 12) (a : Fin 4) : (![0, p.val, 0, 0] : Fin 4 → ℕ) a + S1x1x64x384.size a ≤ S1x12x64x384.size a := by
  revert p a; decide

theorem inb7 (p : Fin 2) (a : Fin 4) : (![0, p.val, 0, 0] : Fin 4 → ℕ) a + S1x1x64x384.size a ≤ S1x2x64x384.size a := by
  revert p a; decide

theorem inbX (g : Fin 3) (a : Fin 3) : (![0, 0, g.val * 256] : Fin 3 → ℕ) a + S1x384x256.size a ≤ S1x384x768.size a := by
  revert g a; decide

/-- Query head `p` of the body's twelve, from the three slabs. -/
noncomputable def qrOf (w : Vec F S256x256 .bf16) (xl : Fin 3 → Vec F S1x384x256 .bf16) (p : Fin 12) : FVec F S64x384 .f32 :=
  qHead (qrt w (xl ⟨p.val / 4, by omega⟩)) ⟨p.val % 4, by omega⟩

/-- Key head `k`. -/
noncomputable def krOf (w : Vec F S256x256 .bf16) (kl : Vec F S1x384x128 .bf16) (k : Fin 2) : FVec F S64x384 .f32 := kHead (krt w kl) k

/-- What query head `p` stores for query block `b`. -/
noncomputable def outOf (w : Vec F S256x256 .bf16) (xl : Fin 3 → Vec F S1x384x256 .bf16) (kl vl : Vec F S1x384x128 .bf16) (p : Fin 12) :
    ℕ → FVec F S1x128x64 .bf16
  | 0 => out0 (knat (krOf w kl ⟨p.val / 6, by omega⟩)) (ksb (krOf w kl ⟨p.val / 6, by omega⟩)) (cod8 (qrOf w xl p)) (rrow (qrOf w xl p))
      (vHead vl ⟨p.val / 6, by omega⟩) (vsHead vl ⟨p.val / 6, by omega⟩)
  | 1 => out1 (knat (krOf w kl ⟨p.val / 6, by omega⟩)) (ksb (krOf w kl ⟨p.val / 6, by omega⟩)) (cod8 (qrOf w xl p)) (rrow (qrOf w xl p))
      (vHead vl ⟨p.val / 6, by omega⟩) (vsHead vl ⟨p.val / 6, by omega⟩)
  | _ => out2 (knat (krOf w kl ⟨p.val / 6, by omega⟩)) (ksb (krOf w kl ⟨p.val / 6, by omega⟩)) (cod8 (qrOf w xl p)) (rrow (qrOf w xl p))
      (vHead vl ⟨p.val / 6, by omega⟩) (vsHead vl ⟨p.val / 6, by omega⟩)

/-- The pieces of the attention output: head `p / 3`, query block `p % 3`. -/
noncomputable def pc4 (w : Vec F S256x256 .bf16) (xl : Fin 3 → Vec F S1x384x256 .bf16) (kl vl : Vec F S1x384x128 .bf16) (p : Fin 36) :
    View.Piece (Elt F) S1x384x768 .bf16 :=
  ⟨Rect.unit ![0, p.val % 3 * 128, p.val / 3 * 64] S1x128x64.size (inb4 p), outOf w xl kl vl ⟨p.val / 3, by omega⟩ (p.val % 3)⟩

/-- The pieces of the query codes. -/
noncomputable def pc5 (w : Vec F S256x256 .bf16) (xl : Fin 3 → Vec F S1x384x256 .bf16) (p : Fin 12) : View.Piece (Elt F) S1x12x64x384 .fp8e4m3 :=
  ⟨Rect.unit ![0, p.val, 0, 0] S1x1x64x384.size (inb5 p), shapeCast S1x1x64x384 (cod8 (qrOf w xl p)) shapeCasts_S64x384_S1x1x64x384⟩

/-- The pieces of the query scales. -/
noncomputable def pc6 (i : grid0.Coords) (w : Vec F S256x256 .bf16) (xl : Fin 3 → Vec F S1x384x256 .bf16) (p : Fin 12) :
    View.Piece (Elt F) S1x48x384 .f32 :=
  ⟨Rect.unit (k0_off3 i (BitVec.ofNat 32 p.val)) S1x1x384.size (k0_off3_inb i p), shapeCast S1x1x384 (scl64 (qrOf w xl p)) shapeCasts_S1x384_S1x1x384⟩

/-- The pieces of the key codes. -/
noncomputable def pc7 (w : Vec F S256x256 .bf16) (kl : Vec F S1x384x128 .bf16) (p : Fin 2) : View.Piece (Elt F) S1x2x64x384 .fp8e4m3 :=
  ⟨Rect.unit ![0, p.val, 0, 0] S1x1x64x384.size (inb7 p), shapeCast S1x1x64x384 (cod8 (krOf w kl p)) shapeCasts_S64x384_S1x1x64x384⟩

/-- The pieces of the key scales. -/
noncomputable def pc8 (i : grid0.Coords) (w : Vec F S256x256 .bf16) (kl : Vec F S1x384x128 .bf16) (p : Fin 2) : View.Piece (Elt F) S1x8x384 .f32 :=
  ⟨Rect.unit (k0_off1 i (BitVec.ofNat 32 p.val)) S1x1x384.size (k0_off1_inb i p), shapeCast S1x1x384 (scl64 (krOf w kl p)) shapeCasts_S1x384_S1x1x384⟩

/-- The pieces of the value codes. -/
noncomputable def pc9 (vl : Vec F S1x384x128 .bf16) (p : Fin 2) : View.Piece (Elt F) S1x2x64x384 .fp8e4m3 :=
  ⟨Rect.unit ![0, p.val, 0, 0] S1x1x64x384.size (inb7 p), shapeCast S1x1x64x384 (vHead vl p) shapeCasts_S64x384_S1x1x64x384⟩

/-- The pieces of the value scales. -/
noncomputable def pc10 (i : grid0.Coords) (vl : Vec F S1x384x128 .bf16) (p : Fin 2) : View.Piece (Elt F) S1x8x64 .f32 :=
  ⟨Rect.unit (k0_off2 i (BitVec.ofNat 32 p.val)) S1x1x64.size (k0_off2_inb i p), shapeCast S1x1x64 (vsRow vl p) shapeCasts_S1x64_S1x1x64⟩

/-- The rotation matrix as loaded. -/
def ldW (x0 : Vec F S256x256 .bf16) : Vec F S256x256 .bf16 := View.ld x0 (Rect.unit (s := S256x256) ![0, 0] S256x256.size inb_S256x256_S256x256_0_0)

/-- The slab of four query heads as loaded. -/
def ldX (x1 : Vec F S1x384x768 .bf16) (g : Fin 3) : Vec F S1x384x256 .bf16 :=
  View.ld x1 (Rect.unit (s := S1x384x768) ![0, 0, g.val * 256] S1x384x256.size (inbX g))

/-- The keys' or the values' slab as loaded. -/
def ldK (x2 : Vec F S1x384x128 .bf16) : Vec F S1x384x128 .bf16 :=
  View.ld x2 (Rect.unit (s := S1x384x128) ![0, 0, 0] S1x384x128.size inb_S1x384x128_S1x384x128_0_0_0)

/-- Two, twelve and thirty-six pieces, the last first. -/
def desc2 {α : Type} (f : Fin 2 → α) : List α := [f ⟨1, by decide⟩, f ⟨0, by decide⟩]
def desc12 {α : Type} (f : Fin 12 → α) : List α := [f ⟨11, by decide⟩, f ⟨10, by decide⟩, f ⟨9, by decide⟩, f ⟨8, by decide⟩, f ⟨7, by decide⟩, f ⟨6, by decide⟩, f ⟨5, by decide⟩, f ⟨4, by decide⟩, f ⟨3, by decide⟩, f ⟨2, by decide⟩, f ⟨1, by decide⟩, f ⟨0, by decide⟩]
def desc36 {α : Type} (f : Fin 36 → α) : List α := [f ⟨35, by decide⟩, f ⟨34, by decide⟩, f ⟨33, by decide⟩, f ⟨32, by decide⟩, f ⟨31, by decide⟩, f ⟨30, by decide⟩, f ⟨29, by decide⟩, f ⟨28, by decide⟩, f ⟨27, by decide⟩, f ⟨26, by decide⟩, f ⟨25, by decide⟩, f ⟨24, by decide⟩, f ⟨23, by decide⟩, f ⟨22, by decide⟩, f ⟨21, by decide⟩, f ⟨20, by decide⟩, f ⟨19, by decide⟩, f ⟨18, by decide⟩, f ⟨17, by decide⟩, f ⟨16, by decide⟩, f ⟨15, by decide⟩, f ⟨14, by decide⟩, f ⟨13, by decide⟩, f ⟨12, by decide⟩, f ⟨11, by decide⟩, f ⟨10, by decide⟩, f ⟨9, by decide⟩, f ⟨8, by decide⟩, f ⟨7, by decide⟩, f ⟨6, by decide⟩, f ⟨5, by decide⟩, f ⟨4, by decide⟩, f ⟨3, by decide⟩, f ⟨2, by decide⟩, f ⟨1, by decide⟩, f ⟨0, by decide⟩]

theorem mem_desc2 {α : Type} {f : Fin 2 → α} {a : α} : a ∈ desc2 f ↔ ∃ p, f p = a := by
  rw [show desc2 f = List.ofFn (fun p => f p.rev) from rfl, List.mem_ofFn]
  exact ⟨fun ⟨p, h⟩ => ⟨p.rev, h⟩, fun ⟨p, h⟩ => ⟨p.rev, by rw [Fin.rev_rev]; exact h⟩⟩

theorem mem_desc12 {α : Type} {f : Fin 12 → α} {a : α} : a ∈ desc12 f ↔ ∃ p, f p = a := by
  rw [show desc12 f = List.ofFn (fun p => f p.rev) from rfl, List.mem_ofFn]
  exact ⟨fun ⟨p, h⟩ => ⟨p.rev, h⟩, fun ⟨p, h⟩ => ⟨p.rev, by rw [Fin.rev_rev]; exact h⟩⟩

theorem mem_desc36 {α : Type} {f : Fin 36 → α} {a : α} : a ∈ desc36 f ↔ ∃ p, f p = a := by
  rw [show desc36 f = List.ofFn (fun p => f p.rev) from rfl, List.mem_ofFn]
  exact ⟨fun ⟨p, h⟩ => ⟨p.rev, h⟩, fun ⟨p, h⟩ => ⟨p.rev, by rw [Fin.rev_rev]; exact h⟩⟩

section Run

variable (i : grid0.Coords) (c : Dev nD) (arg2 : Memref sig .tc .vmem S256x256 .bf16) (harg2 : arg2.IsWhole) (arg3 : Memref sig .tc .vmem S1x384x768 .bf16) (harg3 : arg3.IsWhole) (arg4 : Memref sig .tc .vmem S1x384x128 .bf16) (harg4 : arg4.IsWhole) (arg5 : Memref sig .tc .vmem S1x384x128 .bf16) (harg5 : arg5.IsWhole) (arg6 : Memref sig .tc .vmem S1x384x768 .bf16) (harg6 : arg6.IsWhole) (arg7 : Memref sig .tc .vmem S1x12x64x384 .fp8e4m3) (harg7 : arg7.IsWhole) (arg8 : Memref sig .tc .vmem S1x48x384 .f32) (harg8 : arg8.IsWhole) (arg9 : Memref sig .tc .vmem S1x2x64x384 .fp8e4m3) (harg9 : arg9.IsWhole) (arg10 : Memref sig .tc .vmem S1x8x384 .f32) (harg10 : arg10.IsWhole) (arg11 : Memref sig .tc .vmem S1x2x64x384 .fp8e4m3) (harg11 : arg11.IsWhole) (arg12 : Memref sig .tc .vmem S1x8x64 .f32) (harg12 : arg12.IsWhole)
  (x0 : Vec F S256x256 .bf16) (x1 : Vec F S1x384x768 .bf16) (x2 : Vec F S1x384x128 .bf16) (x3 : Vec F S1x384x128 .bf16)

/-- A load through a whole buffer that holds `x0` is the load of `x0`. -/
theorem rdW : View.readAt (Elt F) arg2.view (Rect.unit (s := S256x256) ![0, 0] S256x256.size inb_S256x256_S256x256_0_0).toLoadRect (harg2.unread x0) = ldW x0 :=
  funext fun _ => harg2.readAt_unread x0 _ _

theorem rdX (g : Fin 3) :
    View.readAt (Elt F) arg3.view (Rect.unit (s := S1x384x768) ![0, 0, g.val * 256] S1x384x256.size (inbX g)).toLoadRect (harg3.unread x1) = ldX x1 g :=
  funext fun _ => harg3.readAt_unread x1 _ _

theorem rdK : View.readAt (Elt F) arg4.view (Rect.unit (s := S1x384x128) ![0, 0, 0] S1x384x128.size inb_S1x384x128_S1x384x128_0_0_0).toLoadRect (harg4.unread x2) = ldK x2 :=
  funext fun _ => harg4.readAt_unread x2 _ _

theorem rdV : View.readAt (Elt F) arg5.view (Rect.unit (s := S1x384x128) ![0, 0, 0] S1x384x128.size inb_S1x384x128_S1x384x128_0_0_0).toLoadRect (harg5.unread x3) = ldK x3 :=
  funext fun _ => harg5.readAt_unread x3 _ _

set_option maxHeartbeats 8000000 in
/-- The run's pieces of the key codes, the last written first. -/
theorem run_L7 : (kernelRun i c arg2 harg2 arg3 harg3 arg4 harg4 arg5 harg5 arg6 harg6 arg7 harg7 arg8 harg8 arg9 harg9 arg10 harg10 arg11 harg11 arg12 harg12 x0 x1 x2 x3).1.L7 = desc2 (pc7 (ldW x0) (ldK x2)) := by
  have h : (kernelRun i c arg2 harg2 arg3 harg3 arg4 harg4 arg5 harg5 arg6 harg6 arg7 harg7 arg8 harg8 arg9 harg9 arg10 harg10 arg11 harg11 arg12 harg12 x0 x1 x2 x3).1.L7 = desc2 (pc7 (View.readAt (Elt F) arg2.view (Rect.unit (s := S256x256) ![0, 0] S256x256.size inb_S256x256_S256x256_0_0).toLoadRect (harg2.unread x0)) (View.readAt (Elt F) arg4.view (Rect.unit (s := S1x384x128) ![0, 0, 0] S1x384x128.size inb_S1x384x128_S1x384x128_0_0_0).toLoadRect (harg4.unread x2))) := rfl
  exact h.trans (congrArg₂ (fun w k => desc2 (pc7 w k)) (rdW arg2 harg2 x0) (rdK arg4 harg4 x2))

set_option maxHeartbeats 8000000 in
/-- The run's pieces of the value codes, the last written first. -/
theorem run_L9 : (kernelRun i c arg2 harg2 arg3 harg3 arg4 harg4 arg5 harg5 arg6 harg6 arg7 harg7 arg8 harg8 arg9 harg9 arg10 harg10 arg11 harg11 arg12 harg12 x0 x1 x2 x3).1.L9 = desc2 (pc9 (ldK x3)) := by
  have h : (kernelRun i c arg2 harg2 arg3 harg3 arg4 harg4 arg5 harg5 arg6 harg6 arg7 harg7 arg8 harg8 arg9 harg9 arg10 harg10 arg11 harg11 arg12 harg12 x0 x1 x2 x3).1.L9 = desc2 (pc9 (View.readAt (Elt F) arg5.view (Rect.unit (s := S1x384x128) ![0, 0, 0] S1x384x128.size inb_S1x384x128_S1x384x128_0_0_0).toLoadRect (harg5.unread x3))) := rfl
  exact h.trans (congrArg (fun k => desc2 (pc9 k)) (rdV arg5 harg5 x3))

set_option maxHeartbeats 8000000 in
/-- The run's pieces of the key scales, the last written first. -/
theorem run_L8 : (kernelRun i c arg2 harg2 arg3 harg3 arg4 harg4 arg5 harg5 arg6 harg6 arg7 harg7 arg8 harg8 arg9 harg9 arg10 harg10 arg11 harg11 arg12 harg12 x0 x1 x2 x3).1.L8 = desc2 (pc8 i (ldW x0) (ldK x2)) := by
  have h : (kernelRun i c arg2 harg2 arg3 harg3 arg4 harg4 arg5 harg5 arg6 harg6 arg7 harg7 arg8 harg8 arg9 harg9 arg10 harg10 arg11 harg11 arg12 harg12 x0 x1 x2 x3).1.L8 = desc2 (pc8 i (View.readAt (Elt F) arg2.view (Rect.unit (s := S256x256) ![0, 0] S256x256.size inb_S256x256_S256x256_0_0).toLoadRect (harg2.unread x0)) (View.readAt (Elt F) arg4.view (Rect.unit (s := S1x384x128) ![0, 0, 0] S1x384x128.size inb_S1x384x128_S1x384x128_0_0_0).toLoadRect (harg4.unread x2))) := rfl
  exact h.trans (congrArg₂ (fun w k => desc2 (pc8 i w k)) (rdW arg2 harg2 x0) (rdK arg4 harg4 x2))

set_option maxHeartbeats 8000000 in
/-- The run's pieces of the value scales, the last written first. -/
theorem run_L10 : (kernelRun i c arg2 harg2 arg3 harg3 arg4 harg4 arg5 harg5 arg6 harg6 arg7 harg7 arg8 harg8 arg9 harg9 arg10 harg10 arg11 harg11 arg12 harg12 x0 x1 x2 x3).1.L10 = desc2 (pc10 i (ldK x3)) := by
  have h : (kernelRun i c arg2 harg2 arg3 harg3 arg4 harg4 arg5 harg5 arg6 harg6 arg7 harg7 arg8 harg8 arg9 harg9 arg10 harg10 arg11 harg11 arg12 harg12 x0 x1 x2 x3).1.L10 = desc2 (pc10 i (View.readAt (Elt F) arg5.view (Rect.unit (s := S1x384x128) ![0, 0, 0] S1x384x128.size inb_S1x384x128_S1x384x128_0_0_0).toLoadRect (harg5.unread x3))) := rfl
  exact h.trans (congrArg (fun k => desc2 (pc10 i k)) (rdV arg5 harg5 x3))

set_option maxHeartbeats 8000000 in
/-- The run's pieces of the query codes, the last written first. -/
theorem run_L5 : (kernelRun i c arg2 harg2 arg3 harg3 arg4 harg4 arg5 harg5 arg6 harg6 arg7 harg7 arg8 harg8 arg9 harg9 arg10 harg10 arg11 harg11 arg12 harg12 x0 x1 x2 x3).1.L5 = desc12 (pc5 (ldW x0) (ldX x1)) := by
  have h : (kernelRun i c arg2 harg2 arg3 harg3 arg4 harg4 arg5 harg5 arg6 harg6 arg7 harg7 arg8 harg8 arg9 harg9 arg10 harg10 arg11 harg11 arg12 harg12 x0 x1 x2 x3).1.L5 = desc12 (pc5 (View.readAt (Elt F) arg2.view (Rect.unit (s := S256x256) ![0, 0] S256x256.size inb_S256x256_S256x256_0_0).toLoadRect (harg2.unread x0)) (fun g => View.readAt (Elt F) arg3.view (Rect.unit (s := S1x384x768) ![0, 0, g.val * 256] S1x384x256.size (inbX g)).toLoadRect (harg3.unread x1))) := rfl
  exact h.trans (congrArg₂ (fun w k => desc12 (pc5 w k)) (rdW arg2 harg2 x0) (funext fun g => rdX arg3 harg3 x1 g))

set_option maxHeartbeats 8000000 in
/-- The run's pieces of the query scales, the last written first. -/
theorem run_L6 : (kernelRun i c arg2 harg2 arg3 harg3 arg4 harg4 arg5 harg5 arg6 harg6 arg7 harg7 arg8 harg8 arg9 harg9 arg10 harg10 arg11 harg11 arg12 harg12 x0 x1 x2 x3).1.L6 = desc12 (pc6 i (ldW x0) (ldX x1)) := by
  have h : (kernelRun i c arg2 harg2 arg3 harg3 arg4 harg4 arg5 harg5 arg6 harg6 arg7 harg7 arg8 harg8 arg9 harg9 arg10 harg10 arg11 harg11 arg12 harg12 x0 x1 x2 x3).1.L6 = desc12 (pc6 i (View.readAt (Elt F) arg2.view (Rect.unit (s := S256x256) ![0, 0] S256x256.size inb_S256x256_S256x256_0_0).toLoadRect (harg2.unread x0)) (fun g => View.readAt (Elt F) arg3.view (Rect.unit (s := S1x384x768) ![0, 0, g.val * 256] S1x384x256.size (inbX g)).toLoadRect (harg3.unread x1))) := rfl
  exact h.trans (congrArg₂ (fun w k => desc12 (pc6 i w k)) (rdW arg2 harg2 x0) (funext fun g => rdX arg3 harg3 x1 g))

set_option maxHeartbeats 8000000 in
/-- The run's pieces of the attention output, the last written first. -/
theorem run_L4 : (kernelRun i c arg2 harg2 arg3 harg3 arg4 harg4 arg5 harg5 arg6 harg6 arg7 harg7 arg8 harg8 arg9 harg9 arg10 harg10 arg11 harg11 arg12 harg12 x0 x1 x2 x3).1.L4 = desc36 (pc4 (ldW x0) (ldX x1) (ldK x2) (ldK x3)) := by
  have h : (kernelRun i c arg2 harg2 arg3 harg3 arg4 harg4 arg5 harg5 arg6 harg6 arg7 harg7 arg8 harg8 arg9 harg9 arg10 harg10 arg11 harg11 arg12 harg12 x0 x1 x2 x3).1.L4 = desc36 (pc4 (View.readAt (Elt F) arg2.view (Rect.unit (s := S256x256) ![0, 0] S256x256.size inb_S256x256_S256x256_0_0).toLoadRect (harg2.unread x0)) (fun g => View.readAt (Elt F) arg3.view (Rect.unit (s := S1x384x768) ![0, 0, g.val * 256] S1x384x256.size (inbX g)).toLoadRect (harg3.unread x1)) (View.readAt (Elt F) arg4.view (Rect.unit (s := S1x384x128) ![0, 0, 0] S1x384x128.size inb_S1x384x128_S1x384x128_0_0_0).toLoadRect (harg4.unread x2)) (View.readAt (Elt F) arg5.view (Rect.unit (s := S1x384x128) ![0, 0, 0] S1x384x128.size inb_S1x384x128_S1x384x128_0_0_0).toLoadRect (harg5.unread x3))) := rfl
  exact h.trans ((congrArg₂ (fun w k => desc36 (pc4 w k _ _)) (rdW arg2 harg2 x0) (funext fun g => rdX arg3 harg3 x1 g)).trans (congrArg₂ (fun w k => desc36 (pc4 _ _ w k)) (rdK arg4 harg4 x2) (rdV arg5 harg5 x3)))

end Run

end Cert.KernelIdeal.Hand
-- ==== Proof.Left.lean ====
/- What one run of the body leaves in each output window, element by element. -/
module

public import proofs.«01_k».proof.Proof.Kept
public import Idealize.ShloMosaic.Lib.Pipeline.Value
public import Idealize.ShloMosaic.Lib.Pointwise

@[expose] public section

set_option maxRecDepth 16384

namespace Cert.KernelIdeal.Hand

open Cert.KernelIdeal Facts₀ Facts
open Cert.KernelIdeal.Gen (facts)
open Idealize.ShloMosaic Idealize.ShloMosaic.TcCoe

section General

variable {sig : RefSig} {κ : Kind} {sp : Space} {s : Shape} {e : EltTy} {Val : EltTy → Type}

/-- A buffer after writes whose every payload is `U` under its rectangle, and which held `U` off the rectangles, holds `U`. -/
theorem read_writes_upd (v : View sig κ sp s e) (f : v.ty.Contents Val) (U : s.Idx → Val e) (y : s.Idx) :
    ∀ L : List (View.Piece Val s e), (∀ p ∈ L, ∀ x : p.1.shape.Idx, p.2 x = U (p.1.emb x)) →
      ((¬ ∃ p ∈ L, y ∈ p.1.set) → v.read Val f y = U y) → v.read Val (v.writes Val f L) y = U y
  | [], _, h => h (by rintro ⟨_, hm, _⟩; exact absurd hm List.not_mem_nil)
  | p :: L, hP, h => by
    by_cases hy : y ∈ p.1.set
    · obtain ⟨x, rfl⟩ : ∃ x, p.1.emb x = y := p.1.exists_idx_of_mem hy
      obtain ⟨r, w⟩ := p
      rw [View.read_writes_cons_emb]
      exact hP ⟨r, w⟩ List.mem_cons_self x
    · have hy' : y ∉ Finset.univ.map p.1.emb := by rwa [Rect.map_emb_univ]
      rw [View.writes_cons, View.read_slice_write_of_not_mem p.1 _ _ _ hy']
      refine read_writes_upd v f U y L (fun q hq => hP q (List.mem_cons_of_mem _ hq)) fun hn => h ?_
      rintro ⟨q, hq, hyq⟩
      rcases List.mem_cons.mp hq with rfl | hq'
      · exact hy hyq
      · exact hn ⟨q, hq', hyq⟩

/-- The same with the rectangles covering the buffer. -/
theorem read_writes_all (v : View sig κ sp s e) (f : v.ty.Contents Val) (U : s.Idx → Val e) (L : List (View.Piece Val s e))
    (hP : ∀ p ∈ L, ∀ x : p.1.shape.Idx, p.2 x = U (p.1.emb x)) (hc : ∀ y, ∃ p ∈ L, y ∈ p.1.set) :
    v.read Val (v.writes Val f L) = U :=
  funext fun y => read_writes_upd v f U y L hP fun h => absurd (hc y) h

end General

variable {F : FTy → Type} [FloatOps F] [Named F]

/-- The query codes of a block, by head. -/
noncomputable def G5 (w : Vec F S256x256 .bf16) (xl : Fin 3 → Vec F S1x384x256 .bf16) : Vec F S1x12x64x384 .fp8e4m3 :=
  fun y => cod8 (qrOf w xl (y 1)) (ix2 (y 2) (y 3))

/-- The key codes of a block, by head. -/
noncomputable def G7 (w : Vec F S256x256 .bf16) (kl : Vec F S1x384x128 .bf16) : Vec F S1x2x64x384 .fp8e4m3 :=
  fun y => cod8 (krOf w kl (y 1)) (ix2 (y 2) (y 3))

/-- The value codes of a block, by head. -/
noncomputable def G9 (vl : Vec F S1x384x128 .bf16) : Vec F S1x2x64x384 .fp8e4m3 :=
  fun y => vHead vl (y 1) (ix2 (y 2) (y 3))

/-- The attention output of a block: head `y 2 / 64`, query block `y 1 / 128`. -/
noncomputable def G4 (w : Vec F S256x256 .bf16) (xl : Fin 3 → Vec F S1x384x256 .bf16) (kl vl : Vec F S1x384x128 .bf16) : Vec F S1x384x768 .bf16 :=
  fun y => outOf w xl kl vl (⟨(y 2).val / 64, by have : (y 2).val < 768 := (y 2).isLt; omega⟩ : Fin 12) ((y 1).val / 128)
    (ix3 (0 : Fin 1) (⟨(y 1).val % 128, by omega⟩ : Fin 128) (⟨(y 2).val % 64, by omega⟩ : Fin 64))

/-- The scale rows of the queries' heads, the keys' and the values'. -/
noncomputable def row6 (w : Vec F S256x256 .bf16) (xl : Fin 3 → Vec F S1x384x256 .bf16) (p : Fin 12) (t : Fin 384) : Elt F .f32 :=
  scl64 (qrOf w xl p) (ix2 (0 : Fin 1) t)
noncomputable def row8 (w : Vec F S256x256 .bf16) (kl : Vec F S1x384x128 .bf16) (p : Fin 2) (t : Fin 384) : Elt F .f32 :=
  scl64 (krOf w kl p) (ix2 (0 : Fin 1) t)
noncomputable def row10 (vl : Vec F S1x384x128 .bf16) (p : Fin 2) (d : Fin 64) : Elt F .f32 := vsRow vl p (ix2 (0 : Fin 1) d)

/-- A buffer of scale rows after the rows `[n * i, n * i + n)` are replaced by `r`. -/
noncomputable def updR {R N : ℕ} (n i : ℕ) (hn : 0 < n) (r : Fin n → Fin N → Elt F .f32) (x : Vec F ⟨3, ![1, R, N]⟩ .f32) : Vec F ⟨3, ![1, R, N]⟩ .f32 :=
  fun y => if h : n * i ≤ (y 1).val ∧ (y 1).val < n * i + n then r ⟨(y 1).val - n * i, by omega⟩ (y 2) else x y

/-- A head's codes as stored, read at an index. -/
theorem cast4 {e : EltTy} (q : Vec F S64x384 e) (x : S1x1x64x384.Idx) :
    shapeCast S1x1x64x384 q shapeCasts_S64x384_S1x1x64x384 x = q (ix2 (x 2 : Fin 64) (x 3 : Fin 384)) := by
  idx_vars x; pointwise

/-- A scale row as stored, read at an index. -/
theorem cast3 {e : EltTy} (q : Vec F S1x384 e) (x : S1x1x384.Idx) :
    shapeCast S1x1x384 q shapeCasts_S1x384_S1x1x384 x = q (ix2 (0 : Fin 1) (x 2 : Fin 384)) := by
  idx_vars x; pointwise

theorem cast3' {e : EltTy} (q : Vec F S1x64 e) (x : S1x1x64.Idx) :
    shapeCast S1x1x64 q shapeCasts_S1x64_S1x1x64 x = q (ix2 (0 : Fin 1) (x 2 : Fin 64)) := by
  idx_vars x; pointwise

theorem read5 {κ : Kind} {sp : Space} (v : View sig κ sp S1x12x64x384 .fp8e4m3) (f) (w : Vec F S256x256 .bf16) (xl) :
    v.read (Elt F) (v.writes (Elt F) f (desc12 (pc5 w xl))) = G5 w xl := by
  refine read_writes_all v f _ _ ?_ ?_
  · intro p hp x
    obtain ⟨k, rfl⟩ := mem_desc12.mp hp
    change S1x1x64x384.Idx at x
    refine (cast4 (F := F) (e := .fp8e4m3) (cod8 (qrOf w xl k)) x).trans ?_
    unfold G5
    have h1 : (Rect.unit (s := S1x12x64x384) ![0, k.val, 0, 0] S1x1x64x384.size (inb5 k)).emb x 1 = k := by
      apply Fin.ext; have : (x 1).val < 1 := (x 1).isLt; simp [Rect.emb_apply]; omega
    have h2 : (Rect.unit (s := S1x12x64x384) ![0, k.val, 0, 0] S1x1x64x384.size (inb5 k)).emb x 2 = x 2 := by
      apply Fin.ext; simp [Rect.emb_apply]
    have h3 : (Rect.unit (s := S1x12x64x384) ![0, k.val, 0, 0] S1x1x64x384.size (inb5 k)).emb x 3 = x 3 := by
      apply Fin.ext; simp [Rect.emb_apply]
    show _ = cod8 (qrOf w xl ((Rect.unit (s := S1x12x64x384) ![0, k.val, 0, 0] S1x1x64x384.size (inb5 k)).emb x 1)) (ix2 _ _)
    rw [h1]; exact congrArg₂ (fun a b => cod8 (qrOf w xl k) (ix2 a b)) h2.symm h3.symm
  · intro y
    refine ⟨_, mem_desc12.mpr ⟨(y 1 : Fin 12), rfl⟩, (Rect.mem_set_unit (inb := inb5 (y 1))).mpr fun a => ?_⟩
    have h0 : (y 0).val < 1 := (y 0).isLt
    have h2 : (y 2).val < 64 := (y 2).isLt
    have h3 : (y 3).val < 384 := (y 3).isLt
    fin_cases a
    · exact ⟨Nat.zero_le _, by simpa using h0⟩
    · exact ⟨le_rfl, Nat.lt_succ_self _⟩
    · exact ⟨Nat.zero_le _, by simpa using h2⟩
    · exact ⟨Nat.zero_le _, by simpa using h3⟩

/-- Two heads' codes, whatever they are. -/
theorem read2 {κ : Kind} {sp : Space} {e : EltTy} (v : View sig κ sp S1x2x64x384 e) (f) (q : Fin 2 → Vec F S64x384 e) :
    v.read (Elt F) (v.writes (Elt F) f (desc2 fun p => (⟨Rect.unit ![0, p.val, 0, 0] S1x1x64x384.size (inb7 p), shapeCast S1x1x64x384 (q p) shapeCasts_S64x384_S1x1x64x384⟩ : View.Piece (Elt F) S1x2x64x384 e)))
      = fun y => q (y 1) (ix2 (y 2 : Fin 64) (y 3 : Fin 384)) := by
  refine read_writes_all v f _ _ ?_ ?_
  · intro p hp x
    obtain ⟨k, rfl⟩ := mem_desc2.mp hp
    change S1x1x64x384.Idx at x
    refine (cast4 (F := F) (q k) x).trans ?_
    have h1 : (Rect.unit (s := S1x2x64x384) ![0, k.val, 0, 0] S1x1x64x384.size (inb7 k)).emb x 1 = k := by
      apply Fin.ext; have : (x 1).val < 1 := (x 1).isLt; simp [Rect.emb_apply]; omega
    have h2 : (Rect.unit (s := S1x2x64x384) ![0, k.val, 0, 0] S1x1x64x384.size (inb7 k)).emb x 2 = x 2 := by
      apply Fin.ext; simp [Rect.emb_apply]
    have h3 : (Rect.unit (s := S1x2x64x384) ![0, k.val, 0, 0] S1x1x64x384.size (inb7 k)).emb x 3 = x 3 := by
      apply Fin.ext; simp [Rect.emb_apply]
    show _ = q ((Rect.unit (s := S1x2x64x384) ![0, k.val, 0, 0] S1x1x64x384.size (inb7 k)).emb x 1) (ix2 _ _)
    rw [h1]; exact congrArg₂ (fun a b => q k (ix2 a b)) h2.symm h3.symm
  · intro y
    refine ⟨_, mem_desc2.mpr ⟨(y 1 : Fin 2), rfl⟩, (Rect.mem_set_unit (inb := inb7 (y 1))).mpr fun a => ?_⟩
    have h0 : (y 0).val < 1 := (y 0).isLt
    have h2 : (y 2).val < 64 := (y 2).isLt
    have h3 : (y 3).val < 384 := (y 3).isLt
    fin_cases a
    · exact ⟨Nat.zero_le _, by simpa using h0⟩
    · exact ⟨le_rfl, Nat.lt_succ_self _⟩
    · exact ⟨Nat.zero_le _, by simpa using h2⟩
    · exact ⟨Nat.zero_le _, by simpa using h3⟩

theorem read7 {κ : Kind} {sp : Space} (v : View sig κ sp S1x2x64x384 .fp8e4m3) (f) (w : Vec F S256x256 .bf16) (kl) :
    v.read (Elt F) (v.writes (Elt F) f (desc2 (pc7 w kl))) = G7 w kl := read2 v f fun p => cod8 (krOf w kl p)

theorem read9 {κ : Kind} {sp : Space} (v : View sig κ sp S1x2x64x384 .fp8e4m3) (f) (vl : Vec F S1x384x128 .bf16) :
    v.read (Elt F) (v.writes (Elt F) f (desc2 (pc9 vl))) = G9 vl := read2 v f fun p => vHead vl p

theorem read4 {κ : Kind} {sp : Space} (v : View sig κ sp S1x384x768 .bf16) (f) (w : Vec F S256x256 .bf16) (xl kl vl) :
    v.read (Elt F) (v.writes (Elt F) f (desc36 (pc4 w xl kl vl))) = G4 w xl kl vl := by
  refine read_writes_all v f _ _ ?_ ?_
  · intro p hp x
    obtain ⟨k, rfl⟩ := mem_desc36.mp hp
    change S1x128x64.Idx at x
    show outOf w xl kl vl _ _ x = G4 w xl kl vl ((Rect.unit (s := S1x384x768) ![0, k.val % 3 * 128, k.val / 3 * 64] S1x128x64.size (inb4 k)).emb x)
    have h0 : (x 0).val < 1 := (x 0).isLt
    have b1 : (x 1).val < 128 := (x 1).isLt
    have b2 : (x 2).val < 64 := (x 2).isLt
    have h1 : ((Rect.unit (s := S1x384x768) ![0, k.val % 3 * 128, k.val / 3 * 64] S1x128x64.size (inb4 k)).emb x 1).val = k.val % 3 * 128 + (x 1).val := by
      simp [Rect.emb_apply]
    have h2 : ((Rect.unit (s := S1x384x768) ![0, k.val % 3 * 128, k.val / 3 * 64] S1x128x64.size (inb4 k)).emb x 2).val = k.val / 3 * 64 + (x 2).val := by
      simp [Rect.emb_apply]
    unfold G4
    have e1 : (⟨((Rect.unit (s := S1x384x768) ![0, k.val % 3 * 128, k.val / 3 * 64] S1x128x64.size (inb4 k)).emb x 2).val / 64, by rw [h2]; omega⟩ : Fin 12) = ⟨k.val / 3, by omega⟩ := Fin.ext (by simp only [h2]; omega)
    have e2 : ((Rect.unit (s := S1x384x768) ![0, k.val % 3 * 128, k.val / 3 * 64] S1x128x64.size (inb4 k)).emb x 1).val / 128 = k.val % 3 := by rw [h1]; omega
    have e3 : (⟨((Rect.unit (s := S1x384x768) ![0, k.val % 3 * 128, k.val / 3 * 64] S1x128x64.size (inb4 k)).emb x 1).val % 128, by omega⟩ : Fin 128) = x 1 := Fin.ext (by simp only [h1]; omega)
    have e4 : (⟨((Rect.unit (s := S1x384x768) ![0, k.val % 3 * 128, k.val / 3 * 64] S1x128x64.size (inb4 k)).emb x 2).val % 64, by omega⟩ : Fin 64) = x 2 := Fin.ext (by simp only [h2]; omega)
    rw [e1, e2, e3, e4]
    congr 1
    funext a; fin_cases a
    · exact Fin.ext (by show (x 0).val = 0; omega)
    · rfl
    · rfl
  · intro y
    have h0 : (y 0).val < 1 := (y 0).isLt
    have h1 : (y 1).val < 384 := (y 1).isLt
    have h2 : (y 2).val < 768 := (y 2).isLt
    refine ⟨_, mem_desc36.mpr ⟨(⟨(y 2).val / 64 * 3 + (y 1).val / 128, by omega⟩ : Fin 36), rfl⟩, (Rect.mem_set_unit (inb := inb4 (⟨(y 2).val / 64 * 3 + (y 1).val / 128, by omega⟩ : Fin 36))).mpr fun a => ?_⟩
    fin_cases a
    · exact ⟨Nat.zero_le _, by simpa using h0⟩
    · show ((y 2).val / 64 * 3 + (y 1).val / 128) % 3 * 128 ≤ (y 1).val ∧ (y 1).val < ((y 2).val / 64 * 3 + (y 1).val / 128) % 3 * 128 + 128
      omega
    · show ((y 2).val / 64 * 3 + (y 1).val / 128) / 3 * 64 ≤ (y 2).val ∧ (y 2).val < ((y 2).val / 64 * 3 + (y 1).val / 128) / 3 * 64 + 64
      omega

/-- Rows replaced one by one. -/
theorem readR {R N n : ℕ} {κ : Kind} {sp : Space} (v : View sig κ sp ⟨3, ![1, R, N]⟩ .f32) (f) (i : ℕ) (hn : 0 < n) (r : Fin n → Fin N → Elt F .f32)
    (x : Vec F ⟨3, ![1, R, N]⟩ .f32) (hf : v.read (Elt F) f = x) (L : List (View.Piece (Elt F) ⟨3, ![1, R, N]⟩ .f32))
    (off : Fin n → Fin 3 → ℕ) (hoff : ∀ p, off p = ![0, n * i + p.val, 0]) (inb : ∀ p a, off p a + (![1, 1, N] : Fin 3 → ℕ) a ≤ (![1, R, N] : Fin 3 → ℕ) a)
    (pay : (p : Fin n) → Vec F ⟨3, ![1, 1, N]⟩ .f32) (hpay : ∀ p z, pay p z = r p (z 2))
    (hL : ∀ q, q ∈ L ↔ ∃ p : Fin n, (⟨Rect.unit (s := ⟨3, ![1, R, N]⟩) (off p) ![1, 1, N] (inb p), pay p⟩ : View.Piece (Elt F) ⟨3, ![1, R, N]⟩ .f32) = q) :
    v.read (Elt F) (v.writes (Elt F) f L) = updR n i hn r x := by
  funext y
  refine read_writes_upd v f _ y L ?_ ?_
  · intro q hq z
    obtain ⟨p, rfl⟩ := (hL q).mp hq
    change (⟨3, ![1, 1, N]⟩ : Shape).Idx at z
    refine (hpay p z).trans ?_
    have z1 : (z 1).val < 1 := (z 1).isLt
    have h1 : ((Rect.unit (s := ⟨3, ![1, R, N]⟩) (off p) ![1, 1, N] (inb p)).emb z 1).val = n * i + p.val := by
      simp [Rect.emb_apply, hoff]; omega
    have h2 : (Rect.unit (s := ⟨3, ![1, R, N]⟩) (off p) ![1, 1, N] (inb p)).emb z 2 = z 2 := by
      apply Fin.ext; simp [Rect.emb_apply, hoff]
    show _ = updR n i hn r x ((Rect.unit (s := ⟨3, ![1, R, N]⟩) (off p) ![1, 1, N] (inb p)).emb z)
    unfold updR
    rw [dif_pos ⟨by omega, by omega⟩]
    exact congrArg₂ r (Fin.ext (by simp only [h1]; omega)) h2.symm
  · intro hno
    unfold updR
    rw [dif_neg, hf]
    intro hy
    refine hno ⟨_, (hL _).mpr ⟨⟨(y 1).val - n * i, by omega⟩, rfl⟩, (Rect.mem_set_unit (inb := inb ⟨(y 1).val - n * i, by omega⟩)).mpr fun a => ?_⟩
    have y0 : (y 0).val < 1 := (y 0).isLt
    have y2 : (y 2).val < N := (y 2).isLt
    rw [hoff]
    fin_cases a
    · exact ⟨Nat.zero_le _, by simpa using y0⟩
    · show n * i + ((y 1).val - n * i) ≤ (y 1).val ∧ (y 1).val < n * i + ((y 1).val - n * i) + 1
      omega
    · exact ⟨Nat.zero_le _, by simpa using y2⟩

theorem read6 {κ : Kind} {sp : Space} (v : View sig κ sp S1x48x384 .f32) (f) (i : grid0.Coords) (w : Vec F S256x256 .bf16) (xl) (x) (hf : v.read (Elt F) f = x) :
    v.read (Elt F) (v.writes (Elt F) f (desc12 (pc6 i w xl))) = updR 12 (i 1).val (by decide) (row6 w xl) x :=
  readR v f (i 1).val (by decide) (row6 w xl) x hf _ (fun p => k0_off3 i (BitVec.ofNat 32 p.val)) (fun p => Cert.KernelIdeal.Gen.k0_off3_eq i p)
    (fun p => k0_off3_inb i p) (fun p => shapeCast S1x1x384 (scl64 (qrOf w xl p)) shapeCasts_S1x384_S1x1x384) (fun p z => cast3 (F := F) (e := .f32) (scl64 (qrOf w xl p)) z) fun q => mem_desc12

theorem read8 {κ : Kind} {sp : Space} (v : View sig κ sp S1x8x384 .f32) (f) (i : grid0.Coords) (w : Vec F S256x256 .bf16) (kl) (x) (hf : v.read (Elt F) f = x) :
    v.read (Elt F) (v.writes (Elt F) f (desc2 (pc8 i w kl))) = updR 2 (i 1).val (by decide) (row8 w kl) x :=
  readR v f (i 1).val (by decide) (row8 w kl) x hf _ (fun p => k0_off1 i (BitVec.ofNat 32 p.val)) (fun p => Cert.KernelIdeal.Gen.k0_off1_eq i p)
    (fun p => k0_off1_inb i p) (fun p => shapeCast S1x1x384 (scl64 (krOf w kl p)) shapeCasts_S1x384_S1x1x384) (fun p z => cast3 (F := F) (e := .f32) (scl64 (krOf w kl p)) z) fun q => mem_desc2

theorem read10 {κ : Kind} {sp : Space} (v : View sig κ sp S1x8x64 .f32) (f) (i : grid0.Coords) (vl : Vec F S1x384x128 .bf16) (x) (hf : v.read (Elt F) f = x) :
    v.read (Elt F) (v.writes (Elt F) f (desc2 (pc10 i vl))) = updR 2 (i 1).val (by decide) (row10 vl) x :=
  readR v f (i 1).val (by decide) (row10 vl) x hf _ (fun p => k0_off2 i (BitVec.ofNat 32 p.val)) (fun p => Cert.KernelIdeal.Gen.k0_off2_eq i p)
    (fun p => k0_off2_inb i p) (fun p => shapeCast S1x1x64 (vsRow vl p) shapeCasts_S1x64_S1x1x64) (fun p z => cast3' (F := F) (e := .f32) (vsRow vl p) z) fun q => mem_desc2

end Cert.KernelIdeal.Hand
-- ==== Proof.Body.lean ====
/- The body as a triple over owned buffers, the proof data of the pipeline, and the run of the whole program. -/
module

public import proofs.«01_k».proof.Proof.Left
public import Idealize.ShloMosaic.Lib.Pipeline.DatRel
public import Idealize.ShloMosaic.Lib.Pipeline.ArrRel
public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body over owned buffers: the inputs come back, each code buffer and the output buffer hold the block's values, and the
    scale buffers have the rows of this block of heads replaced. -/
theorem triple (i : grid0.Coords) (c : Dev nD) (arg2 : Memref sig .tc .vmem S256x256 .bf16) (harg2 : arg2.IsWhole) (arg3 : Memref sig .tc .vmem S1x384x768 .bf16) (harg3 : arg3.IsWhole) (arg4 : Memref sig .tc .vmem S1x384x128 .bf16) (harg4 : arg4.IsWhole) (arg5 : Memref sig .tc .vmem S1x384x128 .bf16) (harg5 : arg5.IsWhole) (arg6 : Memref sig .tc .vmem S1x384x768 .bf16) (harg6 : arg6.IsWhole) (arg7 : Memref sig .tc .vmem S1x12x64x384 .fp8e4m3) (harg7 : arg7.IsWhole) (arg8 : Memref sig .tc .vmem S1x48x384 .f32) (harg8 : arg8.IsWhole) (arg9 : Memref sig .tc .vmem S1x2x64x384 .fp8e4m3) (harg9 : arg9.IsWhole) (arg10 : Memref sig .tc .vmem S1x8x384 .f32) (harg10 : arg10.IsWhole) (arg11 : Memref sig .tc .vmem S1x2x64x384 .fp8e4m3) (harg11 : arg11.IsWhole) (arg12 : Memref sig .tc .vmem S1x8x64 .f32) (harg12 : arg12.IsWhole)
    (x0 : Vec F S256x256 .bf16) (x1 : Vec F S1x384x768 .bf16) (x2 : Vec F S1x384x128 .bf16) (x3 : Vec F S1x384x128 .bf16)
    (x6 : Vec F S1x48x384 .f32) (x8 : Vec F S1x8x384 .f32) (x10 : Vec F S1x8x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare x6 ∗ (∃ d, owns (c : Thread nD τ) arg9 fullShare d) ∗ owns (c : Thread nD τ) arg10 fullShare x8 ∗ (∃ d, owns (c : Thread nD τ) arg11 fullShare d) ∗ owns (c : Thread nD τ) arg12 fullShare x10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (G4 (ldW x0) (ldX x1) (ldK x2) (ldK x3)) ∗ owns (c : Thread nD τ) arg7 fullShare (G5 (ldW x0) (ldX x1)) ∗ owns (c : Thread nD τ) arg8 fullShare (updR 12 (i 1).val (by decide) (row6 (ldW x0) (ldX x1)) x6) ∗ owns (c : Thread nD τ) arg9 fullShare (G7 (ldW x0) (ldK x2)) ∗ owns (c : Thread nD τ) arg10 fullShare (updR 2 (i 1).val (by decide) (row8 (ldW x0) (ldK x2)) x8) ∗ owns (c : Thread nD τ) arg11 fullShare (G9 (ldK x3)) ∗ owns (c : Thread nD τ) arg12 fullShare (updR 2 (i 1).val (by decide) (row10 (ldK x3)) x10)) -∗ K ⟨⟩))
      ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12) K := by
  refine BIBase.Entails.trans ?_ ((kernelRun i c arg2 harg2 arg3 harg3 arg4 harg4 arg5 harg5 arg6 harg6 arg7 harg7 arg8 harg8 arg9 harg9 arg10 harg10 arg11 harg11 arg12 harg12 x0 x1 x2 x3).2 x6 x8 x10 E K)
  iintro ⟨H0, H1, H2, H3, H4, H5, H6, H7, H8, H9, H10, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, ⟨%f4, H4⟩, ⟨%f5, H5⟩, ⟨%f6, %hf6, H6⟩, ⟨%f7, H7⟩, ⟨%f8, %hf8, H8⟩, ⟨%f9, H9⟩, ⟨%f10, %hf10, H10⟩⟩
  iapply Hk
  isplitl [H0]; · iexact H0
  isplitl [H1]; · iexact H1
  isplitl [H2]; · iexact H2
  isplitl [H3]; · iexact H3
  isplitl [H4]
  · unfold owns; iexists _; isplitr
    · ipureintro; exact (congrArg (fun L => arg6.view.read (Elt F) (arg6.view.writes (Elt F) f4 L)) (run_L4 i c arg2 harg2 arg3 harg3 arg4 harg4 arg5 harg5 arg6 harg6 arg7 harg7 arg8 harg8 arg9 harg9 arg10 harg10 arg11 harg11 arg12 harg12 x0 x1 x2 x3)).trans (read4 _ _ _ _ _ _)
    · iexact H4
  isplitl [H5]
  · unfold owns; iexists _; isplitr
    · ipureintro; exact (congrArg (fun L => arg7.view.read (Elt F) (arg7.view.writes (Elt F) f5 L)) (run_L5 i c arg2 harg2 arg3 harg3 arg4 harg4 arg5 harg5 arg6 harg6 arg7 harg7 arg8 harg8 arg9 harg9 arg10 harg10 arg11 harg11 arg12 harg12 x0 x1 x2 x3)).trans (read5 _ _ _ _)
    · iexact H5
  isplitl [H6]
  · unfold owns; iexists _; isplitr
    · ipureintro; exact (congrArg (fun L => arg8.view.read (Elt F) (arg8.view.writes (Elt F) f6 L)) (run_L6 i c arg2 harg2 arg3 harg3 arg4 harg4 arg5 harg5 arg6 harg6 arg7 harg7 arg8 harg8 arg9 harg9 arg10 harg10 arg11 harg11 arg12 harg12 x0 x1 x2 x3)).trans (read6 _ _ _ _ _ _ hf6)
    · iexact H6
  isplitl [H7]
  · unfold owns; iexists _; isplitr
    · ipureintro; exact (congrArg (fun L => arg9.view.read (Elt F) (arg9.view.writes (Elt F) f7 L)) (run_L7 i c arg2 harg2 arg3 harg3 arg4 harg4 arg5 harg5 arg6 harg6 arg7 harg7 arg8 harg8 arg9 harg9 arg10 harg10 arg11 harg11 arg12 harg12 x0 x1 x2 x3)).trans (read7 _ _ _ _)
    · iexact H7
  isplitl [H8]
  · unfold owns; iexists _; isplitr
    · ipureintro; exact (congrArg (fun L => arg10.view.read (Elt F) (arg10.view.writes (Elt F) f8 L)) (run_L8 i c arg2 harg2 arg3 harg3 arg4 harg4 arg5 harg5 arg6 harg6 arg7 harg7 arg8 harg8 arg9 harg9 arg10 harg10 arg11 harg11 arg12 harg12 x0 x1 x2 x3)).trans (read8 _ _ _ _ _ _ hf8)
    · iexact H8
  isplitl [H9]
  · unfold owns; iexists _; isplitr
    · ipureintro; exact (congrArg (fun L => arg11.view.read (Elt F) (arg11.view.writes (Elt F) f9 L)) (run_L9 i c arg2 harg2 arg3 harg3 arg4 harg4 arg5 harg5 arg6 harg6 arg7 harg7 arg8 harg8 arg9 harg9 arg10 harg10 arg11 harg11 arg12 harg12 x0 x1 x2 x3)).trans (read9 _ _ _)
    · iexact H9
  unfold owns; iexists _; isplitr
  · ipureintro; exact (congrArg (fun L => arg12.view.read (Elt F) (arg12.view.writes (Elt F) f10 L)) (run_L10 i c arg2 harg2 arg3 harg3 arg4 harg4 arg5 harg5 arg6 harg6 arg7 harg7 arg8 harg8 arg9 harg9 arg10 harg10 arg11 harg11 arg12 harg12 x0 x1 x2 x3)).trans (read10 _ _ _ _ _ hf10)
  · iexact H10

end Cert.KernelIdeal.Hand

end
-- ==== Proof.Run.lean ====
/- The proof data of the pipeline, its body obligation, and the run of the whole program. -/
module

public import proofs.«01_k».proof.Proof.Body
public import Idealize.ShloMosaic.Lib.Pipeline.DatRel
public import Idealize.ShloMosaic.Lib.Pipeline.ArrRel
public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four input blocks of a point. -/
def bW (c : Dev nD) (t : Fin cfg0.N) : Vec F S256x256 .bf16 := iblk m c 0 t
def bX (c : Dev nD) (t : Fin cfg0.N) : Vec F S1x384x768 .bf16 := iblk m c 1 t
def bK (c : Dev nD) (t : Fin cfg0.N) : Vec F S1x384x128 .bf16 := iblk m c 2 t
def bV (c : Dev nD) (t : Fin cfg0.N) : Vec F S1x384x128 .bf16 := iblk m c 3 t

/-- The point of the same batch as `t` that writes row `y` of a scale buffer whose blocks have `n` rows. -/
def pt (n : ℕ) (t : Fin cfg0.N) (y : ℕ) (h : y < 4 * n) : Fin cfg0.N :=
  ⟨4 * (t.val / 4) + y / n, by
    have h20 : t.val < 20 := t.isLt
    have : y / n < 4 := Nat.div_lt_of_lt_mul (by rw [Nat.mul_comm]; exact h)
    show _ < 20; omega⟩

/-- What the scale buffers hold once a batch is done. -/
def S6 (c : Dev nD) (t : Fin cfg0.N) : Vec F S1x48x384 .f32 := fun y =>
  let u := pt 12 t (y 1).val (y 1).isLt
  row6 (ldW (bW m c u)) (ldX (bX m c u)) ⟨(y 1).val % 12, Nat.mod_lt _ (by decide)⟩ (y 2)
def S8 (c : Dev nD) (t : Fin cfg0.N) : Vec F S1x8x384 .f32 := fun y =>
  let u := pt 2 t (y 1).val (y 1).isLt
  row8 (ldW (bW m c u)) (ldK (bK m c u)) ⟨(y 1).val % 2, Nat.mod_lt _ (by decide)⟩ (y 2)
def S10 (c : Dev nD) (t : Fin cfg0.N) : Vec F S1x8x64 .f32 := fun y =>
  let u := pt 2 t (y 1).val (y 1).isLt
  row10 (ldK (bV m c u)) ⟨(y 1).val % 2, Nat.mod_lt _ (by decide)⟩ (y 2)

/-- The rows of the batch written by the end of point `t` are the specified ones. -/
def Upto {R N : ℕ} (n : ℕ) (t : Fin cfg0.N) (S X : Vec F ⟨3, ![1, R, N]⟩ .f32) : Prop :=
  ∀ y, (y 1).val < n * (t.val % 4 + 1) → X y = S y

/-- The output windows. -/
def outw : Fin 11 → Bool := fun w => w.val == 4 || w.val == 5 || w.val == 6 || w.val == 7 || w.val == 8 || w.val == 9 || w.val == 10

/-- What the body leaves in each output window at point `t`. -/
def Rl (c : Dev nD) : (w : Fin cfg0.W) → (t : Fin cfg0.N) → ((cfg0.win w).block.Idx → Elt F (cfg0.win w).elt) → Prop
  | ⟨0, _⟩, _, _ => True
  | ⟨1, _⟩, _, _ => True
  | ⟨2, _⟩, _, _ => True
  | ⟨3, _⟩, _, _ => True
  | ⟨4, _⟩, t, X => X = G4 (ldW (bW m c t)) (ldX (bX m c t)) (ldK (bK m c t)) (ldK (bV m c t))
  | ⟨5, _⟩, t, X => X = G5 (ldW (bW m c t)) (ldX (bX m c t))
  | ⟨6, _⟩, t, X => Upto (R := 48) (N := 384) 12 t (S6 m c t) X
  | ⟨7, _⟩, t, X => X = G7 (ldW (bW m c t)) (ldK (bK m c t))
  | ⟨8, _⟩, t, X => Upto (R := 8) (N := 384) 2 t (S8 m c t) X
  | ⟨9, _⟩, t, X => X = G9 (ldK (bV m c t))
  | ⟨10, _⟩, t, X => Upto (R := 8) (N := 64) 2 t (S10 m c t) X

/-- The proof data: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The same data with the output windows held to `Rl`. -/
abbrev rdat (c : Dev nD) : Pipeline.RDat τ (Elt F) Unit ℕ (UR sig nD τ) ℕ cfg0 c := (dats m 0 c).toRRel outw (Rl m c)

theorem coord1 : ∀ t : Fin cfg0.N, (grid0.coords t 1).val = t.val % 4 := by decide +kernel

/-- What is found in window 6 inside a batch is what the point before left. -/
theorem finds6 (c : Dev nD) (t : Fin cfg0.N) (h : t.val % 4 ≠ 0) (Y) (hY : (rdat m c).Finds 6 t Y) : Rl m c 6 ⟨t.val - 1, Nat.lt_of_le_of_lt (Nat.sub_le _ _) t.isLt⟩ Y := by
  have h0 : t.val ≠ 0 := fun e => h (by rw [e])
  rcases ((rdat m c).finds_of_pos (w := 6) (t := t) rfl h0 Y).mp hY with hf | hl
  · have := (flush0_6 _).mp hf
    change (t.val - 1) % 4 = 3 at this
    omega
  · exact (dats m 0 c).toRRel_leaves rfl hl

/-- What is found in window 8 inside a batch is what the point before left. -/
theorem finds8 (c : Dev nD) (t : Fin cfg0.N) (h : t.val % 4 ≠ 0) (Y) (hY : (rdat m c).Finds 8 t Y) : Rl m c 8 ⟨t.val - 1, Nat.lt_of_le_of_lt (Nat.sub_le _ _) t.isLt⟩ Y := by
  have h0 : t.val ≠ 0 := fun e => h (by rw [e])
  rcases ((rdat m c).finds_of_pos (w := 8) (t := t) rfl h0 Y).mp hY with hf | hl
  · have := (flush0_8 _).mp hf
    change (t.val - 1) % 4 = 3 at this
    omega
  · exact (dats m 0 c).toRRel_leaves rfl hl

/-- What is found in window 10 inside a batch is what the point before left. -/
theorem finds10 (c : Dev nD) (t : Fin cfg0.N) (h : t.val % 4 ≠ 0) (Y) (hY : (rdat m c).Finds 10 t Y) : Rl m c 10 ⟨t.val - 1, Nat.lt_of_le_of_lt (Nat.sub_le _ _) t.isLt⟩ Y := by
  have h0 : t.val ≠ 0 := fun e => h (by rw [e])
  rcases ((rdat m c).finds_of_pos (w := 10) (t := t) rfl h0 Y).mp hY with hf | hl
  · have := (flush0_10 _).mp hf
    change (t.val - 1) % 4 = 3 at this
    omega
  · exact (dats m 0 c).toRRel_leaves rfl hl

/-- One more block of rows. -/
theorem upto_step {R N n : ℕ} (hn : 0 < n) (hR : R = 4 * n) (t : Fin cfg0.N) (S : Fin cfg0.N → Vec F ⟨3, ![1, R, N]⟩ .f32)
    (r : Fin cfg0.N → Fin n → Fin N → Elt F .f32)
    (hS : ∀ t y, S t y = r (pt n t (y 1).val (hR ▸ (y 1).isLt)) ⟨(y 1).val % n, Nat.mod_lt _ hn⟩ (y 2))
    (i : ℕ) (hi : i = t.val % 4) (Y : Vec F ⟨3, ![1, R, N]⟩ .f32) (hY : t.val % 4 ≠ 0 → Upto n ⟨t.val - 1, Nat.lt_of_le_of_lt (Nat.sub_le _ _) t.isLt⟩ (S ⟨t.val - 1, Nat.lt_of_le_of_lt (Nat.sub_le _ _) t.isLt⟩) Y) :
    Upto n t (S t) (updR n i hn (r t) Y) := by
  subst hi
  intro y hy
  unfold updR
  have hd : (y 1).val < n * (t.val % 4) ∨ n * (t.val % 4) ≤ (y 1).val := by omega
  rcases hd with hd | hd
  · rw [dif_neg (by omega)]
    have h4 : t.val % 4 ≠ 0 := fun e => by rw [e] at hd; omega
    have hm : (t.val - 1) % 4 + 1 = t.val % 4 := by omega
    have e1 := hY h4 y (by show _ < n * ((t.val - 1) % 4 + 1); rw [hm]; exact hd)
    refine e1.trans ?_
    rw [hS, hS]
    congr 1
    apply Fin.ext
    show 4 * ((t.val - 1) / 4) + _ = 4 * (t.val / 4) + _
    have : (t.val - 1) / 4 = t.val / 4 := by omega
    rw [this]
  · have hlt : (y 1).val < n * (t.val % 4) + n := by rw [Nat.mul_add, Nat.mul_one] at hy; exact hy
    rw [dif_pos ⟨hd, hlt⟩, hS]
    have hq : (y 1).val / n = t.val % 4 := by
      apply Nat.div_eq_of_lt_le
      · rw [Nat.mul_comm]; exact hd
      · rw [Nat.add_mul, Nat.one_mul, Nat.mul_comm]; exact hlt
    have e1 : pt n t (y 1).val (hR ▸ (y 1).isLt) = t := Fin.ext (by show 4 * (t.val / 4) + _ = _; rw [hq]; omega)
    rw [e1]
    congr 1
    apply Fin.ext
    show (y 1).val - n * (t.val % 4) = (y 1).val % n
    have := Nat.div_add_mod (y 1).val n
    rw [hq] at this
    omega

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d))
    ∗ (∃ Y, ⌜(rdat m c).Finds 4 t Y⌝ ∗ owns (c : Thread nD τ) ((cfg0.win 4).stage (cfg0.slots t 4)) fullShare Y) ∗ (∃ Y, ⌜(rdat m c).Finds 5 t Y⌝ ∗ owns (c : Thread nD τ) ((cfg0.win 5).stage (cfg0.slots t 5)) fullShare Y) ∗ (∃ Y, ⌜(rdat m c).Finds 6 t Y⌝ ∗ owns (c : Thread nD τ) ((cfg0.win 6).stage (cfg0.slots t 6)) fullShare Y) ∗ (∃ Y, ⌜(rdat m c).Finds 7 t Y⌝ ∗ owns (c : Thread nD τ) ((cfg0.win 7).stage (cfg0.slots t 7)) fullShare Y) ∗ (∃ Y, ⌜(rdat m c).Finds 8 t Y⌝ ∗ owns (c : Thread nD τ) ((cfg0.win 8).stage (cfg0.slots t 8)) fullShare Y) ∗ (∃ Y, ⌜(rdat m c).Finds 9 t Y⌝ ∗ owns (c : Thread nD τ) ((cfg0.win 9).stage (cfg0.slots t 9)) fullShare Y) ∗ (∃ Y, ⌜(rdat m c).Finds 10 t Y⌝ ∗ owns (c : Thread nD τ) ((cfg0.win 10).stage (cfg0.slots t 10)) fullShare Y))

/-- and what it returns. -/
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t)
    ∗ (∃ X, ⌜Rl m c 4 t X⌝ ∗ owns (c : Thread nD τ) ((cfg0.win 4).stage (cfg0.slots t 4)) fullShare X) ∗ (∃ X, ⌜Rl m c 5 t X⌝ ∗ owns (c : Thread nD τ) ((cfg0.win 5).stage (cfg0.slots t 5)) fullShare X) ∗ (∃ X, ⌜Rl m c 6 t X⌝ ∗ owns (c : Thread nD τ) ((cfg0.win 6).stage (cfg0.slots t 6)) fullShare X) ∗ (∃ X, ⌜Rl m c 7 t X⌝ ∗ owns (c : Thread nD τ) ((cfg0.win 7).stage (cfg0.slots t 7)) fullShare X) ∗ (∃ X, ⌜Rl m c 8 t X⌝ ∗ owns (c : Thread nD τ) ((cfg0.win 8).stage (cfg0.slots t 8)) fullShare X) ∗ (∃ X, ⌜Rl m c 9 t X⌝ ∗ owns (c : Thread nD τ) ((cfg0.win 9).stage (cfg0.slots t 9)) fullShare X) ∗ (∃ X, ⌜Rl m c 10 t X⌝ ∗ owns (c : Thread nD τ) ((cfg0.win 10).stage (cfg0.slots t 10)) fullShare X))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%Y4, %hY4, H4⟩, ⟨%Y5, %hY5, H5⟩, ⟨%Y6, %hY6, H6⟩, ⟨%Y7, %hY7, H7⟩, ⟨%Y8, %hY8, H8⟩, ⟨%Y9, %hY9, H9⟩, ⟨%Y10, %hY10, H10⟩⟩
  iapply (triple (grid0.coords t) c _ _ _ _ _ _ _ _ _ _ _ _ _ _ _ _ _ _ _ _ _ _ (bW m c t) (bX m c t) (bK m c t) (bV m c t) Y6 Y8 Y10 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexists _; iexact H7
  isplitl [H8]; · iexact H8
  isplitl [H9]; · iexists _; iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists _; isplitr
    · ipureintro; exact rfl
    · iexact H4
  isplitl [H5]
  · iexists _; isplitr
    · ipureintro; exact rfl
    · iexact H5
  isplitl [H6]
  · iexists _; isplitr
    · ipureintro; exact upto_step (n := 12) (by decide) rfl t (S6 m c) (fun u => row6 (ldW (bW m c u)) (ldX (bX m c u))) (fun _ _ => rfl) _ (coord1 t) Y6 fun h => finds6 m c t h Y6 hY6
    · iexact H6
  isplitl [H7]
  · iexists _; isplitr
    · ipureintro; exact rfl
    · iexact H7
  isplitl [H8]
  · iexists _; isplitr
    · ipureintro; exact upto_step (n := 2) (by decide) rfl t (S8 m c) (fun u => row8 (ldW (bW m c u)) (ldK (bK m c u))) (fun _ _ => rfl) _ (coord1 t) Y8 fun h => finds8 m c t h Y8 hY8
    · iexact H8
  isplitl [H9]
  · iexists _; isplitr
    · ipureintro; exact rfl
    · iexact H9
  iexists _; isplitr
  · ipureintro; exact upto_step (n := 2) (by decide) rfl t (S10 m c) (fun u => row10 (ldK (bV m c u))) (fun _ _ => rfl) _ (coord1 t) Y10 fun h => finds10 m c t h Y10 hY10
  · iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dats (F := F) m 0 c) (defs₀ (F := F)) Variants.none () Set.univ outw (Rl m c) := fun t => by
  rw [bigSep_W0, bigSep_W0, defs₀_row]
  exact triple_restated (sound_body m c t) rfl .rfl fun _ => .rfl

set_option backward.isDefEq.respectTransparency.types false in
/-- The launch: every execution terminates with the arrays as the proof data allow, and every semaphore counter at zero. -/
theorem run_main_quiescent : θ_run defs (onTc (τ := τ) (main (F := F))) (s₀ m ρ) (fun r => (Pipeline.RDat.FramePost (cfgs 0) (fun c => rdat m c) (V m)) r ∧ r.2.sem = fun _ => 0) :=
  Pipeline.RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.Fin.lean ====
/- What the result arrays hold when the program has run. -/
module

public import proofs.«01_k».proof.Proof.Run
public import Idealize.ShloMosaic.Lib.Pipeline.ValueKit
public import Idealize.ShloMosaic.Lib.Pipeline.DatRel
public import Idealize.ShloMosaic.Lib.Pipeline.ArrRel
public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The point that computes head `p / n` group of batch `b`. -/
def gp (n : ℕ) (b : Fin 5) (h : ℕ) (hh : h < 4 * n) : Fin cfg0.N :=
  ⟨4 * b.val + h / n, by
    have : h / n < 4 := Nat.div_lt_of_lt_mul (by rw [Nat.mul_comm]; exact hh)
    have := b.isLt
    show _ < 20; omega⟩

/-- The result arrays. -/
def A4 (c : Dev nD) : Vec F S5x384x3072 .bf16 := fun i =>
  let t := gp 768 (i 0) (i 2).val (i 2).isLt
  G4 (ldW (bW m c t)) (ldX (bX m c t)) (ldK (bK m c t)) (ldK (bV m c t)) (ix3 (0 : Fin 1) (i 1 : Fin 384) (⟨(i 2).val % 768, Nat.mod_lt _ (by decide)⟩ : Fin 768))
def A5 (c : Dev nD) : Vec F S5x48x64x384 .fp8e4m3 := fun i =>
  let t := gp 12 (i 0) (i 1).val (i 1).isLt
  cod8 (qrOf (ldW (bW m c t)) (ldX (bX m c t)) ⟨(i 1).val % 12, Nat.mod_lt _ (by decide)⟩) (ix2 (i 2 : Fin 64) (i 3 : Fin 384))
def A6 (c : Dev nD) : Vec F S5x48x384 .f32 := fun i =>
  let t := gp 12 (i 0) (i 1).val (i 1).isLt
  row6 (ldW (bW m c t)) (ldX (bX m c t)) ⟨(i 1).val % 12, Nat.mod_lt _ (by decide)⟩ (i 2)
def A7 (c : Dev nD) : Vec F S5x8x64x384 .fp8e4m3 := fun i =>
  let t := gp 2 (i 0) (i 1).val (i 1).isLt
  cod8 (krOf (ldW (bW m c t)) (ldK (bK m c t)) ⟨(i 1).val % 2, Nat.mod_lt _ (by decide)⟩) (ix2 (i 2 : Fin 64) (i 3 : Fin 384))
def A8 (c : Dev nD) : Vec F S5x8x384 .f32 := fun i =>
  let t := gp 2 (i 0) (i 1).val (i 1).isLt
  row8 (ldW (bW m c t)) (ldK (bK m c t)) ⟨(i 1).val % 2, Nat.mod_lt _ (by decide)⟩ (i 2)
def A9 (c : Dev nD) : Vec F S5x8x64x384 .fp8e4m3 := fun i =>
  let t := gp 2 (i 0) (i 1).val (i 1).isLt
  vHead (ldK (bV m c t)) ⟨(i 1).val % 2, Nat.mod_lt _ (by decide)⟩ (ix2 (i 2 : Fin 64) (i 3 : Fin 384))
def A10 (c : Dev nD) : Vec F S5x8x64 .f32 := fun i =>
  let t := gp 2 (i 0) (i 1).val (i 1).isLt
  row10 (ldK (bV m c t)) ⟨(i 1).val % 2, Nat.mod_lt _ (by decide)⟩ (i 2)

/-! Where each block lies in its array. -/

theorem index0 : ∀ t : Fin cfg0.N, win0_0.index t 0 = 0 ∧ win0_0.index t 1 = 0 := by decide +kernel
theorem emb0_0 (t : Fin cfg0.N) (y : (win0_0.xblock (cfg0.grid.coords t)).Idx) : ((win0_0.blk t).view.emb y 0).val = (y 0).val := by
  have h := (index0 t).1
  blk_simp; rw [h]; omega
theorem emb0_1 (t : Fin cfg0.N) (y : (win0_0.xblock (cfg0.grid.coords t)).Idx) : ((win0_0.blk t).view.emb y 1).val = (y 1).val := by
  have h := (index0 t).2
  blk_simp; rw [h]; omega

theorem index1 : ∀ t : Fin cfg0.N, win0_1.index t 0 = t.val / 4 ∧ win0_1.index t 1 = 0 ∧ win0_1.index t 2 = t.val % 4 := by decide +kernel
theorem emb1_0 (t : Fin cfg0.N) (y : (win0_1.xblock (cfg0.grid.coords t)).Idx) : ((win0_1.blk t).view.emb y 0).val = t.val / 4 := by
  have h := (index1 t).1
  have hy : (y 0).val < 1 := (y 0).isLt
  blk_simp; rw [h]
theorem emb1_1 (t : Fin cfg0.N) (y : (win0_1.xblock (cfg0.grid.coords t)).Idx) : ((win0_1.blk t).view.emb y 1).val = (y 1).val := by
  have h := ((index1 t).2).1
  blk_simp; rw [h]; omega
theorem emb1_2 (t : Fin cfg0.N) (y : (win0_1.xblock (cfg0.grid.coords t)).Idx) : ((win0_1.blk t).view.emb y 2).val = 768 * (t.val % 4) + (y 2).val := by
  have h := ((index1 t).2).2
  blk_simp; rw [h]; omega

theorem index2 : ∀ t : Fin cfg0.N, win0_2.index t 0 = t.val / 4 ∧ win0_2.index t 1 = 0 ∧ win0_2.index t 2 = t.val % 4 := by decide +kernel
theorem emb2_0 (t : Fin cfg0.N) (y : (win0_2.xblock (cfg0.grid.coords t)).Idx) : ((win0_2.blk t).view.emb y 0).val = t.val / 4 := by
  have h := (index2 t).1
  have hy : (y 0).val < 1 := (y 0).isLt
  blk_simp; rw [h]
theorem emb2_1 (t : Fin cfg0.N) (y : (win0_2.xblock (cfg0.grid.coords t)).Idx) : ((win0_2.blk t).view.emb y 1).val = (y 1).val := by
  have h := ((index2 t).2).1
  blk_simp; rw [h]; omega
theorem emb2_2 (t : Fin cfg0.N) (y : (win0_2.xblock (cfg0.grid.coords t)).Idx) : ((win0_2.blk t).view.emb y 2).val = 128 * (t.val % 4) + (y 2).val := by
  have h := ((index2 t).2).2
  blk_simp; rw [h]; omega

theorem index3 : ∀ t : Fin cfg0.N, win0_3.index t 0 = t.val / 4 ∧ win0_3.index t 1 = 0 ∧ win0_3.index t 2 = t.val % 4 := by decide +kernel
theorem emb3_0 (t : Fin cfg0.N) (y : (win0_3.xblock (cfg0.grid.coords t)).Idx) : ((win0_3.blk t).view.emb y 0).val = t.val / 4 := by
  have h := (index3 t).1
  have hy : (y 0).val < 1 := (y 0).isLt
  blk_simp; rw [h]
theorem emb3_1 (t : Fin cfg0.N) (y : (win0_3.xblock (cfg0.grid.coords t)).Idx) : ((win0_3.blk t).view.emb y 1).val = (y 1).val := by
  have h := ((index3 t).2).1
  blk_simp; rw [h]; omega
theorem emb3_2 (t : Fin cfg0.N) (y : (win0_3.xblock (cfg0.grid.coords t)).Idx) : ((win0_3.blk t).view.emb y 2).val = 128 * (t.val % 4) + (y 2).val := by
  have h := ((index3 t).2).2
  blk_simp; rw [h]; omega

theorem index4 : ∀ t : Fin cfg0.N, win0_4.index t 0 = t.val / 4 ∧ win0_4.index t 1 = 0 ∧ win0_4.index t 2 = t.val % 4 := by decide +kernel
theorem emb4_0 (t : Fin cfg0.N) (y : (win0_4.xblock (cfg0.grid.coords t)).Idx) : ((win0_4.blk t).view.emb y 0).val = t.val / 4 := by
  have h := (index4 t).1
  have hy : (y 0).val < 1 := (y 0).isLt
  blk_simp; rw [h]
theorem emb4_1 (t : Fin cfg0.N) (y : (win0_4.xblock (cfg0.grid.coords t)).Idx) : ((win0_4.blk t).view.emb y 1).val = (y 1).val := by
  have h := ((index4 t).2).1
  blk_simp; rw [h]; omega
theorem emb4_2 (t : Fin cfg0.N) (y : (win0_4.xblock (cfg0.grid.coords t)).Idx) : ((win0_4.blk t).view.emb y 2).val = 768 * (t.val % 4) + (y 2).val := by
  have h := ((index4 t).2).2
  blk_simp; rw [h]; omega

theorem index5 : ∀ t : Fin cfg0.N, win0_5.index t 0 = t.val / 4 ∧ win0_5.index t 1 = t.val % 4 ∧ win0_5.index t 2 = 0 ∧ win0_5.index t 3 = 0 := by decide +kernel
theorem emb5_0 (t : Fin cfg0.N) (y : (win0_5.xblock (cfg0.grid.coords t)).Idx) : ((win0_5.blk t).view.emb y 0).val = t.val / 4 := by
  have h := (index5 t).1
  have hy : (y 0).val < 1 := (y 0).isLt
  blk_simp; rw [h]
theorem emb5_1 (t : Fin cfg0.N) (y : (win0_5.xblock (cfg0.grid.coords t)).Idx) : ((win0_5.blk t).view.emb y 1).val = 12 * (t.val % 4) + (y 1).val := by
  have h := ((index5 t).2).1
  blk_simp; rw [h]; omega
theorem emb5_2 (t : Fin cfg0.N) (y : (win0_5.xblock (cfg0.grid.coords t)).Idx) : ((win0_5.blk t).view.emb y 2).val = (y 2).val := by
  have h := (((index5 t).2).2).1
  blk_simp; rw [h]; omega
theorem emb5_3 (t : Fin cfg0.N) (y : (win0_5.xblock (cfg0.grid.coords t)).Idx) : ((win0_5.blk t).view.emb y 3).val = (y 3).val := by
  have h := (((index5 t).2).2).2
  blk_simp; rw [h]; omega

theorem index6 : ∀ t : Fin cfg0.N, win0_6.index t 0 = t.val / 4 ∧ win0_6.index t 1 = 0 ∧ win0_6.index t 2 = 0 := by decide +kernel
theorem emb6_0 (t : Fin cfg0.N) (y : (win0_6.xblock (cfg0.grid.coords t)).Idx) : ((win0_6.blk t).view.emb y 0).val = t.val / 4 := by
  have h := (index6 t).1
  have hy : (y 0).val < 1 := (y 0).isLt
  blk_simp; rw [h]
theorem emb6_1 (t : Fin cfg0.N) (y : (win0_6.xblock (cfg0.grid.coords t)).Idx) : ((win0_6.blk t).view.emb y 1).val = (y 1).val := by
  have h := ((index6 t).2).1
  blk_simp; rw [h]; omega
theorem emb6_2 (t : Fin cfg0.N) (y : (win0_6.xblock (cfg0.grid.coords t)).Idx) : ((win0_6.blk t).view.emb y 2).val = (y 2).val := by
  have h := ((index6 t).2).2
  blk_simp; rw [h]; omega

theorem index7 : ∀ t : Fin cfg0.N, win0_7.index t 0 = t.val / 4 ∧ win0_7.index t 1 = t.val % 4 ∧ win0_7.index t 2 = 0 ∧ win0_7.index t 3 = 0 := by decide +kernel
theorem emb7_0 (t : Fin cfg0.N) (y : (win0_7.xblock (cfg0.grid.coords t)).Idx) : ((win0_7.blk t).view.emb y 0).val = t.val / 4 := by
  have h := (index7 t).1
  have hy : (y 0).val < 1 := (y 0).isLt
  blk_simp; rw [h]
theorem emb7_1 (t : Fin cfg0.N) (y : (win0_7.xblock (cfg0.grid.coords t)).Idx) : ((win0_7.blk t).view.emb y 1).val = 2 * (t.val % 4) + (y 1).val := by
  have h := ((index7 t).2).1
  blk_simp; rw [h]; omega
theorem emb7_2 (t : Fin cfg0.N) (y : (win0_7.xblock (cfg0.grid.coords t)).Idx) : ((win0_7.blk t).view.emb y 2).val = (y 2).val := by
  have h := (((index7 t).2).2).1
  blk_simp; rw [h]; omega
theorem emb7_3 (t : Fin cfg0.N) (y : (win0_7.xblock (cfg0.grid.coords t)).Idx) : ((win0_7.blk t).view.emb y 3).val = (y 3).val := by
  have h := (((index7 t).2).2).2
  blk_simp; rw [h]; omega

theorem index8 : ∀ t : Fin cfg0.N, win0_8.index t 0 = t.val / 4 ∧ win0_8.index t 1 = 0 ∧ win0_8.index t 2 = 0 := by decide +kernel
theorem emb8_0 (t : Fin cfg0.N) (y : (win0_8.xblock (cfg0.grid.coords t)).Idx) : ((win0_8.blk t).view.emb y 0).val = t.val / 4 := by
  have h := (index8 t).1
  have hy : (y 0).val < 1 := (y 0).isLt
  blk_simp; rw [h]
theorem emb8_1 (t : Fin cfg0.N) (y : (win0_8.xblock (cfg0.grid.coords t)).Idx) : ((win0_8.blk t).view.emb y 1).val = (y 1).val := by
  have h := ((index8 t).2).1
  blk_simp; rw [h]; omega
theorem emb8_2 (t : Fin cfg0.N) (y : (win0_8.xblock (cfg0.grid.coords t)).Idx) : ((win0_8.blk t).view.emb y 2).val = (y 2).val := by
  have h := ((index8 t).2).2
  blk_simp; rw [h]; omega

theorem index9 : ∀ t : Fin cfg0.N, win0_9.index t 0 = t.val / 4 ∧ win0_9.index t 1 = t.val % 4 ∧ win0_9.index t 2 = 0 ∧ win0_9.index t 3 = 0 := by decide +kernel
theorem emb9_0 (t : Fin cfg0.N) (y : (win0_9.xblock (cfg0.grid.coords t)).Idx) : ((win0_9.blk t).view.emb y 0).val = t.val / 4 := by
  have h := (index9 t).1
  have hy : (y 0).val < 1 := (y 0).isLt
  blk_simp; rw [h]
theorem emb9_1 (t : Fin cfg0.N) (y : (win0_9.xblock (cfg0.grid.coords t)).Idx) : ((win0_9.blk t).view.emb y 1).val = 2 * (t.val % 4) + (y 1).val := by
  have h := ((index9 t).2).1
  blk_simp; rw [h]; omega
theorem emb9_2 (t : Fin cfg0.N) (y : (win0_9.xblock (cfg0.grid.coords t)).Idx) : ((win0_9.blk t).view.emb y 2).val = (y 2).val := by
  have h := (((index9 t).2).2).1
  blk_simp; rw [h]; omega
theorem emb9_3 (t : Fin cfg0.N) (y : (win0_9.xblock (cfg0.grid.coords t)).Idx) : ((win0_9.blk t).view.emb y 3).val = (y 3).val := by
  have h := (((index9 t).2).2).2
  blk_simp; rw [h]; omega

theorem index10 : ∀ t : Fin cfg0.N, win0_10.index t 0 = t.val / 4 ∧ win0_10.index t 1 = 0 ∧ win0_10.index t 2 = 0 := by decide +kernel
theorem emb10_0 (t : Fin cfg0.N) (y : (win0_10.xblock (cfg0.grid.coords t)).Idx) : ((win0_10.blk t).view.emb y 0).val = t.val / 4 := by
  have h := (index10 t).1
  have hy : (y 0).val < 1 := (y 0).isLt
  blk_simp; rw [h]
theorem emb10_1 (t : Fin cfg0.N) (y : (win0_10.xblock (cfg0.grid.coords t)).Idx) : ((win0_10.blk t).view.emb y 1).val = (y 1).val := by
  have h := ((index10 t).2).1
  blk_simp; rw [h]; omega
theorem emb10_2 (t : Fin cfg0.N) (y : (win0_10.xblock (cfg0.grid.coords t)).Idx) : ((win0_10.blk t).view.emb y 2).val = (y 2).val := by
  have h := ((index10 t).2).2
  blk_simp; rw [h]; omega

theorem fin4 {c : Dev nD} (dat : Dat τ (Elt F) Unit ℕ (UR sig nD τ) ℕ cfg0 c) (h : ∀ u, Rl m c 4 u (dat.after 4 u)) : dat.arrAt 4 cfg0.N = A4 m c := by
  refine dat.arrAt_eq_of_covers 4 _ (by decide +kernel) fun t hf y => ?_
  rw [show dat.after 4 t = _ from h t]
  blk_simp
  have e0 := emb4_0 t y; have e1 := emb4_1 t y; have e2 := emb4_2 t y
  have ht : t.val < 20 := t.isLt
  have hy2 : (y 2).val < 768 := (y 2).isLt
  have hy0 : (y 0).val < 1 := (y 0).isLt
  unfold A4
  have hg : gp 768 (((win0_4.blk t).view.emb y) 0) (((win0_4.blk t).view.emb y) 2).val (((win0_4.blk t).view.emb y) 2).isLt = t := by
    apply Fin.ext; show 4 * (((win0_4.blk t).view.emb y) 0).val + (((win0_4.blk t).view.emb y) 2).val / 768 = t.val; rw [e0, e2]; omega
  have h1 : (((win0_4.blk t).view.emb y) 1 : Fin 384) = y 1 := Fin.ext e1
  have h2 : (⟨(((win0_4.blk t).view.emb y) 2).val % 768, Nat.mod_lt _ (by decide)⟩ : Fin 768) = y 2 := Fin.ext (by show (((win0_4.blk t).view.emb y) 2).val % 768 = (y 2).val; rw [e2]; omega)
  dsimp only
  rw [hg, h1, h2]
  congr 1
  funext a; fin_cases a
  · exact Fin.ext (by show (y 0).val = 0; omega)
  · rfl
  · rfl

theorem fin5 {c : Dev nD} (dat : Dat τ (Elt F) Unit ℕ (UR sig nD τ) ℕ cfg0 c) (h : ∀ u, Rl m c 5 u (dat.after 5 u)) : dat.arrAt 5 cfg0.N = A5 m c := by
  refine dat.arrAt_eq_of_covers 5 _ (by decide +kernel) fun t hf y => ?_
  rw [show dat.after 5 t = _ from h t]
  blk_simp
  have e0 := emb5_0 t y; have e1 := emb5_1 t y; have e2 := emb5_2 t y
  have e3 := emb5_3 t y
  have ht : t.val < 20 := t.isLt
  have hy1 : (y 1).val < 12 := (y 1).isLt
  unfold A5
  have hg : gp 12 (((win0_5.blk t).view.emb y) 0) (((win0_5.blk t).view.emb y) 1).val (((win0_5.blk t).view.emb y) 1).isLt = t := by
    apply Fin.ext; show 4 * (((win0_5.blk t).view.emb y) 0).val + (((win0_5.blk t).view.emb y) 1).val / 12 = t.val; rw [e0, e1]; omega
  have hp : (⟨(((win0_5.blk t).view.emb y) 1).val % 12, Nat.mod_lt _ (by decide)⟩ : Fin 12) = y 1 := Fin.ext (by show (((win0_5.blk t).view.emb y) 1).val % 12 = (y 1).val; rw [e1]; omega)
  have h2 : (((win0_5.blk t).view.emb y) 2 : Fin 64) = y 2 := Fin.ext e2
  have h3 : (((win0_5.blk t).view.emb y) 3 : Fin 384) = y 3 := Fin.ext e3
  dsimp only
  rw [hg, hp, h2, h3]
  rfl

theorem fin6 {c : Dev nD} (dat : Dat τ (Elt F) Unit ℕ (UR sig nD τ) ℕ cfg0 c) (h : ∀ u, (cfg0.win 6).flush u = true → Rl m c 6 u (dat.after 6 u)) : dat.arrAt 6 cfg0.N = A6 m c := by
  refine dat.arrAt_eq_of_covers 6 _ (by decide +kernel) fun t hf y => ?_
  have h3 : t.val % 4 = 3 := (flush0_6 t).mp hf
  have hy1 : (y 1).val < 48 := (y 1).isLt
  refine Eq.trans (?_ : _ = dat.after 6 t y) ((h t hf y (by rw [h3]; exact hy1)).trans ?_)
  · blk_simp
  have e0 := emb6_0 t y; have e1 := emb6_1 t y; have e2 := emb6_2 t y
  have ht : t.val < 20 := t.isLt
  unfold A6
  unfold S6
  have hg : gp 12 (((win0_6.blk t).view.emb y) 0) (((win0_6.blk t).view.emb y) 1).val (((win0_6.blk t).view.emb y) 1).isLt = pt 12 t (y 1).val (y 1).isLt := by
    apply Fin.ext; show 4 * (((win0_6.blk t).view.emb y) 0).val + (((win0_6.blk t).view.emb y) 1).val / 12 = 4 * (t.val / 4) + (y 1).val / 12; rw [e0, e1]
  have hp : (⟨(((win0_6.blk t).view.emb y) 1).val % 12, Nat.mod_lt _ (by decide)⟩ : Fin 12) = ⟨(y 1).val % 12, Nat.mod_lt _ (by decide)⟩ := Fin.ext (by show (((win0_6.blk t).view.emb y) 1).val % 12 = (y 1).val % 12; rw [e1])
  have h2 : (((win0_6.blk t).view.emb y) 2 : Fin 384) = y 2 := Fin.ext e2
  dsimp only
  rw [hg, hp, h2]

theorem fin7 {c : Dev nD} (dat : Dat τ (Elt F) Unit ℕ (UR sig nD τ) ℕ cfg0 c) (h : ∀ u, Rl m c 7 u (dat.after 7 u)) : dat.arrAt 7 cfg0.N = A7 m c := by
  refine dat.arrAt_eq_of_covers 7 _ (by decide +kernel) fun t hf y => ?_
  rw [show dat.after 7 t = _ from h t]
  blk_simp
  have e0 := emb7_0 t y; have e1 := emb7_1 t y; have e2 := emb7_2 t y
  have e3 := emb7_3 t y
  have ht : t.val < 20 := t.isLt
  have hy1 : (y 1).val < 2 := (y 1).isLt
  unfold A7
  have hg : gp 2 (((win0_7.blk t).view.emb y) 0) (((win0_7.blk t).view.emb y) 1).val (((win0_7.blk t).view.emb y) 1).isLt = t := by
    apply Fin.ext; show 4 * (((win0_7.blk t).view.emb y) 0).val + (((win0_7.blk t).view.emb y) 1).val / 2 = t.val; rw [e0, e1]; omega
  have hp : (⟨(((win0_7.blk t).view.emb y) 1).val % 2, Nat.mod_lt _ (by decide)⟩ : Fin 2) = y 1 := Fin.ext (by show (((win0_7.blk t).view.emb y) 1).val % 2 = (y 1).val; rw [e1]; omega)
  have h2 : (((win0_7.blk t).view.emb y) 2 : Fin 64) = y 2 := Fin.ext e2
  have h3 : (((win0_7.blk t).view.emb y) 3 : Fin 384) = y 3 := Fin.ext e3
  dsimp only
  rw [hg, hp, h2, h3]
  rfl

theorem fin8 {c : Dev nD} (dat : Dat τ (Elt F) Unit ℕ (UR sig nD τ) ℕ cfg0 c) (h : ∀ u, (cfg0.win 8).flush u = true → Rl m c 8 u (dat.after 8 u)) : dat.arrAt 8 cfg0.N = A8 m c := by
  refine dat.arrAt_eq_of_covers 8 _ (by decide +kernel) fun t hf y => ?_
  have h3 : t.val % 4 = 3 := (flush0_8 t).mp hf
  have hy1 : (y 1).val < 8 := (y 1).isLt
  refine Eq.trans (?_ : _ = dat.after 8 t y) ((h t hf y (by rw [h3]; exact hy1)).trans ?_)
  · blk_simp
  have e0 := emb8_0 t y; have e1 := emb8_1 t y; have e2 := emb8_2 t y
  have ht : t.val < 20 := t.isLt
  unfold A8
  unfold S8
  have hg : gp 2 (((win0_8.blk t).view.emb y) 0) (((win0_8.blk t).view.emb y) 1).val (((win0_8.blk t).view.emb y) 1).isLt = pt 2 t (y 1).val (y 1).isLt := by
    apply Fin.ext; show 4 * (((win0_8.blk t).view.emb y) 0).val + (((win0_8.blk t).view.emb y) 1).val / 2 = 4 * (t.val / 4) + (y 1).val / 2; rw [e0, e1]
  have hp : (⟨(((win0_8.blk t).view.emb y) 1).val % 2, Nat.mod_lt _ (by decide)⟩ : Fin 2) = ⟨(y 1).val % 2, Nat.mod_lt _ (by decide)⟩ := Fin.ext (by show (((win0_8.blk t).view.emb y) 1).val % 2 = (y 1).val % 2; rw [e1])
  have h2 : (((win0_8.blk t).view.emb y) 2 : Fin 384) = y 2 := Fin.ext e2
  dsimp only
  rw [hg, hp, h2]

theorem fin9 {c : Dev nD} (dat : Dat τ (Elt F) Unit ℕ (UR sig nD τ) ℕ cfg0 c) (h : ∀ u, Rl m c 9 u (dat.after 9 u)) : dat.arrAt 9 cfg0.N = A9 m c := by
  refine dat.arrAt_eq_of_covers 9 _ (by decide +kernel) fun t hf y => ?_
  rw [show dat.after 9 t = _ from h t]
  blk_simp
  have e0 := emb9_0 t y; have e1 := emb9_1 t y; have e2 := emb9_2 t y
  have e3 := emb9_3 t y
  have ht : t.val < 20 := t.isLt
  have hy1 : (y 1).val < 2 := (y 1).isLt
  unfold A9
  have hg : gp 2 (((win0_9.blk t).view.emb y) 0) (((win0_9.blk t).view.emb y) 1).val (((win0_9.blk t).view.emb y) 1).isLt = t := by
    apply Fin.ext; show 4 * (((win0_9.blk t).view.emb y) 0).val + (((win0_9.blk t).view.emb y) 1).val / 2 = t.val; rw [e0, e1]; omega
  have hp : (⟨(((win0_9.blk t).view.emb y) 1).val % 2, Nat.mod_lt _ (by decide)⟩ : Fin 2) = y 1 := Fin.ext (by show (((win0_9.blk t).view.emb y) 1).val % 2 = (y 1).val; rw [e1]; omega)
  have h2 : (((win0_9.blk t).view.emb y) 2 : Fin 64) = y 2 := Fin.ext e2
  have h3 : (((win0_9.blk t).view.emb y) 3 : Fin 384) = y 3 := Fin.ext e3
  dsimp only
  rw [hg, hp, h2, h3]
  rfl

theorem fin10 {c : Dev nD} (dat : Dat τ (Elt F) Unit ℕ (UR sig nD τ) ℕ cfg0 c) (h : ∀ u, (cfg0.win 10).flush u = true → Rl m c 10 u (dat.after 10 u)) : dat.arrAt 10 cfg0.N = A10 m c := by
  refine dat.arrAt_eq_of_covers 10 _ (by decide +kernel) fun t hf y => ?_
  have h3 : t.val % 4 = 3 := (flush0_10 t).mp hf
  have hy1 : (y 1).val < 8 := (y 1).isLt
  refine Eq.trans (?_ : _ = dat.after 10 t y) ((h t hf y (by rw [h3]; exact hy1)).trans ?_)
  · blk_simp
  have e0 := emb10_0 t y; have e1 := emb10_1 t y; have e2 := emb10_2 t y
  have ht : t.val < 20 := t.isLt
  unfold A10
  unfold S10
  have hg : gp 2 (((win0_10.blk t).view.emb y) 0) (((win0_10.blk t).view.emb y) 1).val (((win0_10.blk t).view.emb y) 1).isLt = pt 2 t (y 1).val (y 1).isLt := by
    apply Fin.ext; show 4 * (((win0_10.blk t).view.emb y) 0).val + (((win0_10.blk t).view.emb y) 1).val / 2 = 4 * (t.val / 4) + (y 1).val / 2; rw [e0, e1]
  have hp : (⟨(((win0_10.blk t).view.emb y) 1).val % 2, Nat.mod_lt _ (by decide)⟩ : Fin 2) = ⟨(y 1).val % 2, Nat.mod_lt _ (by decide)⟩ := Fin.ext (by show (((win0_10.blk t).view.emb y) 1).val % 2 = (y 1).val % 2; rw [e1])
  have h2 : (((win0_10.blk t).view.emb y) 2 : Fin 64) = y 2 := Fin.ext e2
  dsimp only
  rw [hg, hp, h2]

/-! The input blocks, read off the arrays. -/

theorem bW_apply (c : Dev nD) (t : Fin cfg0.N) (a b : Fin 256) : bW m c t (ix2 a b) = (V m c main_v22 : Vec F S256x256 .bf16) (ix2 a b) := by
  show (V m c main_v22 : Vec F S256x256 .bf16) ((win0_0.blk t).view.emb (ix2 a b)) = _
  congr 1; funext k; fin_cases k
  · exact Fin.ext (emb0_0 t (ix2 a b))
  · exact Fin.ext (emb0_1 t (ix2 a b))

theorem bX_apply (c : Dev nD) (t : Fin cfg0.N) (a : Fin 384) (b : Fin 768) (b' : Fin 5) (hb : b'.val = t.val / 4) (q : Fin 3072) (hq : q.val = 768 * (t.val % 4) + b.val) :
    bX m c t (ix3 (0 : Fin 1) a b) = (m ((c : Thread nD τ).loc main_arg0) : Vec F S5x384x3072 .bf16) (ix3 b' a q) := by
  rw [← V_main_arg0 m c]
  show (V m c main_arg0 : Vec F S5x384x3072 .bf16) ((win0_1.blk t).view.emb (ix3 (0 : Fin 1) a b)) = _
  congr 1; funext k; fin_cases k
  · exact Fin.ext ((emb1_0 t (ix3 (0 : Fin 1) a b)).trans hb.symm)
  · exact Fin.ext (emb1_1 t (ix3 (0 : Fin 1) a b))
  · exact Fin.ext ((emb1_2 t (ix3 (0 : Fin 1) a b)).trans hq.symm)

theorem bK_apply (c : Dev nD) (t : Fin cfg0.N) (a : Fin 384) (b : Fin 128) (b' : Fin 5) (hb : b'.val = t.val / 4) (q : Fin 512) (hq : q.val = 128 * (t.val % 4) + b.val) :
    bK m c t (ix3 (0 : Fin 1) a b) = (m ((c : Thread nD τ).loc main_arg1) : Vec F S5x384x512 .bf16) (ix3 b' a q) := by
  rw [← V_main_arg1 m c]
  show (V m c main_arg1 : Vec F S5x384x512 .bf16) ((win0_2.blk t).view.emb (ix3 (0 : Fin 1) a b)) = _
  congr 1; funext k; fin_cases k
  · exact Fin.ext ((emb2_0 t (ix3 (0 : Fin 1) a b)).trans hb.symm)
  · exact Fin.ext (emb2_1 t (ix3 (0 : Fin 1) a b))
  · exact Fin.ext ((emb2_2 t (ix3 (0 : Fin 1) a b)).trans hq.symm)

theorem bV_apply (c : Dev nD) (t : Fin cfg0.N) (a : Fin 384) (b : Fin 128) (b' : Fin 5) (hb : b'.val = t.val / 4) (q : Fin 512) (hq : q.val = 128 * (t.val % 4) + b.val) :
    bV m c t (ix3 (0 : Fin 1) a b) = (m ((c : Thread nD τ).loc main_arg2) : Vec F S5x384x512 .bf16) (ix3 b' a q) := by
  rw [← V_main_arg2 m c]
  show (V m c main_arg2 : Vec F S5x384x512 .bf16) ((win0_3.blk t).view.emb (ix3 (0 : Fin 1) a b)) = _
  congr 1; funext k; fin_cases k
  · exact Fin.ext ((emb3_0 t (ix3 (0 : Fin 1) a b)).trans hb.symm)
  · exact Fin.ext (emb3_1 t (ix3 (0 : Fin 1) a b))
  · exact Fin.ext ((emb3_2 t (ix3 (0 : Fin 1) a b)).trans hq.symm)

/-- What a final state of the frame run has in the result arrays. -/
theorem results (r : PUnit × MemSt nD τ sig (Elt F)) (h : Pipeline.RDat.FramePost (cfgs 0) (fun c => rdat m c) (V m) r) (c : Dev nD) :
    r.2.mem ((c.tc : Thread nD τ).loc main_v23_0) = A4 m c ∧ r.2.mem ((c.tc : Thread nD τ).loc main_v23_1) = A5 m c ∧ r.2.mem ((c.tc : Thread nD τ).loc main_v23_2) = A6 m c ∧ r.2.mem ((c.tc : Thread nD τ).loc main_v23_3) = A7 m c ∧ r.2.mem ((c.tc : Thread nD τ).loc main_v23_4) = A8 m c ∧ r.2.mem ((c.tc : Thread nD τ).loc main_v23_5) = A9 m c ∧ r.2.mem ((c.tc : Thread nD τ).loc main_v23_6) = A10 m c := by
  obtain ⟨after, hL, hA⟩ := Pipeline.RDat.FramePost.exists_exact h c
  have hR : ∀ (w : Fin 11) (hw : outw w = true) (u : Fin cfg0.N), (cfg0.win w).flush u = true → Rl m c w u (after w u) :=
    fun w hw u hf => (dats m 0 c).toRRel_leaves hw (hL w u hf)
  exact ⟨(hA 4).trans (fin4 m ((rdat m c).withAfter after) fun u => hR 4 rfl u (flush0_4 u)), (hA 5).trans (fin5 m ((rdat m c).withAfter after) fun u => hR 5 rfl u (flush0_5 u)), (hA 6).trans (fin6 m ((rdat m c).withAfter after) fun u hf => hR 6 rfl u hf), (hA 7).trans (fin7 m ((rdat m c).withAfter after) fun u => hR 7 rfl u (flush0_7 u)), (hA 8).trans (fin8 m ((rdat m c).withAfter after) fun u hf => hR 8 rfl u hf), (hA 9).trans (fin9 m ((rdat m c).withAfter after) fun u => hR 9 rfl u (flush0_9 u)), (hA 10).trans (fin10 m ((rdat m c).withAfter after) fun u hf => hR 10 rfl u hf)⟩

/-- The argument arrays end unchanged. -/
theorem args_of (rd : (c : Dev nD) → Pipeline.RDat τ (Elt F) Unit ℕ (UR sig nD τ) ℕ (cfgs 0) c)
    (hA : ∀ c w, (rd c).A w = V m c (Pipeline.arrRef spec0 w))
    (r : PUnit × MemSt nD τ sig (Elt F)) (h : Pipeline.RDat.FramePost (cfgs 0) rd (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  ⟨(Pipeline.RDat.FramePost.arr_in h c 1 rfl).trans ((hA c 1).trans (V_main_arg0 m c)), (Pipeline.RDat.FramePost.arr_in h c 2 rfl).trans ((hA c 2).trans (V_main_arg1 m c)), (Pipeline.RDat.FramePost.arr_in h c 3 rfl).trans ((hA c 3).trans (V_main_arg2 m c))⟩

/-- Every execution terminates with the arguments unchanged, the results as specified and every counter at zero. -/
theorem run_values : θ_run defs (onTc (τ := τ) (main (F := F))) ⟨m, fun _ => 0, ρ⟩ (fun r => ((∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ ∀ c : Dev nD, r.2.mem ((c.tc : Thread nD τ).loc main_v23_0) = A4 m c ∧ r.2.mem ((c.tc : Thread nD τ).loc main_v23_1) = A5 m c ∧ r.2.mem ((c.tc : Thread nD τ).loc main_v23_2) = A6 m c ∧ r.2.mem ((c.tc : Thread nD τ).loc main_v23_3) = A7 m c ∧ r.2.mem ((c.tc : Thread nD τ).loc main_v23_4) = A8 m c ∧ r.2.mem ((c.tc : Thread nD τ).loc main_v23_5) = A9 m c ∧ r.2.mem ((c.tc : Thread nD τ).loc main_v23_6) = A10 m c) ∧ r.2.sem = fun _ => 0) :=
  (θ_run defs _ _).mono (fun r h => ⟨⟨args_of m (rdat m) (A_eq m) r h.1, results m r h.1⟩, h.2⟩) (run_main_quiescent m ρ)

end Cert.KernelIdeal.Hand

end
-- ==== Proof.Scale.lean ====
/- The scale of a non-negative value over the extended reals: the exponent search over bit patterns finds the power of two above the
   value, and the logarithm's floor finds the same power. -/
module

public import proofs.«01_k».proof.Proof.Heads
public import Idealize.ShloMosaic.Lib.Pointwise
public import Mathlib.Analysis.SpecialFunctions.Log.Basic
public import Mathlib.Analysis.SpecialFunctions.Pow.Real

@[expose] public section

set_option maxRecDepth 16384

namespace Cert.KernelIdeal.Hand

open Idealize.ShloMosaic

noncomputable section

/-- The pattern with exponent field `n` and nothing else set. -/
def pat (n : ℕ) : BitVec 32 := BitVec.ofNat 32 (n * 8388608)

theorem pat_ext (n : ℕ) (hn : n ≤ 255) : ((pat n).extractLsb' 23 8).toNat = n ∧ ((pat n).extractLsb' 0 23).toNat = 0
    ∧ ((pat n).extractLsb' 31 1 == 1#1) = false := by
  have : ∀ n : Fin 256, ((pat n.val).extractLsb' 23 8).toNat = n.val ∧ ((pat n.val).extractLsb' 0 23).toNat = 0
    ∧ ((pat n.val).extractLsb' 31 1 == 1#1) = false := by decide +kernel
  exact this ⟨n, by omega⟩

/-- A pattern with an exponent field strictly between 0 and 255 denotes the power of two. -/
theorem ofBits_pat (n : ℕ) (h1 : 1 ≤ n) (h2 : n ≤ 254) : Ideal.ofBits .f32 (pat n) = (((2 : ℝ) ^ ((n : ℤ) - 127) : ℝ) : EReal) := by
  obtain ⟨ha, hb, hc⟩ := pat_ext n (by omega)
  show Ideal.ieee 8 23 (pat n) = _
  unfold Ideal.ieee
  simp only [show (8 + 23 : ℕ) = 31 from rfl, ha, hb, hc]
  rw [if_neg (by norm_num; omega), if_neg (by omega)]
  congr 1
  have : ((n : ℤ) - (2 ^ (8 - 1) - 1) - ((23 : ℕ) : ℤ)) = ((n : ℤ) - 127) + (-23) := by norm_num; ring
  rw [this, zpow_add₀ (by norm_num : (2 : ℝ) ≠ 0)]
  norm_num
  ring

theorem ofBits_top : Ideal.ofBits .f32 (pat 255) = ⊤ := by simp [pat, Ideal.ofBits, Ideal.ieee]

/-- One step of the search at one value. -/
def stepS (y : EReal) (k b : BitVec 32) : BitVec 32 := if y < Ideal.ofBits .f32 (b + k) then b else b + k

/-- The search at one value. -/
def fieldS (y : EReal) : BitVec 32 :=
  stepS y 8388608#32 (stepS y 16777216#32 (stepS y 33554432#32 (stepS y 67108864#32 (stepS y 134217728#32
    (stepS y 268435456#32 (stepS y 536870912#32 (stepS y 1073741824#32 0#32)))))))

/-- The scale's pattern at one value. -/
def sbitsS (y : EReal) : BitVec 32 :=
  if (fieldS y).slt 8388608#32 then 1065353216#32 else (fieldS y &&& 2139095040#32) + 8388608#32

/-- The scale at one value. -/
def sclS (y : EReal) : EReal := Ideal.ofBits .f32 (sbitsS y)
/-- The inverse scale at one value. -/
def invS (y : EReal) : EReal := Ideal.ofBits .f32 (2130706432#32 - sbitsS y)

section Link
variable {s : Shape}

theorem step_apply (y : FVec Ideal s .f32) (k : BitVec 32) (b : IVec s 32) (i : s.Idx) : step y k b i = stepS (y i) k (b i) := by
  show (if BitVec.ofBool (decide ((y i : EReal) < Ideal.ofBits .f32 (b i + k))) = 1 then b i else b i + k) = _
  unfold stepS
  by_cases h : (y i : EReal) < Ideal.ofBits .f32 (b i + k) <;> simp [h]

theorem fieldOf_apply (y : FVec Ideal s .f32) (i : s.Idx) : fieldOf y i = fieldS (y i) := by
  simp only [fieldOf, step_apply]; rfl

theorem sbitsOf_apply (y : FVec Ideal s .f32) (i : s.Idx) : sbitsOf y i = sbitsS (y i) := by
  show (if BitVec.ofBool ((fieldOf y i).slt 8388608#32) = 1 then 1065353216#32 else (fieldOf y i &&& 2139095040#32) + 8388608#32) = _
  rw [fieldOf_apply]
  unfold sbitsS
  by_cases h : (fieldS (y i)).slt 8388608#32 <;> simp [h]

/-- The scale of a vector is the scale of each element. -/
theorem sclOf_apply (y : FVec Ideal s .f32) (i : s.Idx) : sclOf y i = sclS (y i) := by
  show Ideal.ofBits .f32 (sbitsOf y i) = _
  rw [sbitsOf_apply]; rfl

/-- The inverse scale of a vector is the inverse scale of each element. -/
theorem invOf_apply (y : FVec Ideal s .f32) (i : s.Idx) : invOf y i = invS (y i) := by
  show Ideal.ofBits .f32 (2130706432#32 - sbitsOf y i) = _
  rw [sbitsOf_apply]; rfl

end Link

theorem pat_add (a b : ℕ) : pat a + pat b = pat (a + b) := by
  unfold pat; rw [← BitVec.ofNat_add, ← Nat.add_mul]

/-- A step where the comparisons with the patterns are those of the field's number `N`. -/
theorem stepS_pat (y : EReal) (N : ℕ) (hy : ∀ p, 1 ≤ p → p ≤ 255 → (y < Ideal.ofBits .f32 (pat p) ↔ N < p)) (n q : ℕ) (h1 : 1 ≤ n + q)
    (h2 : n + q ≤ 255) : stepS y (pat q) (pat n) = pat (if N < n + q then n else n + q) := by
  unfold stepS
  rw [pat_add]
  by_cases h : N < n + q
  · rw [if_pos h, if_pos ((hy _ h1 h2).mpr h)]
  · rw [if_neg h, if_neg (fun h' => h ((hy _ h1 h2).mp h'))]

/-- The search finds the field's number. -/
theorem fieldS_eq (y : EReal) (N : ℕ) (hN : N ≤ 254) (hy : ∀ p, 1 ≤ p → p ≤ 255 → (y < Ideal.ofBits .f32 (pat p) ↔ N < p)) :
    fieldS y = pat N := by
  have key : ∀ n q : ℕ, 1 ≤ q → n + 2 * q ≤ 256 → n ≤ N → N < n + 2 * q →
      ∃ n', stepS y (pat q) (pat n) = pat n' ∧ n' ≤ N ∧ N < n' + q ∧ n' + q ≤ 256 := by
    intro n q hq h2 h3 h4
    refine ⟨_, stepS_pat y N hy n q (by omega) (by omega), ?_⟩
    split_ifs <;> omega
  obtain ⟨n1, e1, a1, b1, c1⟩ := key 0 128 (by norm_num) (by norm_num) (by omega) (by omega)
  obtain ⟨n2, e2, a2, b2, c2⟩ := key n1 64 (by norm_num) (by omega) (by omega) (by omega)
  obtain ⟨n3, e3, a3, b3, c3⟩ := key n2 32 (by norm_num) (by omega) (by omega) (by omega)
  obtain ⟨n4, e4, a4, b4, c4⟩ := key n3 16 (by norm_num) (by omega) (by omega) (by omega)
  obtain ⟨n5, e5, a5, b5, c5⟩ := key n4 8 (by norm_num) (by omega) (by omega) (by omega)
  obtain ⟨n6, e6, a6, b6, c6⟩ := key n5 4 (by norm_num) (by omega) (by omega) (by omega)
  obtain ⟨n7, e7, a7, b7, c7⟩ := key n6 2 (by norm_num) (by omega) (by omega) (by omega)
  obtain ⟨n8, e8, a8, b8, c8⟩ := key n7 1 (by norm_num) (by omega) (by omega) (by omega)
  have hn : n8 = N := by omega
  unfold fieldS
  rw [show (8388608#32 : BitVec 32) = pat 1 from rfl, show (16777216#32 : BitVec 32) = pat 2 from rfl,
    show (33554432#32 : BitVec 32) = pat 4 from rfl, show (67108864#32 : BitVec 32) = pat 8 from rfl,
    show (134217728#32 : BitVec 32) = pat 16 from rfl, show (268435456#32 : BitVec 32) = pat 32 from rfl,
    show (536870912#32 : BitVec 32) = pat 64 from rfl, show (1073741824#32 : BitVec 32) = pat 128 from rfl,
    show (0#32 : BitVec 32) = pat 0 from rfl, e1, e2, e3, e4, e5, e6, e7, e8, hn]

theorem sbitsS_eq (y : EReal) (N : ℕ) (hN : N ≤ 252) (hf : fieldS y = pat N) :
    sbitsS y = pat (if N = 0 then 127 else N + 1) := by
  have e : ∀ N : Fin 253, (if (pat N.val).slt 8388608#32 then 1065353216#32 else (pat N.val &&& 2139095040#32) + 8388608#32)
      = pat (if N.val = 0 then 127 else N.val + 1) := by decide +kernel
  unfold sbitsS
  rw [hf]
  exact e ⟨N, by omega⟩

theorem pat_sub (n : ℕ) (h : n ≤ 254) : (2130706432#32 : BitVec 32) - pat n = pat (254 - n) := by
  have : ∀ n : Fin 255, (2130706432#32 : BitVec 32) - pat n.val = pat (254 - n.val) := by decide +kernel
  exact this ⟨n, by omega⟩

/-- The reference's exponent at one value. -/
def expoS (y : EReal) : EReal :=
  if y < Ideal.ofBits .f32 0x00800000#32 then Ideal.ofBits .f32 0x00000000#32
  else Ideal.liftRound Int.floor (Ideal.div (Ideal.log y) (Ideal.log (Ideal.ofBits .f32 0x40000000#32))) + Ideal.ofBits .f32 0x3F800000#32
/-- The reference's scale at one value. -/
def rsclS (y : EReal) : EReal := Ideal.exp (expoS y * Ideal.log (Ideal.ofBits .f32 0x40000000#32))
/-- The reference's inverse scale at one value. -/
def rinvS (y : EReal) : EReal := Ideal.exp (-(expoS y) * Ideal.log (Ideal.ofBits .f32 0x40000000#32))

theorem log_two : Ideal.log (Ideal.ofBits .f32 0x40000000#32) = ((Real.log 2 : ℝ) : EReal) := by
  have : Ideal.ofBits .f32 0x40000000#32 = ((2 : ℝ) : EReal) := by
    have := ofBits_pat 128 (by norm_num) (by norm_num)
    rw [show (0x40000000#32 : BitVec 32) = pat 128 from rfl, this]; norm_num
  rw [this]
  show (if (2 : ℝ) ≤ 0 then (⊥ : EReal) else ((Real.log 2 : ℝ) : EReal)) = _
  rw [if_neg (by norm_num)]

theorem exp_mul_log_two (e : ℤ) : Ideal.exp (((e : ℝ) : EReal) * ((Real.log 2 : ℝ) : EReal)) = (((2 : ℝ) ^ e : ℝ) : EReal) := by
  rw [← EReal.coe_mul]
  show ((Real.exp ((e : ℝ) * Real.log 2) : ℝ) : EReal) = _
  rw [mul_comm, Real.exp_mul, Real.exp_log (by norm_num), Real.rpow_intCast]

/-- The kernel's scale of a non-negative value below `2^126` is a power of two, its inverse scale is the inverse power, and the
    reference's scale and inverse scale are the same. -/
theorem scale_facts (y : ℝ) (h0 : 0 ≤ y) (h1 : y < (2 : ℝ) ^ (126 : ℤ)) : ∃ e : ℤ,
    sclS (y : EReal) = (((2 : ℝ) ^ e : ℝ) : EReal) ∧ invS (y : EReal) = (((2 : ℝ) ^ (-e) : ℝ) : EReal)
      ∧ rsclS (y : EReal) = (((2 : ℝ) ^ e : ℝ) : EReal) ∧ rinvS (y : EReal) = (((2 : ℝ) ^ (-e) : ℝ) : EReal) := by
  have h2 : (1 : ℝ) < 2 := by norm_num
  have hz : Ideal.ofBits .f32 0x00800000#32 = (((2 : ℝ) ^ (-126 : ℤ) : ℝ) : EReal) := by
    rw [show (0x00800000#32 : BitVec 32) = pat 1 from rfl, ofBits_pat 1 (by norm_num) (by norm_num)]; norm_num
  -- the field's number and the reference's exponent
  obtain ⟨N, e, hN, hlo, hhi, he, hex⟩ : ∃ (N : ℕ) (e : ℤ), N ≤ 252 ∧ (1 ≤ N → (2 : ℝ) ^ ((N : ℤ) - 127) ≤ y) ∧ y < (2 : ℝ) ^ ((N : ℤ) - 126)
      ∧ (e = if N = 0 then 0 else (N : ℤ) - 126) ∧ expoS (y : EReal) = ((e : ℝ) : EReal) := by
    by_cases hs : y < (2 : ℝ) ^ (-126 : ℤ)
    · refine ⟨0, 0, by norm_num, by norm_num, by simpa using hs, by simp, ?_⟩
      unfold expoS
      rw [hz, if_pos (by exact_mod_cast hs)]
      simp [Ideal.ofBits, Ideal.ieee]
    · push Not at hs
      have hy : 0 < y := lt_of_lt_of_le (by positivity) hs
      have hl2 : 0 < Real.log 2 := Real.log_pos h2
      set f : ℤ := ⌊Real.log y / Real.log 2⌋ with hf
      have hlogz : ∀ z : ℤ, Real.log ((2 : ℝ) ^ z) = z * Real.log 2 := fun z => Real.log_zpow 2 z
      have hle : (2 : ℝ) ^ f ≤ y := by
        rw [← Real.log_le_log_iff (by positivity) hy, hlogz, ← le_div_iff₀ hl2]
        exact Int.floor_le _
      have hlt : y < (2 : ℝ) ^ (f + 1) := by
        rw [← Real.log_lt_log_iff hy (by positivity), hlogz, ← div_lt_iff₀ hl2]
        push_cast
        exact Int.lt_floor_add_one _
      have hf1 : -126 ≤ f := by
        have : (2 : ℝ) ^ (-126 : ℤ) < (2 : ℝ) ^ (f + 1) := lt_of_le_of_lt hs hlt
        have := (zpow_lt_zpow_iff_right₀ h2).mp this
        omega
      have hf2 : f < 126 := by
        have : (2 : ℝ) ^ f < (2 : ℝ) ^ (126 : ℤ) := lt_of_le_of_lt hle h1
        exact (zpow_lt_zpow_iff_right₀ h2).mp this
      have hNat : (((f + 127).toNat : ℕ) : ℤ) = f + 127 := Int.toNat_of_nonneg (by omega)
      refine ⟨(f + 127).toNat, f + 1, by omega, fun _ => ?_, ?_, ?_, ?_⟩
      · rw [hNat, show f + 127 - 127 = f by ring]; exact hle
      · rw [hNat, show f + 127 - 126 = f + 1 by ring]; exact hlt
      · rw [if_neg (by omega), hNat]; ring
      · unfold expoS
        rw [hz, if_neg (by rw [not_lt]; exact_mod_cast hs), log_two,
          show Ideal.log (y : EReal) = ((Real.log y : ℝ) : EReal) from if_neg (not_le.mpr hy)]
        unfold Ideal.div
        rw [if_neg (by exact_mod_cast hl2.ne'), ← EReal.coe_inv, ← EReal.coe_mul, ← div_eq_mul_inv, Ideal.liftRound_coe,
          show Ideal.ofBits .f32 0x3F800000#32 = ((1 : ℝ) : EReal) by simp [Ideal.ofBits, Ideal.ieee, -EReal.coe_mul]; norm_num,
          ← EReal.coe_add]
        push_cast
        rfl
  have hfield : fieldS (y : EReal) = pat N := by
    refine fieldS_eq _ N (by omega) fun p hp1 hp2 => ?_
    rcases Nat.lt_or_ge p 255 with hp | hp
    · rw [ofBits_pat p hp1 (by omega), EReal.coe_lt_coe_iff]
      constructor
      · intro h
        by_contra hc
        push Not at hc
        have : (2 : ℝ) ^ ((p : ℤ) - 127) ≤ (2 : ℝ) ^ ((N : ℤ) - 127) := zpow_le_zpow_right₀ h2.le (by omega)
        linarith [hlo (by omega)]
      · intro h
        exact lt_of_lt_of_le hhi (zpow_le_zpow_right₀ h2.le (by omega))
    · have : p = 255 := by omega
      subst this
      rw [ofBits_top]
      exact ⟨fun _ => by omega, fun _ => EReal.coe_lt_top y⟩
  have hsb := sbitsS_eq _ N hN hfield
  have hr : rsclS (y : EReal) = (((2 : ℝ) ^ e : ℝ) : EReal) := by
    unfold rsclS; rw [hex, log_two, exp_mul_log_two]
  have hri : rinvS (y : EReal) = (((2 : ℝ) ^ (-e) : ℝ) : EReal) := by
    unfold rinvS; rw [hex, log_two, ← exp_mul_log_two (-e)]; push_cast; rfl
  refine ⟨e, ?_, ?_, hr, hri⟩
  · unfold sclS
    rw [hsb]
    by_cases h : N = 0
    · rw [if_pos h, ofBits_pat 127 (by norm_num) (by norm_num), he, if_pos h]; norm_num
    · rw [if_neg h, ofBits_pat (N + 1) (by omega) (by omega), he, if_neg h]
      congr 2; push_cast; ring
  · unfold invS
    rw [hsb]
    by_cases h : N = 0
    · rw [if_pos h, pat_sub 127 (by norm_num), ofBits_pat _ (by norm_num) (by norm_num), he, if_pos h]; norm_num
    · rw [if_neg h, pat_sub (N + 1) (by omega), ofBits_pat _ (by omega) (by omega), he, if_neg h]
      congr 2; rw [Nat.cast_sub (by omega)]; push_cast; ring

end

end Cert.KernelIdeal.Hand

end
-- ==== Proof.Had.lean ====
/- The sign matrix and the quantiser's quantities as scalar functions shared by the two value computations. -/
module

public import proofs.«01_k».proof.Proof.Scale

@[expose] public section

set_option maxRecDepth 16384

namespace Cert.Spec

open Idealize.ShloMosaic
open Cert.KernelIdeal.Hand (sclS invS rsclS rinvS scale_facts)

noncomputable section

/-- The guarded divisor. -/
def dvsI (n : BitVec 32) : BitVec 32 := Scalar.select (IntOp.cmpi .eq n 0#32) 1#32 n
/-- The remainder with the divisor's sign. -/
def remI (a n : BitVec 32) : BitVec 32 :=
  Scalar.select (IntOp.andi (IntOp.cmpi .ne (IntOp.cmpi .slt (IntOp.remsi .host a (dvsI n)) 0#32) (IntOp.cmpi .slt (dvsI n) 0#32))
    (IntOp.cmpi .ne (IntOp.remsi .host a (dvsI n)) 0#32)) (IntOp.addi (IntOp.remsi .host a (dvsI n)) (dvsI n)) (IntOp.remsi .host a (dvsI n))
/-- The sign of a word. -/
def sgnI (x : BitVec 32) : BitVec 32 := if x = 0 then 0 else if x.msb then -1 else 1
/-- The quotient rounded down. -/
def fdivI (a n : BitVec 32) : BitVec 32 :=
  Scalar.select (IntOp.andi (IntOp.cmpi .ne (sgnI a) (sgnI n)) (IntOp.cmpi .ne (IntOp.remsi .host a n) 0#32))
    (IntOp.subi (IntOp.divsi .host a n) 1#32) (IntOp.divsi .host a n)
/-- The sign of row `a` and column `b`: minus one where they have an odd number of common bits. -/
def hadI (a b : BitVec 32) : BitVec 32 := IntOp.subi 1#32 (IntOp.muli 2#32 (remI (IntOp.ctpop (IntOp.andi a b)) 2#32))

theorem remI_64 (i : Fin 256) : remI (BitVec.ofNat 32 i.val) 64#32 = BitVec.ofNat 32 (i.val % 64) :=
  (by decide +kernel : ∀ i : Fin 256, remI (BitVec.ofNat 32 i.val) 64#32 = BitVec.ofNat 32 (i.val % 64)) i
theorem fdivI_64 (i : Fin 256) : fdivI (BitVec.ofNat 32 i.val) 64#32 = BitVec.ofNat 32 (i.val / 64) :=
  (by decide +kernel : ∀ i : Fin 256, fdivI (BitVec.ofNat 32 i.val) 64#32 = BitVec.ofNat 32 (i.val / 64)) i
theorem hadI_abs : ∀ d e : Fin 64, |(hadI (BitVec.ofNat 32 d.val) (BitVec.ofNat 32 e.val)).toInt| ≤ 1 := by decide +kernel
theorem hadI_comm (a b : BitVec 32) : hadI a b = hadI b a := by
  unfold hadI; rw [show IntOp.andi a b = IntOp.andi b a from BitVec.and_comm a b]

/-- The sign matrix. -/
def hd (d e : Fin 64) : EReal := (((hadI (BitVec.ofNat 32 d.val) (BitVec.ofNat 32 e.val)).toInt : ℝ) : EReal)

theorem hd_comm (d e : Fin 64) : hd d e = hd e d := by unfold hd; rw [hadI_comm]

/-- A head's row of 64 values, rotated. -/
def rotS (r : Fin 64 → EReal) (d : Fin 64) : EReal := ∑ e, r e * hd e d

/-- The greatest absolute value over 448. -/
def amS {n : ℕ} (f : Fin n → EReal) : EReal :=
  Finset.fold max (Ideal.ofBits .f32 4286578688#32) (fun x => FloatOps.absf (F := Ideal) (φ := .f32) (f x)) Finset.univ * Ideal.ofBits .f32 991054117#32

/-- A value clipped to the codes' range. -/
def clipS (x : EReal) : EReal := min (Ideal.ofBits .f32 1138753536#32) (max (Ideal.ofBits .f32 3286237184#32) x)

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

/-- Real, with absolute value at most `B`. -/
def Bdd (B : ℝ) (x : EReal) : Prop := ∃ r : ℝ, x = (r : EReal) ∧ |r| ≤ B

theorem bdd_sum {ι : Type*} (s : Finset ι) (f : ι → EReal) (B : ℝ) (h : ∀ i ∈ s, Bdd B (f i)) : Bdd (s.card * B) (∑ i ∈ s, f i) := by
  classical
  induction s using Finset.induction_on with
  | empty => exact ⟨0, by simp, by simp⟩
  | insert a s ha ih =>
    obtain ⟨x, hx, hxb⟩ := h a (Finset.mem_insert_self a s)
    obtain ⟨y, hy, hyb⟩ := ih fun i hi => h i (Finset.mem_insert_of_mem hi)
    refine ⟨x + y, by rw [Finset.sum_insert ha, hx, hy, EReal.coe_add], ?_⟩
    rw [Finset.card_insert_of_notMem ha]
    push_cast
    calc |x + y| ≤ |x| + |y| := abs_add_le x y
      _ ≤ _ := by linarith

/-- A rotated row is real and at most 64 times as large. -/
theorem bdd_rot (r : Fin 64 → EReal) (B : ℝ) (hB : 0 ≤ B) (h : ∀ e, Bdd B (r e)) (d : Fin 64) : Bdd (64 * B) (rotS r d) := by
  have := bdd_sum Finset.univ (fun e => r e * hd e d) B (fun e _ => by
    obtain ⟨x, hx, hxb⟩ := h e
    refine ⟨x * ((hadI (BitVec.ofNat 32 e.val) (BitVec.ofNat 32 d.val)).toInt : ℝ), by rw [hx]; unfold hd; rw [EReal.coe_mul], ?_⟩
    rw [abs_mul]
    have h1 : |((hadI (BitVec.ofNat 32 e.val) (BitVec.ofNat 32 d.val)).toInt : ℝ)| ≤ 1 := by exact_mod_cast hadI_abs e d
    calc _ ≤ B * 1 := mul_le_mul hxb h1 (abs_nonneg _) hB
      _ = B := mul_one B)
  simpa [rotS] using this

theorem pat_448r : Ideal.ofBits .f32 991054117#32 = (((9586981 : ℝ) * (2 : ℝ) ^ (-32 : ℤ) : ℝ) : EReal) := by
  simp [Ideal.ofBits, Ideal.ieee, -EReal.coe_mul]

/-- The greatest absolute value of reals is real. -/
theorem amS_real {n : ℕ} (hn : 0 < n) (f : Fin n → EReal) (B : ℝ) (hB : B ≤ (2 : ℝ) ^ (134 : ℤ)) (h : ∀ i, Bdd B (f i)) :
    ∃ y : ℝ, 0 ≤ y ∧ y < (2 : ℝ) ^ (126 : ℤ) ∧ amS f = (y : EReal) := by
  have key : ∀ s : Finset (Fin n), (s = ∅ ∧ Finset.fold max (⊥ : EReal) (fun x => FloatOps.absf (F := Ideal) (φ := .f32) (f x)) s = ⊥) ∨
      ∃ y : ℝ, 0 ≤ y ∧ y ≤ B ∧ Finset.fold max (⊥ : EReal) (fun x => FloatOps.absf (F := Ideal) (φ := .f32) (f x)) s = (y : EReal) := by
    classical
    intro s
    induction s using Finset.induction_on with
    | empty => left; simp
    | insert a s ha ih =>
      right
      obtain ⟨x, hx, hxb⟩ := h a
      have e : FloatOps.absf (F := Ideal) (φ := .f32) (f a) = ((|x| : ℝ) : EReal) := by
        rw [hx]
        show max (x : EReal) (-(x : EReal)) = _
        rw [← EReal.coe_neg, ← coe_max]; rfl
      rw [Finset.fold_insert ha, e]
      rcases ih with ⟨_, ih⟩ | ⟨y, hy0, hyB, ih⟩
      · exact ⟨|x|, abs_nonneg x, hxb, by rw [ih]; exact max_eq_left bot_le⟩
      · exact ⟨max |x| y, le_max_of_le_left (abs_nonneg x), max_le hxb hyB, by rw [ih, coe_max]⟩
  rcases key Finset.univ with ⟨he, _⟩ | ⟨y, hy0, hyB, hy⟩
  · exact absurd (Finset.mem_univ (⟨0, hn⟩ : Fin n)) (by rw [he]; simp)
  · refine ⟨y * ((9586981 : ℝ) * (2 : ℝ) ^ (-32 : ℤ)), by positivity, ?_, ?_⟩
    · have h2 : (9586981 : ℝ) * (2 : ℝ) ^ (-32 : ℤ) < (2 : ℝ) ^ (-8 : ℤ) := by norm_num
      calc y * ((9586981 : ℝ) * (2 : ℝ) ^ (-32 : ℤ)) ≤ (2 : ℝ) ^ (134 : ℤ) * ((9586981 : ℝ) * (2 : ℝ) ^ (-32 : ℤ)) :=
            mul_le_mul_of_nonneg_right (hyB.trans hB) (by positivity)
        _ < (2 : ℝ) ^ (134 : ℤ) * (2 : ℝ) ^ (-8 : ℤ) := mul_lt_mul_of_pos_left h2 (by positivity)
        _ = (2 : ℝ) ^ (126 : ℤ) := by rw [← zpow_add₀ (by norm_num : (2 : ℝ) ≠ 0)]; norm_num
    · unfold amS
      rw [show Ideal.ofBits .f32 4286578688#32 = ⊥ by simp [Ideal.ofBits, Ideal.ieee], hy, pat_448r, ← EReal.coe_mul]

/-- The scale of real values: a power of two, the kernel's and the reference's, with its inverse. -/
theorem scale_am {n : ℕ} (hn : 0 < n) (f : Fin n → EReal) (B : ℝ) (hB : B ≤ (2 : ℝ) ^ (134 : ℤ)) (h : ∀ i, Bdd B (f i)) : ∃ e : ℤ,
    sclS (amS f) = (((2 : ℝ) ^ e : ℝ) : EReal) ∧ invS (amS f) = (((2 : ℝ) ^ (-e) : ℝ) : EReal)
      ∧ rsclS (amS f) = (((2 : ℝ) ^ e : ℝ) : EReal) ∧ rinvS (amS f) = (((2 : ℝ) ^ (-e) : ℝ) : EReal) := by
  obtain ⟨y, h0, h1, hy⟩ := amS_real hn f B hB h
  rw [hy]
  exact scale_facts y h0 h1

/-- A clipped real is real. -/
theorem clip_real (x : ℝ) : ∃ r : ℝ, clipS (x : EReal) = (r : EReal) := by
  have h1 : Ideal.ofBits .f32 1138753536#32 = ((448 : ℝ) : EReal) := by simp [Ideal.ofBits, Ideal.ieee, -EReal.coe_mul]; norm_num
  have h2 : Ideal.ofBits .f32 3286237184#32 = ((-448 : ℝ) : EReal) := by simp [Ideal.ofBits, Ideal.ieee, -EReal.coe_mul]; norm_num
  refine ⟨min 448 (max (-448) x), ?_⟩
  unfold clipS
  rw [h1, h2, ← coe_max, ← coe_min]

/-- A sum over the blocks of 64 of which only block `k` counts. -/
theorem sum_block {n : ℕ} (k : ℕ) (F : Fin n → EReal) (hk : k * 64 + 64 ≤ n) (h0 : ∀ x : Fin n, x.val / 64 ≠ k → F x = 0) :
    ∑ x, F x = ∑ e : Fin 64, F ⟨k * 64 + e.val, by omega⟩ := by
  symm
  refine Fintype.sum_of_injective (fun e : Fin 64 => (⟨k * 64 + e.val, by omega⟩ : Fin n)) ?_ _ _ ?_ (fun _ => rfl)
  · intro a b hab
    have := congrArg Fin.val hab
    simp only at this
    exact Fin.ext (by omega)
  · intro x hx
    refine h0 x fun hxk => hx ⟨⟨x.val % 64, by omega⟩, Fin.ext ?_⟩
    show k * 64 + x.val % 64 = x.val
    omega

end

end Cert.Spec

end
-- ==== Proof.KHad.lean ====
/- What the kernel's region finds in the buffer of the sign matrix. -/
module

public import proofs.«01_k».proof.Proof.Gen.KernelIdeal.Frame
public import proofs.«01_k».proof.Proof.Had
public import Idealize.ShloMosaic.Lib.StableHlo.RunRead

@[expose] public section

set_option maxRecDepth 16384

namespace Cert.KernelIdeal.Hand

open Cert.KernelIdeal Facts₀ Facts
open Cert.KernelIdeal.Gen (facts)
open Idealize.ShloMosaic Idealize.ShloMosaic.TcCoe
open Idealize.ShloMosaic.StableHlo

noncomputable section

/-- The guarded divisor. -/
def dvsV (n : BitVec 32) : IVec S_ 32 := select (cmpi .eq (constantI S_ 32 n) (constantI S_ 32 0#32)) (constantI S_ 32 1#32) (constantI S_ 32 n)

/-- The remainder with the divisor's sign, over a vector. -/
def remV (s : Shape) (h : S_.BroadcastsInDim s (![] : Fin 0 → Fin s.rank)) (a : IVec s 32) (n : BitVec 32) : IVec s 32 :=
  select (andi (cmpi .ne (cmpi .slt (Host.remsi a (broadcastInDim s ![] h (dvsV n))) (broadcastInDim s ![] h (constantI S_ 32 0#32)))
      (broadcastInDim s ![] h (cmpi .slt (dvsV n) (constantI S_ 32 0#32))))
      (cmpi .ne (Host.remsi a (broadcastInDim s ![] h (dvsV n))) (broadcastInDim s ![] h (constantI S_ 32 0#32))))
    (addi (Host.remsi a (broadcastInDim s ![] h (dvsV n))) (broadcastInDim s ![] h (dvsV n))) (Host.remsi a (broadcastInDim s ![] h (dvsV n)))

/-- The quotient rounded down, over a vector. -/
def fdivV (s : Shape) (h : S_.BroadcastsInDim s (![] : Fin 0 → Fin s.rank)) (a : IVec s 32) (n : BitVec 32) : IVec s 32 :=
  select (andi (cmpi .ne (signi a) (broadcastInDim s ![] h (signi (constantI S_ 32 n))))
      (cmpi .ne (Host.remsi a (broadcastInDim s ![] h (constantI S_ 32 n))) (broadcastInDim s ![] h (constantI S_ 32 0#32))))
    (subi (Host.divsi a (broadcastInDim s ![] h (constantI S_ 32 n))) (broadcastInDim s ![] h (constantI S_ 32 1#32)))
    (Host.divsi a (broadcastInDim s ![] h (constantI S_ 32 n)))

/-- The numbers of rows and of columns. -/
def rowI : IVec S256x1 32 := broadcastInDim S256x1 ![0] bcast_S256_S256x1_0 (iotaInDim S256 32 0)
def colI : IVec S1x256 32 := broadcastInDim S1x256 ![1] bcast_S256_S1x256_1 (iotaInDim S256 32 0)

/-- The sign matrix of four heads: signs on the diagonal blocks, zero off them. -/
def had4 {F : FTy → Type} [FloatOps F] : FVec F S256x256 .bf16 :=
  sitofp .bf16 (select (cmpi .eq (broadcastInDim S256x256 ![0, 1] bcast_S256x1_S256x256_0_1 (fdivV S256x1 bcast_S_S256x1 rowI 64#32))
      (broadcastInDim S256x256 ![0, 1] bcast_S1x256_S256x256_0_1 (fdivV S1x256 bcast_S_S1x256 colI 64#32)))
    (subi (broadcastInDim S256x256 ![] bcast_S_S256x256 (constantI S_ 32 1#32)) (muli (broadcastInDim S256x256 ![] bcast_S_S256x256 (constantI S_ 32 2#32))
      (remV S256x256 bcast_S_S256x256 (ctpop (andi (broadcastInDim S256x256 ![0, 1] bcast_S256x1_S256x256_0_1 (remV S256x1 bcast_S_S256x1 rowI 64#32))
        (broadcastInDim S256x256 ![0, 1] bcast_S1x256_S256x256_0_1 (remV S1x256 bcast_S_S1x256 colI 64#32)))) 2#32)))
    (broadcastInDim S256x256 ![] bcast_S_S256x256 (constantI S_ 32 0#32)))

section
variable {F : FTy → Type} [FloatOps F] [Named F]
variable (m : (ℓ : Loc nD τ sig) → Buf (Elt F) ℓ)

set_option maxHeartbeats 4000000 in
/-- The region is entered with the sign matrix in `main_v22`. -/
theorem V_v22 (c : Dev nD) : (Gen.V m c main_v22 : Vec F S256x256 .bf16) = had4 := by
  change StableHlo.after (List.flatten [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12]) (fun b => m (c, b)) (Proc.devRef .tc main_v22) = _
  after_reads_simp
  rfl
end

theorem remV_apply (s : Shape) (h : S_.BroadcastsInDim s (![] : Fin 0 → Fin s.rank)) (a : IVec s 32) (n : BitVec 32) (i : s.Idx) :
    remV s h a n i = Cert.Spec.remI (a i) n := by
  pointwise [remV, dvsV, Cert.Spec.remI, Cert.Spec.dvsI]

theorem fdivV_apply (s : Shape) (h : S_.BroadcastsInDim s (![] : Fin 0 → Fin s.rank)) (a : IVec s 32) (n : BitVec 32) (i : s.Idx) :
    fdivV s h a n i = Cert.Spec.fdivI (a i) n := by
  pointwise [fdivV, Cert.Spec.fdivI, Cert.Spec.sgnI]

/-- The sign matrix of four heads, entry by entry. -/
theorem had4_apply (i j : Fin 256) : had4 (F := Ideal) (ix2 i j) =
    if i.val / 64 = j.val / 64 then Cert.Spec.hd ⟨i.val % 64, by omega⟩ ⟨j.val % 64, by omega⟩ else 0 := by
  have hr : ∀ i : Fin 256, rowI (ix2 i (0 : Fin 1)) = BitVec.ofNat 32 i.val := fun i => by pointwise [rowI]
  have hc : ∀ i : Fin 256, colI (ix2 (0 : Fin 1) i) = BitVec.ofNat 32 i.val := fun i => by pointwise [colI]
  have key : had4 (F := Ideal) (ix2 i j) = FloatOps.sitofp (F := Ideal) .bf16 (Scalar.select (IntOp.cmpi .eq (Cert.Spec.fdivI (BitVec.ofNat 32 i.val) 64#32)
      (Cert.Spec.fdivI (BitVec.ofNat 32 j.val) 64#32))
      (Cert.Spec.hadI (Cert.Spec.remI (BitVec.ofNat 32 i.val) 64#32) (Cert.Spec.remI (BitVec.ofNat 32 j.val) 64#32)) 0#32) := by
    pointwise [had4, remV_apply, fdivV_apply, hr, hc, Cert.Spec.hadI]
  rw [key, Cert.Spec.fdivI_64, Cert.Spec.fdivI_64, Cert.Spec.remI_64, Cert.Spec.remI_64]
  have hs : IntOp.cmpi .eq (BitVec.ofNat 32 (i.val / 64)) (BitVec.ofNat 32 (j.val / 64)) = BitVec.ofBool (decide (i.val / 64 = j.val / 64)) :=
    (by decide +kernel : ∀ a b : Fin 4, IntOp.cmpi .eq (BitVec.ofNat 32 a.val) (BitVec.ofNat 32 b.val) = BitVec.ofBool (decide (a.val = b.val)))
      ⟨i.val / 64, by omega⟩ ⟨j.val / 64, by omega⟩
  rw [hs]
  by_cases h : i.val / 64 = j.val / 64
  · rw [if_pos h]; simp only [h]; rfl
  · rw [if_neg h]; simp only [h]
    show (((0#32 : BitVec 32).toInt : ℝ) : EReal) = 0
    simp

end

end Cert.KernelIdeal.Hand

end
-- ==== Proof.Soft.lean ====
/- The weighted average over the extended reals: powers of two counted from the maximum less eight, against exponentials counted from
   the maximum. -/
module

public import Idealize.ShloMosaic.Lib.Pointwise
public import Mathlib.Analysis.SpecialFunctions.Log.Basic
public import Mathlib.Analysis.SpecialFunctions.Pow.Real

@[expose] public section

set_option maxRecDepth 16384

namespace Cert.Spec

open Idealize.ShloMosaic

noncomputable section

/-- A sum of reals read in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The pattern of minus infinity. -/
theorem pat_bot : Ideal.ofBits .f32 4286578688#32 = ⊥ := by simp [Ideal.ofBits, Ideal.ieee]
theorem pat_448 : Ideal.ofBits .f32 1138753536#32 = ((448 : ℝ) : EReal) := by
  simp [Ideal.ofBits, Ideal.ieee, -EReal.coe_mul]; norm_num
theorem pat_8 : Ideal.ofBits .f32 1090519040#32 = ((8 : ℝ) : EReal) := by
  simp [Ideal.ofBits, Ideal.ieee, -EReal.coe_mul]; norm_num
theorem pat_8h : Ideal.ofBits .f32 1091043328#32 = ((17 / 2 : ℝ) : EReal) := by
  simp [Ideal.ofBits, Ideal.ieee, -EReal.coe_mul]; norm_num
theorem pat_256 : Ideal.ofBits .f32 1132462080#32 = ((256 : ℝ) : EReal) := by
  simp [Ideal.ofBits, Ideal.ieee, -EReal.coe_mul]; norm_num
theorem pat_256i : Ideal.ofBits .f32 998244352#32 = ((1 / 256 : ℝ) : EReal) := by
  simp [Ideal.ofBits, Ideal.ieee, -EReal.coe_mul]; norm_num
theorem pat_512i : Ideal.ofBits .f32 989855744#32 = ((1 / 512 : ℝ) : EReal) := by
  simp [Ideal.ofBits, Ideal.ieee, -EReal.coe_mul]; norm_num

/-- The greatest of no values is minus infinity. -/
theorem fold_bot {ι : Type*} [DecidableEq ι] (s : Finset ι) (P : ι → Prop) [DecidablePred P] (f : ι → ℝ) (h : ∀ i ∈ s, ¬ P i) :
    Finset.fold max (⊥ : EReal) (fun t => if P t then (f t : EReal) else ⊥) s = ⊥ := by
  induction s using Finset.induction_on with
  | empty => simp
  | insert b s hb ihs =>
    rw [Finset.fold_insert hb, ihs (fun i hi => h i (Finset.mem_insert_of_mem hi)), if_neg (h b (Finset.mem_insert_self b s)), max_self]

/-- The greatest of the chosen values, minus infinity standing for the others, is one of the chosen values. -/
theorem fold_max_mask {ι : Type*} [DecidableEq ι] (s : Finset ι) (P : ι → Prop) [DecidablePred P] (f : ι → ℝ) (h : ∃ i ∈ s, P i) :
    ∃ i ∈ s, P i ∧ Finset.fold max (⊥ : EReal) (fun t => if P t then (f t : EReal) else ⊥) s = (f i : EReal) ∧ ∀ t ∈ s, P t → f t ≤ f i := by
  have key : ((∀ i ∈ s, ¬ P i) ∧ Finset.fold max (⊥ : EReal) (fun t => if P t then (f t : EReal) else ⊥) s = ⊥) ∨
      ∃ i ∈ s, P i ∧ Finset.fold max (⊥ : EReal) (fun t => if P t then (f t : EReal) else ⊥) s = (f i : EReal) ∧ ∀ t ∈ s, P t → f t ≤ f i := by
    induction s using Finset.induction_on with
    | empty => left; simp
    | insert a s ha ih =>
      have ih := fun h' => ih h'
      rw [Finset.fold_insert ha]
      by_cases hs : ∃ i ∈ s, P i
      · rcases ih hs with ⟨hn, _⟩ | ⟨i, hi, hP, he, hm⟩
        · obtain ⟨i, hi, hP⟩ := hs; exact absurd hP (hn i hi)
        · right
          by_cases hPa : P a
          · rw [if_pos hPa, he]
            rcases le_total (f a) (f i) with hle | hle
            · refine ⟨i, Finset.mem_insert_of_mem hi, hP, max_eq_right (by exact_mod_cast hle), ?_⟩
              intro t ht hPt
              rcases Finset.mem_insert.mp ht with rfl | ht
              · exact hle
              · exact hm t ht hPt
            · refine ⟨a, Finset.mem_insert_self a s, hPa, max_eq_left (by exact_mod_cast hle), ?_⟩
              intro t ht hPt
              rcases Finset.mem_insert.mp ht with rfl | ht
              · exact le_refl _
              · exact (hm t ht hPt).trans hle
          · rw [if_neg hPa, he]
            refine ⟨i, Finset.mem_insert_of_mem hi, hP, max_eq_right bot_le, ?_⟩
            intro t ht hPt
            rcases Finset.mem_insert.mp ht with rfl | ht
            · exact absurd hPt hPa
            · exact hm t ht hPt
      · have hbot := fold_bot s P f fun i hi hP => hs ⟨i, hi, hP⟩
        rw [hbot]
        by_cases hPa : P a
        · right
          refine ⟨a, Finset.mem_insert_self a s, hPa, by rw [if_pos hPa]; exact max_eq_left bot_le, ?_⟩
          intro t ht hPt
          rcases Finset.mem_insert.mp ht with rfl | ht
          · exact le_refl _
          · exact absurd ⟨t, ht, hPt⟩ hs
        · left
          refine ⟨?_, by rw [if_neg hPa, max_self]⟩
          intro i hi hPi
          rcases Finset.mem_insert.mp hi with rfl | hi
          · exact hPa hPi
          · exact hs ⟨i, hi, hPi⟩
  rcases key with ⟨hn, _⟩ | hk
  · obtain ⟨i, hi, hP⟩ := h; exact absurd hP (hn i hi)
  · exact hk

/-- Comparing two positions as words. -/
theorem sel_le {α : Type} (a b : Fin 384) (x y : α) :
    Scalar.select (IntOp.cmpi .sle (BitVec.ofNat 32 a.val) (BitVec.ofNat 32 b.val)) x y = if a.val ≤ b.val then x else y := by
  have ha : (BitVec.ofNat 32 a.val).toInt = a.val := by
    rw [BitVec.toInt_eq_toNat_of_lt] <;> rw [BitVec.toNat_ofNat, Nat.mod_eq_of_lt] <;> omega
  have hb : (BitVec.ofNat 32 b.val).toInt = b.val := by
    rw [BitVec.toInt_eq_toNat_of_lt] <;> rw [BitVec.toNat_ofNat, Nat.mod_eq_of_lt] <;> omega
  show (if BitVec.ofBool (BitVec.sle _ _) = 1#1 then x else y) = _
  rw [BitVec.sle, ha, hb]
  by_cases h : a.val ≤ b.val
  · rw [if_pos h, decide_eq_true (by exact_mod_cast h)]; rfl
  · rw [if_neg h, decide_eq_false (by exact_mod_cast h)]; rfl

/-- What the kernel computes for one query and one column from the masked scores `T`, the query's scale `r`, the values' codes `v` and
    scale `vs`. -/
def kerOut {n : ℕ} (T : Fin n → EReal) (r : EReal) (v : Fin n → EReal) (vs : EReal) : EReal :=
  let mx := Finset.fold max (Ideal.ofBits .f32 4286578688#32) (fun x => T x) Finset.univ
  let e : Fin n → EReal := fun x => Ideal.exp2 ((T x - if (mx - (mx - Ideal.div (Ideal.ofBits .f32 1090519040#32) r)) * r <
    Ideal.ofBits .f32 1091043328#32 then mx - Ideal.div (Ideal.ofBits .f32 1090519040#32) r else mx) * r)
  Ideal.div ((∑ x, v x * min (e x) (Ideal.ofBits .f32 1138753536#32)) * vs) (∑ x, e x)

/-- What the reference computes for query `q` and one column from the scores `S`. -/
def refOut {n : ℕ} (q : ℕ) (S : Fin n → EReal) (v : Fin n → EReal) (vs : EReal) : EReal :=
  let p : Fin n → EReal := fun t => if t.val ≤ q then Ideal.exp ((if t.val ≤ q then S t else Ideal.ofBits .f32 4286578688#32) -
    Finset.fold max (Ideal.ofBits .f32 4286578688#32) (fun x => if x.val ≤ q then S x else Ideal.ofBits .f32 4286578688#32) Finset.univ) else 0
  Ideal.div ((∑ x, min (Ideal.ofBits .f32 1138753536#32) (max 0 (p x * Ideal.ofBits .f32 1132462080#32)) * v x) *
    Ideal.ofBits .f32 998244352#32 * vs) (∑ x, p x)

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- Keys after the query being left out on both sides, the two computations agree. -/
theorem out_eq (n N q : ℕ) (hn : q < n) (hN : n ≤ N) (a ks : Fin N → ℝ) (qs : ℝ) (hqs : 0 < qs) (v : Fin N → ℝ) (vs : ℝ) :
    kerOut (n := n) (fun t => if t.val ≤ q then ((a (Fin.castLE hN t) : EReal) * (ks (Fin.castLE hN t) : EReal)) else ⊥)
      (((qs : ℝ) : EReal) * (((512 * Real.log 2)⁻¹ : ℝ) : EReal)) (fun t => (v (Fin.castLE hN t) : EReal)) (vs : EReal)
    = refOut (n := N) q (fun t => (a t : EReal) * (qs : EReal) * (ks t : EReal) * Ideal.ofBits .f32 989855744#32) (fun t => (v t : EReal)) (vs : EReal) := by
  have hl2 : 0 < Real.log 2 := Real.log_pos (by norm_num)
  set u : Fin N → ℝ := fun t => a t * ks t with hu
  set ρ : ℝ := qs * (512 * Real.log 2)⁻¹ with hρ
  have hρ0 : 0 < ρ := by positivity
  -- the reference's scores and their maximum
  obtain ⟨j, -, hj, hjm, hjle⟩ := fold_max_mask (Finset.univ : Finset (Fin N)) (fun t => t.val ≤ q) (fun t => u t * (qs / 512))
    ⟨⟨q, by omega⟩, Finset.mem_univ _, le_refl _⟩
  obtain ⟨i, -, hi, him, hile⟩ := fold_max_mask (Finset.univ : Finset (Fin n)) (fun t => t.val ≤ q) (fun t => u (Fin.castLE hN t))
    ⟨⟨q, by omega⟩, Finset.mem_univ _, le_refl _⟩
  have hij : u (Fin.castLE hN i) = u j := by
    apply le_antisymm
    · have := hjle (Fin.castLE hN i) (Finset.mem_univ _) hi
      exact le_of_mul_le_mul_right this (by positivity)
    · have := hile ⟨j.val, by omega⟩ (Finset.mem_univ _) hj
      exact this
  set w : Fin N → ℝ := fun t => if t.val ≤ q then Real.exp (u t * (qs / 512) - u j * (qs / 512)) else 0 with hw
  have hw0 : ∀ t, 0 ≤ w t := by intro t; simp only [hw]; split_ifs <;> positivity
  have hw1 : ∀ t, w t ≤ 1 := by
    intro t; simp only [hw]
    split_ifs with h
    · rw [Real.exp_le_one_iff]; linarith [hjle t (Finset.mem_univ _) h]
    · norm_num
  have hL : 0 < ∑ t, w t := by
    refine Finset.sum_pos' (fun t _ => hw0 t) ⟨j, Finset.mem_univ _, ?_⟩
    simp only [hw, if_pos hj]; positivity
  -- the reference
  have hS : ∀ t : Fin N, (a t : EReal) * (qs : EReal) * (ks t : EReal) * Ideal.ofBits .f32 989855744#32 = ((u t * (qs / 512) : ℝ) : EReal) := by
    intro t
    rw [pat_512i, ← EReal.coe_mul, ← EReal.coe_mul, ← EReal.coe_mul]
    congr 1; simp only [hu]; ring
  have href : refOut (n := N) q (fun t => (a t : EReal) * (qs : EReal) * (ks t : EReal) * Ideal.ofBits .f32 989855744#32) (fun t => (v t : EReal)) (vs : EReal)
      = (((∑ t, 256 * w t * v t) * (1 / 256) * vs / (∑ t, w t) : ℝ) : EReal) := by
    have hp : ∀ t : Fin N, (if t.val ≤ q then Ideal.exp ((if t.val ≤ q then ((u t * (qs / 512) : ℝ) : EReal) else ⊥) - ((u j * (qs / 512) : ℝ) : EReal)) else 0)
        = (w t : EReal) := by
      intro t
      simp only [hw]
      split_ifs with h
      · rw [← EReal.coe_sub]; rfl
      · simp
    have hc : ∀ t : Fin N, min (Ideal.ofBits .f32 1138753536#32) (max 0 ((w t : EReal) * Ideal.ofBits .f32 1132462080#32)) * (v t : EReal)
        = ((256 * w t * v t : ℝ) : EReal) := by
      intro t
      rw [pat_256, pat_448, ← EReal.coe_mul, max_eq_right (by exact_mod_cast mul_nonneg (hw0 t) (by norm_num)),
        min_eq_right (by exact_mod_cast (by linarith [hw1 t] : w t * 256 ≤ 448)), ← EReal.coe_mul]
      congr 1; ring
    unfold refOut
    simp only [hS, pat_bot]
    rw [hjm]
    simp only [hp, hc]
    rw [coe_sum, coe_sum, pat_256i, ← EReal.coe_mul, ← EReal.coe_mul, div_coe _ _ hL.ne']
  rw [href]
  -- the kernel
  have hT : ∀ t : Fin n, (if t.val ≤ q then ((a (Fin.castLE hN t) : EReal) * (ks (Fin.castLE hN t) : EReal)) else ⊥)
      = if t.val ≤ q then ((u (Fin.castLE hN t) : ℝ) : EReal) else ⊥ := by
    intro t
    split_ifs
    · rw [← EReal.coe_mul]
    · rfl
  have he : ∀ t : Fin n, Ideal.exp2 (((if t.val ≤ q then ((u (Fin.castLE hN t) : ℝ) : EReal) else ⊥) - ((u j - 8 / ρ : ℝ) : EReal)) * (ρ : EReal))
      = ((256 * w (Fin.castLE hN t) : ℝ) : EReal) := by
    intro t
    have hv : (Fin.castLE hN t).val = t.val := rfl
    simp only [hw, hv]
    split_ifs with h
    · rw [← EReal.coe_sub, ← EReal.coe_mul]
      show ((Real.rpow 2 _ : ℝ) : EReal) = _
      congr 1
      show (2 : ℝ) ^ (_ : ℝ) = _
      rw [show (u (Fin.castLE hN t) - (u j - 8 / ρ)) * ρ = (u (Fin.castLE hN t) - u j) * ρ + (8 : ℕ) by push_cast; field_simp; ring,
        Real.rpow_add (by norm_num), Real.rpow_natCast, Real.rpow_def_of_pos (by norm_num)]
      rw [show Real.log 2 * ((u (Fin.castLE hN t) - u j) * ρ) = u (Fin.castLE hN t) * (qs / 512) - u j * (qs / 512) by
        rw [hρ]; field_simp]
      norm_num
      ring
    · rw [show (⊥ : EReal) - ((u j - 8 / ρ : ℝ) : EReal) = ⊥ from EReal.bot_sub _, EReal.bot_mul_coe_of_pos hρ0]
      simp
  have hmin : ∀ t : Fin n, (v (Fin.castLE hN t) : EReal) * min ((256 * w (Fin.castLE hN t) : ℝ) : EReal) (Ideal.ofBits .f32 1138753536#32)
      = ((v (Fin.castLE hN t) * (256 * w (Fin.castLE hN t)) : ℝ) : EReal) := by
    intro t
    rw [pat_448, min_eq_left (by exact_mod_cast (by linarith [hw1 (Fin.castLE hN t)] : 256 * w (Fin.castLE hN t) ≤ 448)), ← EReal.coe_mul]
  have hinj : Function.Injective (Fin.castLE hN) := Fin.castLE_injective hN
  have hout : ∀ t ∉ Set.range (Fin.castLE hN), w t = 0 := by
    intro t ht
    simp only [hw]
    rw [if_neg]
    intro h
    exact ht ⟨⟨t.val, by omega⟩, rfl⟩
  have s1 : ∑ t : Fin n, v (Fin.castLE hN t) * (256 * w (Fin.castLE hN t)) = ∑ t : Fin N, 256 * w t * v t :=
    Fintype.sum_of_injective _ hinj _ _ (fun t ht => by rw [hout t ht]; ring) (fun t => by ring)
  have s2 : ∑ t : Fin n, 256 * w (Fin.castLE hN t) = 256 * ∑ t : Fin N, w t := by
    rw [Finset.mul_sum]
    exact Fintype.sum_of_injective _ hinj _ _ (fun t ht => by rw [hout t ht]; ring) (fun t => rfl)
  unfold kerOut
  simp only [hT, pat_bot]
  rw [him, hij, ← EReal.coe_mul, ← hρ, pat_8, pat_8h, div_coe _ _ hρ0.ne', ← EReal.coe_sub, ← EReal.coe_sub, ← EReal.coe_mul,
    if_pos (by rw [EReal.coe_lt_coe_iff, show (u j - (u j - 8 / ρ)) * ρ = 8 by field_simp; ring]; norm_num)]
  simp only [he, hmin]
  rw [coe_sum, coe_sum, s1, s2, ← EReal.coe_mul, div_coe _ _ (by positivity)]
  congr 1
  field_simp

end

end Cert.Spec

end
-- ==== Proof.KPt.lean ====
/- The kernel's pieces entry by entry over the extended reals. -/
module

public import proofs.«01_k».proof.Proof.Kept
public import proofs.«01_k».proof.Proof.Had
public import proofs.«01_k».proof.Proof.Soft
public import Idealize.ShloMosaic.Lib.Pointwise

@[expose] public section

set_option maxRecDepth 16384

namespace Cert.KernelIdeal.Hand

open Cert.KernelIdeal Facts₀ Facts
open Cert.KernelIdeal.Gen (facts)
open Idealize.ShloMosaic Idealize.ShloMosaic.TcCoe
open Cert.Spec

noncomputable section

theorem amax64_apply (q : FVec Ideal S64x384 .f32) (t : Fin 384) : amax64 q (ix2 (0 : Fin 1) t) = amS fun d => q (ix2 d t) := by
  pointwise [amax64, amS]

theorem cod64_gen (q : FVec Ideal S64x384 .f32) (y : FVec Ideal S1x384 .f32) (d : Fin 64) (t : Fin 384) :
    minimumf (broadcast S64x384 (Scalar.ofBits .f32 0x43E00000#32)) (maximumf (broadcast S64x384 (Scalar.ofBits .f32 0xC3E00000#32))
    (mulf q (broadcastTo S64x384 y broadcasts_S1x384_S64x384))) (ix2 d t) = clipS (q (ix2 d t) * y (ix2 (0 : Fin 1) t)) := by
  pointwise [clipS]

/-- A head's code. -/
theorem cod64_apply (q : FVec Ideal S64x384 .f32) (d : Fin 64) (t : Fin 384) :
    cod64 q (ix2 d t) = clipS (q (ix2 d t) * invS (amS fun d => q (ix2 d t))) := by
  unfold cod64; rw [cod64_gen, invOf_apply, amax64_apply]
/-- A head's code as fp8. -/
theorem cod8_apply (q : FVec Ideal S64x384 .f32) (d : Fin 64) (t : Fin 384) :
    cod8 q (ix2 d t) = clipS (q (ix2 d t) * invS (amS fun d => q (ix2 d t))) := cod64_apply q d t
/-- A head's scale. -/
theorem scl64_apply (q : FVec Ideal S64x384 .f32) (t : Fin 384) : scl64 q (ix2 (0 : Fin 1) t) = sclS (amS fun d => q (ix2 d t)) := by
  unfold scl64; rw [sclOf_apply, amax64_apply]

theorem knat_gen (q : FVec Ideal S64x384 .f32) (d : Fin 64) (t : Fin 384) :
    transpose S384x64 [1, 0] q transposes_S64x384_p1_0_S384x64 (ix2 t d) = q (ix2 d t) := by
  pointwise []
theorem knat_apply (q : FVec Ideal S64x384 .f32) (d : Fin 64) (t : Fin 384) :
    knat q (ix2 t d) = clipS (q (ix2 d t) * invS (amS fun d => q (ix2 d t))) := (knat_gen (cod64 q) d t).trans (cod64_apply q d t)

theorem ksb_gen (q : FVec Ideal S1x384 .f32) (t : Fin 384) (c : Fin 128) :
    transpose S384x128 [1, 0] (broadcastTo S128x384 (shapeCast S1x384 q shapeCasts_S1x384_S1x384) broadcasts_S1x384_S128x384)
      transposes_S128x384_p1_0_S384x128 (ix2 t c) = q (ix2 (0 : Fin 1) t) := by
  pointwise []
theorem ksb_apply (q : FVec Ideal S64x384 .f32) (t : Fin 384) (c : Fin 128) : ksb q (ix2 t c) = sclS (amS fun d => q (ix2 d t)) := by
  unfold ksb; rw [ksb_gen, scl64_apply]

theorem rrow_gen (q : FVec Ideal S1x384 .f32) (y : EReal) (t : Fin 384) : mulf q (broadcast S1x384 y) (ix2 (0 : Fin 1) t) = q (ix2 (0 : Fin 1) t) * y := by
  pointwise []
theorem kappa_eq : (Named.named (F := Ideal) (φ := .f32) κ "score_scale_log2e" 0x3B38AA3B#32 : EReal) = (((512 * (Real.log 2))⁻¹ : ℝ) : EReal) := by
  have h : κ "score_scale_log2e" = some (((512 * (Real.log 2))⁻¹ : ℝ) : EReal) := rfl
  show (κ "score_scale_log2e").getD _ = _
  rw [h, Option.getD_some]
theorem rrow_apply (q : FVec Ideal S64x384 .f32) (t : Fin 384) : rrow q (ix2 (0 : Fin 1) t)
    = sclS (amS fun d => q (ix2 d t)) * (((512 * (Real.log 2))⁻¹ : ℝ) : EReal) := by
  unfold rrow; rw [rrow_gen, scl64_apply, kappa_eq]

theorem vf_apply (w : Vec Ideal S1x384x128 .bf16) (t : Fin 384) (d : Fin 128) : vf w (ix2 t d) = w (ix3 (0 : Fin 1) t d) := by
  pointwise [vf]
theorem vamax_apply (w : Vec Ideal S1x384x128 .bf16) (d : Fin 128) : vamax w (ix2 (0 : Fin 1) d) = amS fun t : Fin 384 => w (ix3 (0 : Fin 1) t d) := by
  pointwise [vamax, vf, amS]
theorem vct_gen (q : FVec Ideal S384x128 .f32) (y : FVec Ideal S1x128 .f32) (d : Fin 128) (t : Fin 384) :
    truncf .fp8e4m3 (transpose S128x384 [1, 0] (minimumf (broadcast S384x128 (Scalar.ofBits .f32 0x43E00000#32))
    (maximumf (broadcast S384x128 (Scalar.ofBits .f32 0xC3E00000#32))
      (mulf q (broadcastTo S384x128 y broadcasts_S1x128_S384x128)))) transposes_S384x128_p1_0_S128x384)
    bitsLt_fp8e4m3_f32 (ix2 d t) = clipS (q (ix2 t d) * y (ix2 (0 : Fin 1) d)) := by
  pointwise [clipS]
theorem vct_apply (w : Vec Ideal S1x384x128 .bf16) (d : Fin 128) (t : Fin 384) :
    vct w (ix2 d t) = clipS (w (ix3 (0 : Fin 1) t d) * invS (amS fun t : Fin 384 => w (ix3 (0 : Fin 1) t d))) := by
  unfold vct; rw [vct_gen, invOf_apply, vamax_apply, vf_apply]
theorem vscl_apply (w : Vec Ideal S1x384x128 .bf16) (d : Fin 128) : vscl w (ix2 (0 : Fin 1) d) = sclS (amS fun t : Fin 384 => w (ix3 (0 : Fin 1) t d)) := by
  unfold vscl; rw [sclOf_apply, vamax_apply]
theorem vHead_gen (q : FVec Ideal S128x384 .fp8e4m3) (k : Fin 2) (d : Fin 64) (t : Fin 384) :
    extractStridedSlice S64x384 ![k.val * 64, 0] q (slicesK k) (ix2 d t) = q (ix2 ⟨k.val * 64 + d.val, by omega⟩ t) := by
  pointwise []
/-- A value's code. -/
theorem vHead_apply (w : Vec Ideal S1x384x128 .bf16) (k : Fin 2) (d : Fin 64) (t : Fin 384) :
    vHead w k (ix2 d t) = clipS (w (ix3 (0 : Fin 1) t ⟨k.val * 64 + d.val, by omega⟩)
      * invS (amS fun t : Fin 384 => w (ix3 (0 : Fin 1) t ⟨k.val * 64 + d.val, by omega⟩))) := by
  unfold vHead; rw [vHead_gen, vct_apply]
theorem vsRow_gen (q : FVec Ideal S1x128 .f32) (k : Fin 2) (d : Fin 64) :
    extractStridedSlice S1x64 ![0, k.val * 64] q (slicesVS k) (ix2 (0 : Fin 1) d) = q (ix2 (0 : Fin 1) ⟨k.val * 64 + d.val, by omega⟩) := by
  pointwise []
/-- A value column's scale. -/
theorem vsRow_apply (w : Vec Ideal S1x384x128 .bf16) (k : Fin 2) (d : Fin 64) :
    vsRow w k (ix2 (0 : Fin 1) d) = sclS (amS fun t : Fin 384 => w (ix3 (0 : Fin 1) t ⟨k.val * 64 + d.val, by omega⟩)) := by
  unfold vsRow; rw [vsRow_gen, vscl_apply]
theorem vsHead_gen (q : FVec Ideal S1x128 .f32) (k : Fin 2) (d : Fin 64) (c : Fin 128) :
    extractStridedSlice S64x128 ![k.val * 64, 0] (transpose S128x128 [1, 0] (broadcastTo S128x128 (shapeCast S1x128 q shapeCasts_S1x128_S1x128) broadcasts_S1x128_S128x128)
    transposes_S128x128_p1_0_S128x128) (slicesVB k) (ix2 d c) = q (ix2 (0 : Fin 1) ⟨k.val * 64 + d.val, by omega⟩) := by
  pointwise []
theorem vsHead_apply (w : Vec Ideal S1x384x128 .bf16) (k : Fin 2) (d : Fin 64) (c : Fin 128) :
    vsHead w k (ix2 d c) = sclS (amS fun t : Fin 384 => w (ix3 (0 : Fin 1) t ⟨k.val * 64 + d.val, by omega⟩)) := by
  unfold vsHead vst; rw [vsHead_gen, vscl_apply]

/-- A block of the sign matrix's rows against a slab of four heads is one head's rotation. -/
theorem qHead_apply (w : Vec Ideal S256x256 .bf16) (hw : ∀ i j : Fin 256, w (ix2 i j) =
      if i.val / 64 = j.val / 64 then hd ⟨i.val % 64, by omega⟩ ⟨j.val % 64, by omega⟩ else 0)
    (xl : Vec Ideal S1x384x256 .bf16) (k : Fin 4) (d : Fin 64) (t : Fin 384) :
    qHead (qrt w xl) k (ix2 d t) = rotS (fun e => xl (ix3 (0 : Fin 1) t ⟨k.val * 64 + e.val, by omega⟩)) d := by
  have h : qHead (qrt w xl) k (ix2 d t) = ∑ x : Fin 256, w (ix2 ⟨k.val * 64 + d.val, by omega⟩ x) * xl (ix3 (0 : Fin 1) t x) := by
    pointwise [qHead, qrt]
  rw [h, sum_block k.val _ (by omega)]
  · unfold rotS
    refine Finset.sum_congr rfl fun e _ => ?_
    rw [hw, if_pos (by show (k.val * 64 + d.val) / 64 = (k.val * 64 + e.val) / 64; omega), mul_comm, hd_comm]
    congr 2 <;> exact Fin.ext (by simp only; omega)
  · intro x hx
    rw [hw, if_neg (by show ¬ (k.val * 64 + d.val) / 64 = x.val / 64; omega), zero_mul]

/-- A block of the sign matrix's rows against the slab of two heads is one head's rotation. -/
theorem kHead_apply (w : Vec Ideal S256x256 .bf16) (hw : ∀ i j : Fin 256, w (ix2 i j) =
      if i.val / 64 = j.val / 64 then hd ⟨i.val % 64, by omega⟩ ⟨j.val % 64, by omega⟩ else 0)
    (xl : Vec Ideal S1x384x128 .bf16) (k : Fin 2) (d : Fin 64) (t : Fin 384) :
    kHead (krt w xl) k (ix2 d t) = rotS (fun e => xl (ix3 (0 : Fin 1) t ⟨k.val * 64 + e.val, by omega⟩)) d := by
  have h : kHead (krt w xl) k (ix2 d t) = ∑ x : Fin 128, w (ix2 ⟨k.val * 64 + d.val, by omega⟩ ⟨x.val, by omega⟩) * xl (ix3 (0 : Fin 1) t x) := by
    pointwise [kHead, krt]
  rw [h, sum_block k.val _ (by omega)]
  · unfold rotS
    refine Finset.sum_congr rfl fun e _ => ?_
    rw [hw, if_pos (by show (k.val * 64 + d.val) / 64 = (k.val * 64 + e.val) / 64; omega), mul_comm, hd_comm]
    congr 2 <;> exact Fin.ext (by simp only; omega)
  · intro x hx
    rw [hw, if_neg (by show ¬ (k.val * 64 + d.val) / 64 = x.val / 64; omega), zero_mul]

theorem ldW_apply (x : Vec Ideal S256x256 .bf16) (i j : Fin 256) : ldW x (ix2 i j) = x (ix2 i j) := by
  show x _ = x _
  congr 1; funext a; fin_cases a <;> exact Fin.ext (by simp [LoadRect.idx, Rect.unit, ix2])
theorem ldX_apply (x : Vec Ideal S1x384x768 .bf16) (g : Fin 3) (t : Fin 384) (j : Fin 256) :
    ldX x g (ix3 (0 : Fin 1) t j) = x (ix3 (0 : Fin 1) t ⟨g.val * 256 + j.val, by omega⟩) := by
  show x _ = x _
  congr 1; funext a; fin_cases a <;> exact Fin.ext (by simp [LoadRect.idx, Rect.unit, ix3])
theorem ldK_apply (x : Vec Ideal S1x384x128 .bf16) (t : Fin 384) (j : Fin 128) : ldK x (ix3 (0 : Fin 1) t j) = x (ix3 (0 : Fin 1) t j) := by
  show x _ = x _
  congr 1; funext a; fin_cases a <;> exact Fin.ext (by simp [LoadRect.idx, Rect.unit, ix3])

end

end Cert.KernelIdeal.Hand

end
-- ==== Proof.KOut.lean ====
/- What a head stores for each of its three query blocks, over the extended reals, as the weighted average. -/
module

public import proofs.«01_k».proof.Proof.KPt

@[expose] public section

set_option maxRecDepth 16384

namespace Cert.KernelIdeal.Hand

open Cert.KernelIdeal Facts₀ Facts
open Cert.KernelIdeal.Gen (facts)
open Idealize.ShloMosaic Idealize.ShloMosaic.TcCoe
open Cert.Spec

noncomputable section

/-- The maximum `M` less eight over the scale `r`, kept where the difference times the scale stays below 8.5. -/
def shS (M r : EReal) : EReal :=
  if (M - (M - Ideal.div (Ideal.ofBits .f32 1090519040#32) r)) * r < Ideal.ofBits .f32 1091043328#32 then M - Ideal.div (Ideal.ofBits .f32 1090519040#32) r else M

theorem wt0_apply (t : FVec Ideal S128x128 .f32) (rb : FVec Ideal S1x128 .f32) (k : Fin 128) (c : Fin 128) :
    wt0 t rb (ix2 k c) = FloatOps.exp2 (F := Ideal) (φ := .f32) ((t (ix2 k c)
      - shS (Finset.fold max (Ideal.ofBits .f32 4286578688#32) (fun x : Fin 128 => t (ix2 x c)) Finset.univ) (rb (ix2 (0 : Fin 1) c))) * rb (ix2 (0 : Fin 1) c)) := by
  pointwise [wt0, shiftMax, mx0, shS]

theorem msk0_apply (kn : FVec Ideal S384x64 .fp8e4m3) (kb : FVec Ideal S384x128 .f32) (qc : FVec Ideal S64x384 .fp8e4m3) (k : Fin 128) (c : Fin 128) :
    msk0 kn kb qc (ix2 k c) = if k.val ≤ c.val then (∑ e : Fin 64, kn (ix2 ⟨k.val, by omega⟩ e) * qc (ix2 e ⟨c.val, by omega⟩)) * kb (ix2 ⟨k.val, by omega⟩ c)
      else Ideal.ofBits .f32 4286578688#32 := by
  have h : msk0 kn kb qc (ix2 k c) = Scalar.select (IntOp.cmpi .sle (BitVec.ofNat 32 k.val) (BitVec.ofNat 32 c.val))
      ((∑ e : Fin 64, kn (ix2 ⟨k.val, by omega⟩ e) * qc (ix2 e ⟨c.val, by omega⟩)) * kb (ix2 ⟨k.val, by omega⟩ c)) (Ideal.ofBits .f32 4286578688#32) := by
    pointwise [msk0, sc0, causal]
  rw [h]; exact sel_le ⟨k.val, by omega⟩ ⟨c.val, by omega⟩ _ _

theorem out0_apply (kn : FVec Ideal S384x64 .fp8e4m3) (kb : FVec Ideal S384x128 .f32) (qc : FVec Ideal S64x384 .fp8e4m3) (r : FVec Ideal S1x384 .f32)
    (vt : FVec Ideal S64x384 .fp8e4m3) (vsb : FVec Ideal S64x128 .f32) (c : Fin 128) (d : Fin 64) :
    out0 kn kb qc r vt vsb (ix3 (0 : Fin 1) c d) = Ideal.div ((∑ x : Fin 128, vt (ix2 d ⟨x.val, by omega⟩) * min (wt0 (msk0 kn kb qc)
      (extractStridedSlice S1x128 ![0, 0] r slices_S1x384_o0_0_S1x128) (ix2 x c)) (Ideal.ofBits .f32 1138753536#32)) * vsb (ix2 d c))
      (∑ x : Fin 128, wt0 (msk0 kn kb qc) (extractStridedSlice S1x128 ![0, 0] r slices_S1x384_o0_0_S1x128) (ix2 x c)) := by
  pointwise [out0, finish, pv0, sm0]

theorem slice0_apply (r : FVec Ideal S1x384 .f32) (c : Fin 128) :
    extractStridedSlice S1x128 ![0, 0] r slices_S1x384_o0_0_S1x128 (ix2 (0 : Fin 1) c) = r (ix2 (0 : Fin 1) ⟨c.val, by omega⟩) := by
  pointwise []

/-- Query block 0: the stored value is the weighted average over the keys up to the query. -/
theorem out0_ref (kn : FVec Ideal S384x64 .fp8e4m3) (kb : FVec Ideal S384x128 .f32) (qc : FVec Ideal S64x384 .fp8e4m3) (r : FVec Ideal S1x384 .f32)
    (vt : FVec Ideal S64x384 .fp8e4m3) (vsb : FVec Ideal S64x128 .f32) (c : Fin 128) (d : Fin 64) (a ks v : Fin 384 → ℝ) (qs vs : ℝ) (hqs : 0 < qs)
    (ha : ∀ t : Fin 384, ∑ e : Fin 64, kn (ix2 t e) * qc (ix2 e ⟨c.val, by omega⟩) = (a t : EReal)) (hk : ∀ t : Fin 384, kb (ix2 t c) = (ks t : EReal))
    (hr : r (ix2 (0 : Fin 1) ⟨c.val, by omega⟩) = (qs : EReal) * (((512 * Real.log 2)⁻¹ : ℝ) : EReal)) (hv : ∀ t : Fin 384, vt (ix2 d t) = (v t : EReal))
    (hvs : vsb (ix2 d c) = (vs : EReal)) :
    out0 kn kb qc r vt vsb (ix3 (0 : Fin 1) c d) = refOut (n := 384) (c.val) (fun t => (a t : EReal) * (qs : EReal) * (ks t : EReal)
      * Ideal.ofBits .f32 989855744#32) (fun t => (v t : EReal)) (vs : EReal) := by
  rw [← out_eq 128 384 (c.val) (by omega) (by omega) a ks qs hqs v vs]
  have hT : ∀ t : Fin 128, msk0 kn kb qc (ix2 t c) = if t.val ≤ c.val then ((a (Fin.castLE (by omega) t) : EReal) * (ks (Fin.castLE (by omega) t) : EReal)) else ⊥ := by
    intro t
    rw [msk0_apply, ha, hk, pat_bot]; rfl
  have hv' : ∀ t : Fin 128, vt (ix2 d ⟨t.val, by omega⟩) = (v (Fin.castLE (by omega) t) : EReal) := fun t => hv _
  rw [out0_apply]
  simp only [wt0_apply, slice0_apply, hT, hr, hv', hvs]
  rfl

theorem wt1_apply (t : FVec Ideal S256x128 .f32) (rb : FVec Ideal S1x128 .f32) (k : Fin 256) (c : Fin 128) :
    wt1 t rb (ix2 k c) = FloatOps.exp2 (F := Ideal) (φ := .f32) ((t (ix2 k c)
      - shS (Finset.fold max (Ideal.ofBits .f32 4286578688#32) (fun x : Fin 256 => t (ix2 x c)) Finset.univ) (rb (ix2 (0 : Fin 1) c))) * rb (ix2 (0 : Fin 1) c)) := by
  pointwise [wt1, shiftMax, mx1, shS]

theorem msk1_apply (kn : FVec Ideal S384x64 .fp8e4m3) (kb : FVec Ideal S384x128 .f32) (qc : FVec Ideal S64x384 .fp8e4m3) (k : Fin 256) (c : Fin 128) :
    msk1 kn kb qc (ix2 k c) = if k.val ≤ 128 + c.val then (∑ e : Fin 64, kn (ix2 ⟨k.val, by omega⟩ e) * qc (ix2 e ⟨128 + c.val, by omega⟩)) * kb (ix2 ⟨k.val, by omega⟩ c)
      else Ideal.ofBits .f32 4286578688#32 := by
  have h : msk1 kn kb qc (ix2 k c) = if h : k.val < 128 then (∑ e : Fin 64, kn (ix2 ⟨k.val, by omega⟩ e) * qc (ix2 e ⟨128 + c.val, by omega⟩)) * kb (ix2 ⟨k.val, by omega⟩ c)
      else Scalar.select (IntOp.cmpi .sle (BitVec.ofNat 32 (k.val - 128)) (BitVec.ofNat 32 c.val))
        ((∑ e : Fin 64, kn (ix2 ⟨128 + (k.val - 128), by omega⟩ e) * qc (ix2 e ⟨128 + c.val, by omega⟩)) * kb (ix2 ⟨128 + (k.val - 128), by omega⟩ c)) (Ideal.ofBits .f32 4286578688#32) := by
    pointwise [msk1, sc1, causal]
  rw [h]
  by_cases hk : k.val < 128
  · rw [dif_pos hk, if_pos (by omega)]
  · rw [dif_neg hk, sel_le ⟨k.val - 128, by omega⟩ ⟨c.val, by omega⟩]
    have e : (⟨128 + (k.val - 128), by omega⟩ : Fin 384) = ⟨k.val, by omega⟩ := Fin.ext (by show 128 + (k.val - 128) = k.val; omega)
    rw [e]
    by_cases hc : k.val ≤ 128 + c.val
    · rw [if_pos hc, if_pos (by show k.val - 128 ≤ c.val; omega)]
    · rw [if_neg hc, if_neg (by show ¬ k.val - 128 ≤ c.val; omega)]

theorem out1_apply (kn : FVec Ideal S384x64 .fp8e4m3) (kb : FVec Ideal S384x128 .f32) (qc : FVec Ideal S64x384 .fp8e4m3) (r : FVec Ideal S1x384 .f32)
    (vt : FVec Ideal S64x384 .fp8e4m3) (vsb : FVec Ideal S64x128 .f32) (c : Fin 128) (d : Fin 64) :
    out1 kn kb qc r vt vsb (ix3 (0 : Fin 1) c d) = Ideal.div ((∑ x : Fin 256, vt (ix2 d ⟨x.val, by omega⟩) * min (wt1 (msk1 kn kb qc)
      (extractStridedSlice S1x128 ![0, 128] r slices_S1x384_o0_128_S1x128) (ix2 x c)) (Ideal.ofBits .f32 1138753536#32)) * vsb (ix2 d c))
      (∑ x : Fin 256, wt1 (msk1 kn kb qc) (extractStridedSlice S1x128 ![0, 128] r slices_S1x384_o0_128_S1x128) (ix2 x c)) := by
  pointwise [out1, finish, pv1, sm1]

theorem slice1_apply (r : FVec Ideal S1x384 .f32) (c : Fin 128) :
    extractStridedSlice S1x128 ![0, 128] r slices_S1x384_o0_128_S1x128 (ix2 (0 : Fin 1) c) = r (ix2 (0 : Fin 1) ⟨128 + c.val, by omega⟩) := by
  pointwise []

/-- Query block 1: the stored value is the weighted average over the keys up to the query. -/
theorem out1_ref (kn : FVec Ideal S384x64 .fp8e4m3) (kb : FVec Ideal S384x128 .f32) (qc : FVec Ideal S64x384 .fp8e4m3) (r : FVec Ideal S1x384 .f32)
    (vt : FVec Ideal S64x384 .fp8e4m3) (vsb : FVec Ideal S64x128 .f32) (c : Fin 128) (d : Fin 64) (a ks v : Fin 384 → ℝ) (qs vs : ℝ) (hqs : 0 < qs)
    (ha : ∀ t : Fin 384, ∑ e : Fin 64, kn (ix2 t e) * qc (ix2 e ⟨128 + c.val, by omega⟩) = (a t : EReal)) (hk : ∀ t : Fin 384, kb (ix2 t c) = (ks t : EReal))
    (hr : r (ix2 (0 : Fin 1) ⟨128 + c.val, by omega⟩) = (qs : EReal) * (((512 * Real.log 2)⁻¹ : ℝ) : EReal)) (hv : ∀ t : Fin 384, vt (ix2 d t) = (v t : EReal))
    (hvs : vsb (ix2 d c) = (vs : EReal)) :
    out1 kn kb qc r vt vsb (ix3 (0 : Fin 1) c d) = refOut (n := 384) (128 + c.val) (fun t => (a t : EReal) * (qs : EReal) * (ks t : EReal)
      * Ideal.ofBits .f32 989855744#32) (fun t => (v t : EReal)) (vs : EReal) := by
  rw [← out_eq 256 384 (128 + c.val) (by omega) (by omega) a ks qs hqs v vs]
  have hT : ∀ t : Fin 256, msk1 kn kb qc (ix2 t c) = if t.val ≤ 128 + c.val then ((a (Fin.castLE (by omega) t) : EReal) * (ks (Fin.castLE (by omega) t) : EReal)) else ⊥ := by
    intro t
    rw [msk1_apply, ha, hk, pat_bot]; rfl
  have hv' : ∀ t : Fin 256, vt (ix2 d ⟨t.val, by omega⟩) = (v (Fin.castLE (by omega) t) : EReal) := fun t => hv _
  rw [out1_apply]
  simp only [wt1_apply, slice1_apply, hT, hr, hv', hvs]
  rfl

theorem wt2_apply (t : FVec Ideal S384x128 .f32) (rb : FVec Ideal S1x128 .f32) (k : Fin 384) (c : Fin 128) :
    wt2 t rb (ix2 k c) = FloatOps.exp2 (F := Ideal) (φ := .f32) ((t (ix2 k c)
      - shS (Finset.fold max (Ideal.ofBits .f32 4286578688#32) (fun x : Fin 384 => t (ix2 x c)) Finset.univ) (rb (ix2 (0 : Fin 1) c))) * rb (ix2 (0 : Fin 1) c)) := by
  pointwise [wt2, shiftMax, mx2, shS]

theorem msk2_apply (kn : FVec Ideal S384x64 .fp8e4m3) (kb : FVec Ideal S384x128 .f32) (qc : FVec Ideal S64x384 .fp8e4m3) (k : Fin 384) (c : Fin 128) :
    msk2 kn kb qc (ix2 k c) = if k.val ≤ 256 + c.val then (∑ e : Fin 64, kn (ix2 k e) * qc (ix2 e ⟨256 + c.val, by omega⟩)) * kb (ix2 k c)
      else Ideal.ofBits .f32 4286578688#32 := by
  have h : msk2 kn kb qc (ix2 k c) = if h : k.val < 256 then (∑ e : Fin 64, kn (ix2 ⟨k.val, by omega⟩ e) * qc (ix2 e ⟨256 + c.val, by omega⟩)) * kb (ix2 ⟨k.val, by omega⟩ c)
      else Scalar.select (IntOp.cmpi .sle (BitVec.ofNat 32 (k.val - 256)) (BitVec.ofNat 32 c.val))
        ((∑ e : Fin 64, kn (ix2 ⟨256 + (k.val - 256), by omega⟩ e) * qc (ix2 e ⟨256 + c.val, by omega⟩)) * kb (ix2 ⟨256 + (k.val - 256), by omega⟩ c)) (Ideal.ofBits .f32 4286578688#32) := by
    pointwise [msk2, sc2, causal]
  rw [h]
  by_cases hk : k.val < 256
  · rw [dif_pos hk, if_pos (by omega)]
  · rw [dif_neg hk, sel_le ⟨k.val - 256, by omega⟩ ⟨c.val, by omega⟩]
    have e : (⟨256 + (k.val - 256), by omega⟩ : Fin 384) = k := Fin.ext (by show 256 + (k.val - 256) = k.val; omega)
    rw [e]
    by_cases hc : k.val ≤ 256 + c.val
    · rw [if_pos hc, if_pos (by show k.val - 256 ≤ c.val; omega)]
    · rw [if_neg hc, if_neg (by show ¬ k.val - 256 ≤ c.val; omega)]

theorem out2_apply (kn : FVec Ideal S384x64 .fp8e4m3) (kb : FVec Ideal S384x128 .f32) (qc : FVec Ideal S64x384 .fp8e4m3) (r : FVec Ideal S1x384 .f32)
    (vt : FVec Ideal S64x384 .fp8e4m3) (vsb : FVec Ideal S64x128 .f32) (c : Fin 128) (d : Fin 64) :
    out2 kn kb qc r vt vsb (ix3 (0 : Fin 1) c d) = Ideal.div ((∑ x : Fin 384, vt (ix2 d x) * min (wt2 (msk2 kn kb qc)
      (extractStridedSlice S1x128 ![0, 256] r slices_S1x384_o0_256_S1x128) (ix2 x c)) (Ideal.ofBits .f32 1138753536#32)) * vsb (ix2 d c))
      (∑ x : Fin 384, wt2 (msk2 kn kb qc) (extractStridedSlice S1x128 ![0, 256] r slices_S1x384_o0_256_S1x128) (ix2 x c)) := by
  pointwise [out2, finish, pv2, sm2]

theorem slice2_apply (r : FVec Ideal S1x384 .f32) (c : Fin 128) :
    extractStridedSlice S1x128 ![0, 256] r slices_S1x384_o0_256_S1x128 (ix2 (0 : Fin 1) c) = r (ix2 (0 : Fin 1) ⟨256 + c.val, by omega⟩) := by
  pointwise []

/-- Query block 2: the stored value is the weighted average over the keys up to the query. -/
theorem out2_ref (kn : FVec Ideal S384x64 .fp8e4m3) (kb : FVec Ideal S384x128 .f32) (qc : FVec Ideal S64x384 .fp8e4m3) (r : FVec Ideal S1x384 .f32)
    (vt : FVec Ideal S64x384 .fp8e4m3) (vsb : FVec Ideal S64x128 .f32) (c : Fin 128) (d : Fin 64) (a ks v : Fin 384 → ℝ) (qs vs : ℝ) (hqs : 0 < qs)
    (ha : ∀ t : Fin 384, ∑ e : Fin 64, kn (ix2 t e) * qc (ix2 e ⟨256 + c.val, by omega⟩) = (a t : EReal)) (hk : ∀ t : Fin 384, kb (ix2 t c) = (ks t : EReal))
    (hr : r (ix2 (0 : Fin 1) ⟨256 + c.val, by omega⟩) = (qs : EReal) * (((512 * Real.log 2)⁻¹ : ℝ) : EReal)) (hv : ∀ t : Fin 384, vt (ix2 d t) = (v t : EReal))
    (hvs : vsb (ix2 d c) = (vs : EReal)) :
    out2 kn kb qc r vt vsb (ix3 (0 : Fin 1) c d) = refOut (n := 384) (256 + c.val) (fun t => (a t : EReal) * (qs : EReal) * (ks t : EReal)
      * Ideal.ofBits .f32 989855744#32) (fun t => (v t : EReal)) (vs : EReal) := by
  rw [← out_eq 384 384 (256 + c.val) (by omega) (by omega) a ks qs hqs v vs]
  have hT : ∀ t : Fin 384, msk2 kn kb qc (ix2 t c) = if t.val ≤ 256 + c.val then ((a (Fin.castLE (by omega) t) : EReal) * (ks (Fin.castLE (by omega) t) : EReal)) else ⊥ := by
    intro t
    rw [msk2_apply, ha, hk, pat_bot]; rfl
  have hv' : ∀ t : Fin 384, vt (ix2 d t) = (v (Fin.castLE (by omega) t) : EReal) := fun t => hv _
  rw [out2_apply]
  simp only [wt2_apply, slice2_apply, hT, hr, hv', hvs]
  rfl

end

end Cert.KernelIdeal.Hand

end
-- ==== Proof.RDefs.lean ====
/- The reference's host part as functions of its three arguments: the sign matrix, the rotations, the quantiser, the scores, the
   weights and the output, each result of @main's host lines being one of them. -/
module

public import proofs.«01_k».proof.Proof.Gen.ReferenceIdeal

@[expose] public section

set_option maxRecDepth 16384

namespace Cert.ReferenceIdeal.Hand

open Cert.ReferenceIdeal Facts₀ Facts
open Cert.ReferenceIdeal.Gen (facts)
open Idealize.ShloMosaic Idealize.ShloMosaic.TcCoe

noncomputable section

variable {F : FTy → Type} [FloatOps F]

/-- The divisor two of the remainder, as `jnp.remainder` guards it against zero. -/
def two : IVec S_ 32 :=
  select (cmpi .eq (constantI S_ 32 2#32) (constantI S_ 32 0#32)) (constantI S_ 32 1#32) (constantI S_ 32 2#32)

/-- The truncated remainder of the number of common bits of row and column. -/
def remT : IVec S64x64 32 :=
  Host.remsi (ctpop (andi (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0)))))
    (broadcastInDim S64x64 ![] bcast_S_S64x64 two)

/-- The remainder with the divisor's sign. -/
def remF : IVec S64x64 32 :=
  select (andi (cmpi .ne (cmpi .slt remT (broadcastInDim S64x64 ![] bcast_S_S64x64 (constantI S_ 32 0#32)))
      (broadcastInDim S64x64 ![] bcast_S_S64x64 (cmpi .slt two (constantI S_ 32 0#32))))
      (cmpi .ne remT (broadcastInDim S64x64 ![] bcast_S_S64x64 (constantI S_ 32 0#32))))
    (addi remT (broadcastInDim S64x64 ![] bcast_S_S64x64 two)) remT

/-- The sign matrix. -/
def hadR : FVec F S64x64 .f32 :=
  sitofp .f32 (subi (broadcastInDim S64x64 ![] bcast_S_S64x64 (constantI S_ 32 1#32))
    (muli (broadcastInDim S64x64 ![] bcast_S_S64x64 (constantI S_ 32 2#32)) remF))

/-- The queries by head, rotated. -/
def rotQ (x : Vec F S5x384x3072 .bf16) : FVec F S5x384x48x64 .f32 :=
  Host.dotGeneral dot_S5x384x48x64_S64x64_S5x384x48x64_3_0_012_1_n_n (some .fp32)
    (extf .f32 (shapeCast S5x384x48x64 x shapeCasts_S5x384x3072_S5x384x48x64 : FVec F S5x384x48x64 .bf16) bitsLt_bf16_f32) hadR

/-- The keys by head, rotated. -/
def rotK (k : Vec F S5x384x512 .bf16) : FVec F S5x384x8x64 .f32 :=
  Host.dotGeneral dot_S5x384x8x64_S64x64_S5x384x8x64_3_0_012_1_n_n (some .fp32)
    (extf .f32 (shapeCast S5x384x8x64 k shapeCasts_S5x384x512_S5x384x8x64 : FVec F S5x384x8x64 .bf16) bitsLt_bf16_f32) hadR

/-- The values by head. -/
def valV (v : Vec F S5x384x512 .bf16) : FVec F S5x384x8x64 .f32 :=
  extf .f32 (shapeCast S5x384x8x64 v shapeCasts_S5x384x512_S5x384x8x64 : FVec F S5x384x8x64 .bf16) bitsLt_bf16_f32

/-- The greatest absolute values of the queries, over 448. -/
def amQ (x : Vec F S5x384x3072 .bf16) : FVec F S5x384x48x1 .f32 :=
  mulf (broadcastInDim S5x384x48x1 ![0, 1, 2] bcast_S5x384x48_S5x384x48x1_0_1_2
      (Host.reduce FloatOps.maximumf (Host.absf (rotQ x)) (constant S_ .f32 0xFF800000#32) reducesTo_S5x384x48x64_S5x384x48_d3 h_S_))
    (broadcastInDim S5x384x48x1 ![] bcast_S_S5x384x48x1 (constant S_ .f32 0x3B124925#32))

/-- The greatest absolute values of the keys, over 448. -/
def amK (k : Vec F S5x384x512 .bf16) : FVec F S5x384x8x1 .f32 :=
  mulf (broadcastInDim S5x384x8x1 ![0, 1, 2] bcast_S5x384x8_S5x384x8x1_0_1_2
      (Host.reduce FloatOps.maximumf (Host.absf (rotK k)) (constant S_ .f32 0xFF800000#32) reducesTo_S5x384x8x64_S5x384x8_d3 h_S_))
    (broadcastInDim S5x384x8x1 ![] bcast_S_S5x384x8x1 (constant S_ .f32 0x3B124925#32))

/-- The greatest absolute values of the values' columns, over 448. -/
def amV (v : Vec F S5x384x512 .bf16) : FVec F S5x1x8x64 .f32 :=
  mulf (broadcastInDim S5x1x8x64 ![0, 2, 3] bcast_S5x8x64_S5x1x8x64_0_2_3
      (Host.reduce FloatOps.maximumf (Host.absf (valV v)) (constant S_ .f32 0xFF800000#32) reducesTo_S5x384x8x64_S5x8x64_d1 h_S_))
    (broadcastInDim S5x1x8x64 ![] bcast_S_S5x1x8x64 (constant S_ .f32 0x3B124925#32))

/-- The logarithm of two. -/
def lnTwo : FVec F S_ .f32 := Host.log (constant S_ .f32 0x40000000#32)

/-- The exponent of the scale of `y`. -/
def expoOf (s : Shape) (h : S_.BroadcastsInDim s (![] : Fin 0 → Fin s.rank)) (y : FVec F s .f32) : FVec F s .f32 :=
  select (cmpf .olt y (broadcastInDim s ![] h (constant S_ .f32 0x00800000#32)))
    (broadcastInDim s ![] h (constant S_ .f32 0x00000000#32))
    (addf (Host.floor (Host.divf (Host.log y) (broadcastInDim s ![] h lnTwo))) (broadcastInDim s ![] h (constant S_ .f32 0x3F800000#32)))

/-- The scale of `y`. -/
def sclR (s : Shape) (h : S_.BroadcastsInDim s (![] : Fin 0 → Fin s.rank)) (y : FVec F s .f32) : FVec F s .f32 :=
  Host.exp (mulf (expoOf s h y) (broadcastInDim s ![] h lnTwo))

/-- The inverse of the scale of `y`. -/
def invR (s : Shape) (h : S_.BroadcastsInDim s (![] : Fin 0 → Fin s.rank)) (y : FVec F s .f32) : FVec F s .f32 :=
  Host.exp (mulf (Host.negf (expoOf s h y)) (broadcastInDim s ![] h lnTwo))

/-- A value clipped to the codes' range. -/
def clipR (s : Shape) (h : S_.BroadcastsInDim s (![] : Fin 0 → Fin s.rank)) (y : FVec F s .f32) : FVec F s .f32 :=
  minimumf (broadcastInDim s ![] h (constant S_ .f32 0x43E00000#32)) (maximumf (broadcastInDim s ![] h (constant S_ .f32 0xC3E00000#32)) y)

/-- The queries' codes. -/
def cdQ (x : Vec F S5x384x3072 .bf16) : FVec F S5x384x48x64 .f32 :=
  clipR _ bcast_S_S5x384x48x64 (mulf (rotQ x) (broadcastInDim S5x384x48x64 ![0, 1, 2, 3] bcast_S5x384x48x1_S5x384x48x64_0_1_2_3
    (invR _ bcast_S_S5x384x48x1 (amQ x))))

/-- The keys' codes. -/
def cdK (k : Vec F S5x384x512 .bf16) : FVec F S5x384x8x64 .f32 :=
  clipR _ bcast_S_S5x384x8x64 (mulf (rotK k) (broadcastInDim S5x384x8x64 ![0, 1, 2, 3] bcast_S5x384x8x1_S5x384x8x64_0_1_2_3
    (invR _ bcast_S_S5x384x8x1 (amK k))))

/-- The values' codes. -/
def cdV (v : Vec F S5x384x512 .bf16) : FVec F S5x384x8x64 .f32 :=
  clipR _ bcast_S_S5x384x8x64 (mulf (valV v) (broadcastInDim S5x384x8x64 ![0, 1, 2, 3] bcast_S5x1x8x64_S5x384x8x64_0_1_2_3
    (invR _ bcast_S_S5x1x8x64 (amV v))))

/-- The queries' scales, by key head and group. -/
def scQ (x : Vec F S5x384x3072 .bf16) : FVec F S5x8x6x384 .f32 :=
  transpose S5x8x6x384 [0, 2, 3, 1] (shapeCast S5x384x8x6 (sclR _ bcast_S_S5x384x48x1 (amQ x)) shapeCasts_S5x384x48x1_S5x384x8x6)
    transposes_S5x384x8x6_S5x8x6x384_0_2_3_1

/-- The keys' scales. -/
def scK (k : Vec F S5x384x512 .bf16) : FVec F S5x8x384 .f32 :=
  transpose S5x8x384 [0, 2, 1] (shapeCast S5x384x8 (sclR _ bcast_S_S5x384x8x1 (amK k)) shapeCasts_S5x384x8x1_S5x384x8)
    transposes_S5x384x8_S5x8x384_0_2_1

/-- The values' scales. -/
def scV (v : Vec F S5x384x512 .bf16) : FVec F S5x8x64 .f32 :=
  shapeCast S5x8x64 (sclR _ bcast_S_S5x1x8x64 (amV v)) shapeCasts_S5x1x8x64_S5x8x64

/-- The scores of every query against every key. -/
def scores (x : Vec F S5x384x3072 .bf16) (k : Vec F S5x384x512 .bf16) : FVec F S5x8x6x384x384 .f32 :=
  mulf (mulf (mulf
    (transpose S5x8x6x384x384 [0, 1, 4, 3, 2]
      (Host.dotGeneral dot_S5x384x8x64_S5x384x8x6x64_S5x8x384x384x6_3_4_1_13_02_02 (some .fp32) (cdK k)
        (shapeCast S5x384x8x6x64 (cdQ x) shapeCasts_S5x384x48x64_S5x384x8x6x64)) transposes_S5x8x384x384x6_S5x8x6x384x384_0_1_4_3_2)
    (broadcastInDim S5x8x6x384x384 ![0, 1, 2, 3, 4] bcast_S5x8x6x384x1_S5x8x6x384x384_0_1_2_3_4
      (broadcastInDim S5x8x6x384x1 ![0, 1, 2, 3] bcast_S5x8x6x384_S5x8x6x384x1_0_1_2_3 (scQ x))))
    (broadcastInDim S5x8x6x384x384 ![0, 1, 2, 3, 4] bcast_S5x8x1x1x384_S5x8x6x384x384_0_1_2_3_4
      (broadcastInDim S5x8x1x1x384 ![0, 1, 4] bcast_S5x8x384_S5x8x1x1x384_0_1_4 (scK k))))
    (broadcastInDim S5x8x6x384x384 ![] bcast_S_S5x8x6x384x384 (constant S_ .f32 0x3B000000#32))

/-- The causal mask, over queries and keys. -/
def maskR : IVec S384x384 1 :=
  cmpi .sle (broadcastInDim S384x384 ![0, 1] bcast_S1x384_S384x384_0_1 (broadcastInDim S1x384 ![1] bcast_S384_S1x384_1 (iotaInDim S384 32 0)))
    (broadcastInDim S384x384 ![0, 1] bcast_S384x1_S384x384_0_1 (broadcastInDim S384x1 ![0] bcast_S384_S384x1_0 (iotaInDim S384 32 0)))

/-- Scores with the masked ones replaced by the constant of pattern `w`. -/
def masked (w : BitVec 32) (s : FVec F S5x8x6x384x384 .f32) : FVec F S5x8x6x384x384 .f32 :=
  select (broadcastInDim S5x8x6x384x384 ![3, 4] bcast_S384x384_S5x8x6x384x384_3_4 maskR) s
    (broadcastInDim S5x8x6x384x384 ![] bcast_S_S5x8x6x384x384 (constant S_ .f32 w))

/-- Each query's greatest masked score, over the keys' axis again. -/
def maxR (s : FVec F S5x8x6x384x384 .f32) : FVec F S5x8x6x384x384 .f32 :=
  broadcastInDim S5x8x6x384x384 ![0, 1, 2, 3, 4] bcast_S5x8x6x384x1_S5x8x6x384x384_0_1_2_3_4
    (broadcastInDim S5x8x6x384x1 ![0, 1, 2, 3] bcast_S5x8x6x384_S5x8x6x384x1_0_1_2_3
      (Host.reduce FloatOps.maximumf s (constant S_ .f32 0xFF800000#32) reducesTo_S5x8x6x384x384_S5x8x6x384_d4 h_S_))

/-- The weights: exponentials of the scores less their maximum, zero where masked. -/
def prob (x : Vec F S5x384x3072 .bf16) (k : Vec F S5x384x512 .bf16) : FVec F S5x8x6x384x384 .f32 :=
  masked 0x00000000#32 (Host.exp (subf (masked 0xFF800000#32 (scores x k)) (maxR (masked 0xFF800000#32 (scores x k)))))

/-- The weights' sums. -/
def psum (p : FVec F S5x8x6x384x384 .f32) : FVec F S5x8x6x384x64 .f32 :=
  broadcastInDim S5x8x6x384x64 ![0, 1, 2, 3, 4] bcast_S5x8x6x384x1_S5x8x6x384x64_0_1_2_3_4
    (broadcastInDim S5x8x6x384x1 ![0, 1, 2, 3] bcast_S5x8x6x384_S5x8x6x384x1_0_1_2_3
      (Host.reduceAdd p (constant S_ .f32 0x00000000#32) reducesTo_S5x8x6x384x384_S5x8x6x384_d4 h_S_))

/-- The weights' codes. -/
def pcod (p : FVec F S5x8x6x384x384 .f32) : FVec F S5x8x6x384x384 .f32 :=
  minimumf (broadcastInDim S5x8x6x384x384 ![] bcast_S_S5x8x6x384x384 (constant S_ .f32 0x43E00000#32))
    (maximumf (broadcastInDim S5x8x6x384x384 ![] bcast_S_S5x8x6x384x384 (constant S_ .f32 0x00000000#32))
      (mulf p (broadcastInDim S5x8x6x384x384 ![] bcast_S_S5x8x6x384x384 (constant S_ .f32 0x43800000#32))))

/-- The weighted values. -/
def outB (x : Vec F S5x384x3072 .bf16) (k v : Vec F S5x384x512 .bf16) : FVec F S5x8x6x384x64 .f32 :=
  Host.divf (mulf (mulf
    (Host.dotGeneral dot_S5x8x6x384x384_S5x384x8x64_S5x8x6x384x64_4_1_23_3_01_02 (some .fp32) (pcod (prob x k)) (cdV v))
    (broadcastInDim S5x8x6x384x64 ![] bcast_S_S5x8x6x384x64 (constant S_ .f32 0x3B800000#32)))
    (broadcastInDim S5x8x6x384x64 ![0, 1, 2, 3, 4] bcast_S5x8x1x1x64_S5x8x6x384x64_0_1_2_3_4
      (broadcastInDim S5x8x1x1x64 ![0, 1, 4] bcast_S5x8x64_S5x8x1x1x64_0_1_4 (scV v))))
    (psum (prob x k))

/-- The output. -/
def outR (x : Vec F S5x384x3072 .bf16) (k v : Vec F S5x384x512 .bf16) : FVec F S5x384x3072 .bf16 :=
  truncf .bf16 (shapeCast S5x384x3072 (transpose S5x384x8x6x64 [0, 3, 1, 2, 4] (outB x k v) transposes_S5x8x6x384x64_S5x384x8x6x64_0_3_1_2_4)
    shapeCasts_S5x384x8x6x64_S5x384x3072 : FVec F S5x384x3072 .f32) bitsLt_bf16_f32

/-- The queries' scales by head. -/
def scQ48 (x : Vec F S5x384x3072 .bf16) : FVec F S5x48x384 .f32 := shapeCast S5x48x384 (scQ x) shapeCasts_S5x8x6x384_S5x48x384

/-- The queries' codes, positions last. -/
def tcQ (x : Vec F S5x384x3072 .bf16) : FVec F S5x48x64x384 .f32 :=
  transpose S5x48x64x384 [0, 2, 3, 1] (cdQ x) transposes_S5x384x48x64_S5x48x64x384_0_2_3_1

/-- The keys' codes, positions last. -/
def tcK (k : Vec F S5x384x512 .bf16) : FVec F S5x8x64x384 .f32 :=
  transpose S5x8x64x384 [0, 2, 3, 1] (cdK k) transposes_S5x384x8x64_S5x8x64x384_0_2_3_1

/-- The values' codes, positions last. -/
def tcV (v : Vec F S5x384x512 .bf16) : FVec F S5x8x64x384 .f32 :=
  transpose S5x8x64x384 [0, 2, 3, 1] (cdV v) transposes_S5x384x8x64_S5x8x64x384_0_2_3_1

variable (m : (ℓ : Loc nD τ sig) → Buf (Elt F) ℓ)

/-- The three arguments of @main on core `c`. -/
abbrev argX (c : Dev nD) : Vec F S5x384x3072 .bf16 := m ((c.tc : Thread nD τ).loc main_arg0)
/-- The keys' argument. -/
abbrev argK (c : Dev nD) : Vec F S5x384x512 .bf16 := m ((c.tc : Thread nD τ).loc main_arg1)
/-- The values' argument. -/
abbrev argV (c : Dev nD) : Vec F S5x384x512 .bf16 := m ((c.tc : Thread nD τ).loc main_arg2)

end

end Cert.ReferenceIdeal.Hand

end
-- ==== Proof.RPt.lean ====
/- The reference's results entry by entry over the extended reals. -/
module

public import proofs.«01_k».proof.Proof.RDefs
public import proofs.«01_k».proof.Proof.Had
public import proofs.«01_k».proof.Proof.Soft
public import Idealize.ShloMosaic.Lib.Pointwise

@[expose] public section

set_option maxRecDepth 16384

namespace Cert.ReferenceIdeal.Hand

open Cert.ReferenceIdeal Facts₀ Facts
open Cert.ReferenceIdeal.Gen (facts)
open Idealize.ShloMosaic Idealize.ShloMosaic.TcCoe
open Cert.Spec
open Cert.KernelIdeal.Hand (sclS invS rsclS rinvS expoS)

noncomputable section

/-- The sign matrix. -/
theorem hadR_apply (d e : Fin 64) : hadR (F := Ideal) (ix2 d e) = hd d e := by
  have h : hadR (F := Ideal) (ix2 d e) = FloatOps.sitofp (F := Ideal) .f32 (hadI (BitVec.ofNat 32 d.val) (BitVec.ofNat 32 e.val)) := by
    pointwise [hadR, remF, remT, two, hadI, remI, dvsI]
  rw [h]; rfl

/-- The row of 64 values of query head `h` at position `s` of batch `b`. -/
def rowQ (x : Vec Ideal S5x384x3072 .bf16) (b : Fin 5) (s : Fin 384) (h : Fin 48) : Fin 64 → EReal := fun e => x (ix3 b s ⟨h.val * 64 + e.val, by omega⟩)
/-- The row of 64 values of key head `h` at position `s` of batch `b`. -/
def rowK (x : Vec Ideal S5x384x512 .bf16) (b : Fin 5) (s : Fin 384) (h : Fin 8) : Fin 64 → EReal := fun e => x (ix3 b s ⟨h.val * 64 + e.val, by omega⟩)
/-- The column `d` of value head `h` of batch `b`. -/
def colV (x : Vec Ideal S5x384x512 .bf16) (b : Fin 5) (h : Fin 8) (d : Fin 64) : Fin 384 → EReal := fun s => x (ix3 b s ⟨h.val * 64 + d.val, by omega⟩)

theorem rotQ_apply (x : Vec Ideal S5x384x3072 .bf16) (b : Fin 5) (s : Fin 384) (h : Fin 48) (e : Fin 64) :
    rotQ x (ix4 b s h e) = rotS (rowQ x b s h) e := by
  have hh : rotQ x (ix4 b s h e) = ∑ d : Fin 64, x (ix3 b s ⟨h.val * 64 + d.val, by omega⟩) * hadR (F := Ideal) (ix2 d e) := by
    pointwise [rotQ]
  rw [hh]; simp only [hadR_apply]; rfl

theorem rotK_apply (x : Vec Ideal S5x384x512 .bf16) (b : Fin 5) (s : Fin 384) (h : Fin 8) (e : Fin 64) :
    rotK x (ix4 b s h e) = rotS (rowK x b s h) e := by
  have hh : rotK x (ix4 b s h e) = ∑ d : Fin 64, x (ix3 b s ⟨h.val * 64 + d.val, by omega⟩) * hadR (F := Ideal) (ix2 d e) := by
    pointwise [rotK]
  rw [hh]; simp only [hadR_apply]; rfl

theorem valV_apply (x : Vec Ideal S5x384x512 .bf16) (b : Fin 5) (s : Fin 384) (h : Fin 8) (d : Fin 64) :
    valV x (ix4 b s h d) = colV x b h d s := by
  have hh : valV x (ix4 b s h d) = x (ix3 b s ⟨h.val * 64 + d.val, by omega⟩) := by
    pointwise [valV]
  rw [hh]; rfl

theorem sclR_apply (s : Shape) (h : S_.BroadcastsInDim s (![] : Fin 0 → Fin s.rank)) (y : FVec Ideal s .f32) (i : s.Idx) :
    sclR s h y i = rsclS (y i) := by
  pointwise [sclR, expoOf, lnTwo, rsclS, expoS]

theorem invR_apply (s : Shape) (h : S_.BroadcastsInDim s (![] : Fin 0 → Fin s.rank)) (y : FVec Ideal s .f32) (i : s.Idx) :
    invR s h y i = rinvS (y i) := by
  pointwise [invR, expoOf, lnTwo, rinvS, expoS]

theorem abs_gen (s : Shape) (q : FVec Ideal s .f32) (i : s.Idx) : Host.absf q i = FloatOps.absf (F := Ideal) (φ := .f32) (q i) := by
  pointwise []

theorem redQ (q : FVec Ideal S5x384x48x64 .f32) (b : Fin 5) (s : Fin 384) (h : Fin 48) :
    Host.reduce FloatOps.maximumf q (constant S_ .f32 0xFF800000#32) reducesTo_S5x384x48x64_S5x384x48_d3 h_S_ (ix3 b s h)
      = Finset.fold max (Ideal.ofBits .f32 4286578688#32) (fun e : Fin 64 => q (ix4 b s h e)) Finset.univ := by
  pointwise []
theorem bcQ (q : FVec Ideal S5x384x48 .f32) (b : Fin 5) (s : Fin 384) (h : Fin 48) :
    mulf (broadcastInDim S5x384x48x1 ![0, 1, 2] bcast_S5x384x48_S5x384x48x1_0_1_2 q) (broadcastInDim S5x384x48x1 ![] bcast_S_S5x384x48x1 (constant S_ .f32 0x3B124925#32)) (ix4 b s h (0 : Fin 1))
      = q (ix3 b s h) * Ideal.ofBits .f32 991054117#32 := by
  pointwise []
theorem amQ_gen (q : FVec Ideal S5x384x48x64 .f32) (b : Fin 5) (s : Fin 384) (h : Fin 48) :
    mulf (broadcastInDim S5x384x48x1 ![0, 1, 2] bcast_S5x384x48_S5x384x48x1_0_1_2
      (Host.reduce FloatOps.maximumf (Host.absf q) (constant S_ .f32 0xFF800000#32) reducesTo_S5x384x48x64_S5x384x48_d3 h_S_))
    (broadcastInDim S5x384x48x1 ![] bcast_S_S5x384x48x1 (constant S_ .f32 0x3B124925#32)) (ix4 b s h (0 : Fin 1)) = amS fun e : Fin 64 => q (ix4 b s h e) := by
  rw [bcQ, redQ]; simp only [abs_gen]; unfold amS; with_reducible rfl

theorem redK (q : FVec Ideal S5x384x8x64 .f32) (b : Fin 5) (s : Fin 384) (h : Fin 8) :
    Host.reduce FloatOps.maximumf q (constant S_ .f32 0xFF800000#32) reducesTo_S5x384x8x64_S5x384x8_d3 h_S_ (ix3 b s h)
      = Finset.fold max (Ideal.ofBits .f32 4286578688#32) (fun e : Fin 64 => q (ix4 b s h e)) Finset.univ := by
  pointwise []
theorem bcK (q : FVec Ideal S5x384x8 .f32) (b : Fin 5) (s : Fin 384) (h : Fin 8) :
    mulf (broadcastInDim S5x384x8x1 ![0, 1, 2] bcast_S5x384x8_S5x384x8x1_0_1_2 q) (broadcastInDim S5x384x8x1 ![] bcast_S_S5x384x8x1 (constant S_ .f32 0x3B124925#32)) (ix4 b s h (0 : Fin 1))
      = q (ix3 b s h) * Ideal.ofBits .f32 991054117#32 := by
  pointwise []
theorem amK_gen (q : FVec Ideal S5x384x8x64 .f32) (b : Fin 5) (s : Fin 384) (h : Fin 8) :
    mulf (broadcastInDim S5x384x8x1 ![0, 1, 2] bcast_S5x384x8_S5x384x8x1_0_1_2
      (Host.reduce FloatOps.maximumf (Host.absf q) (constant S_ .f32 0xFF800000#32) reducesTo_S5x384x8x64_S5x384x8_d3 h_S_))
    (broadcastInDim S5x384x8x1 ![] bcast_S_S5x384x8x1 (constant S_ .f32 0x3B124925#32)) (ix4 b s h (0 : Fin 1)) = amS fun e : Fin 64 => q (ix4 b s h e) := by
  rw [bcK, redK]; simp only [abs_gen]; unfold amS; with_reducible rfl

theorem redV (q : FVec Ideal S5x384x8x64 .f32) (b : Fin 5) (h : Fin 8) (d : Fin 64) :
    Host.reduce FloatOps.maximumf q (constant S_ .f32 0xFF800000#32) reducesTo_S5x384x8x64_S5x8x64_d1 h_S_ (ix3 b h d)
      = Finset.fold max (Ideal.ofBits .f32 4286578688#32) (fun e : Fin 384 => q (ix4 b e h d)) Finset.univ := by
  pointwise []
theorem bcV (q : FVec Ideal S5x8x64 .f32) (b : Fin 5) (h : Fin 8) (d : Fin 64) :
    mulf (broadcastInDim S5x1x8x64 ![0, 2, 3] bcast_S5x8x64_S5x1x8x64_0_2_3 q) (broadcastInDim S5x1x8x64 ![] bcast_S_S5x1x8x64 (constant S_ .f32 0x3B124925#32)) (ix4 b (0 : Fin 1) h d)
      = q (ix3 b h d) * Ideal.ofBits .f32 991054117#32 := by
  pointwise []
theorem amV_gen (q : FVec Ideal S5x384x8x64 .f32) (b : Fin 5) (h : Fin 8) (d : Fin 64) :
    mulf (broadcastInDim S5x1x8x64 ![0, 2, 3] bcast_S5x8x64_S5x1x8x64_0_2_3
      (Host.reduce FloatOps.maximumf (Host.absf q) (constant S_ .f32 0xFF800000#32) reducesTo_S5x384x8x64_S5x8x64_d1 h_S_))
    (broadcastInDim S5x1x8x64 ![] bcast_S_S5x1x8x64 (constant S_ .f32 0x3B124925#32)) (ix4 b (0 : Fin 1) h d) = amS fun e : Fin 384 => q (ix4 b e h d) := by
  rw [bcV, redV]; simp only [abs_gen]; unfold amS; with_reducible rfl

theorem amQ_apply (x : Vec Ideal S5x384x3072 .bf16) (b : Fin 5) (s : Fin 384) (h : Fin 48) :
    amQ x (ix4 b s h (0 : Fin 1)) = amS (rotS (rowQ x b s h)) := by
  unfold amQ; rw [amQ_gen]; simp only [rotQ_apply]
theorem amK_apply (x : Vec Ideal S5x384x512 .bf16) (b : Fin 5) (s : Fin 384) (h : Fin 8) :
    amK x (ix4 b s h (0 : Fin 1)) = amS (rotS (rowK x b s h)) := by
  unfold amK; rw [amK_gen]; simp only [rotK_apply]
theorem amV_apply (x : Vec Ideal S5x384x512 .bf16) (b : Fin 5) (h : Fin 8) (d : Fin 64) :
    amV x (ix4 b (0 : Fin 1) h d) = amS (colV x b h d) := by
  unfold amV; rw [amV_gen]; simp only [valV_apply]

theorem cdQ_gen (q : FVec Ideal S5x384x48x64 .f32) (y : FVec Ideal S5x384x48x1 .f32) (b : Fin 5) (s : Fin 384) (h : Fin 48) (e : Fin 64) :
    clipR _ bcast_S_S5x384x48x64 (mulf q (broadcastInDim S5x384x48x64 ![0, 1, 2, 3] bcast_S5x384x48x1_S5x384x48x64_0_1_2_3 y)) (ix4 b s h e)
      = clipS (q (ix4 b s h e) * y (ix4 b s h (0 : Fin 1))) := by
  pointwise [clipR, clipS]
theorem cdK_gen (q : FVec Ideal S5x384x8x64 .f32) (y : FVec Ideal S5x384x8x1 .f32) (b : Fin 5) (s : Fin 384) (h : Fin 8) (e : Fin 64) :
    clipR _ bcast_S_S5x384x8x64 (mulf q (broadcastInDim S5x384x8x64 ![0, 1, 2, 3] bcast_S5x384x8x1_S5x384x8x64_0_1_2_3 y)) (ix4 b s h e)
      = clipS (q (ix4 b s h e) * y (ix4 b s h (0 : Fin 1))) := by
  pointwise [clipR, clipS]
theorem cdV_gen (q : FVec Ideal S5x384x8x64 .f32) (y : FVec Ideal S5x1x8x64 .f32) (b : Fin 5) (s : Fin 384) (h : Fin 8) (e : Fin 64) :
    clipR _ bcast_S_S5x384x8x64 (mulf q (broadcastInDim S5x384x8x64 ![0, 1, 2, 3] bcast_S5x1x8x64_S5x384x8x64_0_1_2_3 y)) (ix4 b s h e)
      = clipS (q (ix4 b s h e) * y (ix4 b (0 : Fin 1) h e)) := by
  pointwise [clipR, clipS]

/-- A query's code. -/
theorem cdQ_apply (x : Vec Ideal S5x384x3072 .bf16) (b : Fin 5) (s : Fin 384) (h : Fin 48) (e : Fin 64) :
    cdQ x (ix4 b s h e) = clipS (rotS (rowQ x b s h) e * rinvS (amS (rotS (rowQ x b s h)))) := by
  unfold cdQ; rw [cdQ_gen, invR_apply, amQ_apply, rotQ_apply]
/-- A key's code. -/
theorem cdK_apply (x : Vec Ideal S5x384x512 .bf16) (b : Fin 5) (s : Fin 384) (h : Fin 8) (e : Fin 64) :
    cdK x (ix4 b s h e) = clipS (rotS (rowK x b s h) e * rinvS (amS (rotS (rowK x b s h)))) := by
  unfold cdK; rw [cdK_gen, invR_apply, amK_apply, rotK_apply]
/-- A value's code. -/
theorem cdV_apply (x : Vec Ideal S5x384x512 .bf16) (b : Fin 5) (s : Fin 384) (h : Fin 8) (e : Fin 64) :
    cdV x (ix4 b s h e) = clipS (colV x b h e s * rinvS (amS (colV x b h e))) := by
  unfold cdV; rw [cdV_gen, invR_apply, amV_apply, valV_apply]

theorem tQ_gen (q : FVec Ideal S5x384x48x64 .f32) (b : Fin 5) (s : Fin 384) (h : Fin 48) (e : Fin 64) :
    transpose S5x48x64x384 [0, 2, 3, 1] q transposes_S5x384x48x64_S5x48x64x384_0_2_3_1 (ix4 b h e s) = q (ix4 b s h e) := by
  pointwise []
theorem tK_gen (q : FVec Ideal S5x384x8x64 .f32) (b : Fin 5) (s : Fin 384) (h : Fin 8) (e : Fin 64) :
    transpose S5x8x64x384 [0, 2, 3, 1] q transposes_S5x384x8x64_S5x8x64x384_0_2_3_1 (ix4 b h e s) = q (ix4 b s h e) := by
  pointwise []

theorem scQ_gen (q : FVec Ideal S5x384x48x1 .f32) (b : Fin 5) (s : Fin 384) (h : Fin 8) (g : Fin 6) :
    transpose S5x8x6x384 [0, 2, 3, 1] (shapeCast S5x384x8x6 q shapeCasts_S5x384x48x1_S5x384x8x6) transposes_S5x384x8x6_S5x8x6x384_0_2_3_1 (ix4 b h g s)
      = q (ix4 b s ⟨h.val * 6 + g.val, by omega⟩ (0 : Fin 1)) := by
  pointwise []
theorem scQ48_gen (q : FVec Ideal S5x384x48x1 .f32) (b : Fin 5) (s : Fin 384) (h : Fin 48) :
    shapeCast S5x48x384 (transpose S5x8x6x384 [0, 2, 3, 1] (shapeCast S5x384x8x6 q shapeCasts_S5x384x48x1_S5x384x8x6) transposes_S5x384x8x6_S5x8x6x384_0_2_3_1)
      shapeCasts_S5x8x6x384_S5x48x384 (ix3 b h s) = q (ix4 b s h (0 : Fin 1)) := by
  pointwise []
theorem scK_gen (q : FVec Ideal S5x384x8x1 .f32) (b : Fin 5) (s : Fin 384) (h : Fin 8) :
    transpose S5x8x384 [0, 2, 1] (shapeCast S5x384x8 q shapeCasts_S5x384x8x1_S5x384x8) transposes_S5x384x8_S5x8x384_0_2_1 (ix3 b h s)
      = q (ix4 b s h (0 : Fin 1)) := by
  pointwise []
theorem scV_gen (q : FVec Ideal S5x1x8x64 .f32) (b : Fin 5) (h : Fin 8) (d : Fin 64) :
    shapeCast S5x8x64 q shapeCasts_S5x1x8x64_S5x8x64 (ix3 b h d) = q (ix4 b (0 : Fin 1) h d) := by
  pointwise []

/-- A query's scale, by key head and group. -/
theorem scQ_apply (x : Vec Ideal S5x384x3072 .bf16) (b : Fin 5) (s : Fin 384) (h : Fin 8) (g : Fin 6) :
    scQ x (ix4 b h g s) = rsclS (amS (rotS (rowQ x b s ⟨h.val * 6 + g.val, by omega⟩))) := by
  unfold scQ; rw [scQ_gen, sclR_apply, amQ_apply]
/-- A query's scale. -/
theorem scQ48_apply (x : Vec Ideal S5x384x3072 .bf16) (b : Fin 5) (s : Fin 384) (h : Fin 48) :
    scQ48 x (ix3 b h s) = rsclS (amS (rotS (rowQ x b s h))) := by
  unfold scQ48 scQ; rw [scQ48_gen, sclR_apply, amQ_apply]
/-- A key's scale. -/
theorem scK_apply (x : Vec Ideal S5x384x512 .bf16) (b : Fin 5) (s : Fin 384) (h : Fin 8) :
    scK x (ix3 b h s) = rsclS (amS (rotS (rowK x b s h))) := by
  unfold scK; rw [scK_gen, sclR_apply, amK_apply]
/-- A value column's scale. -/
theorem scV_apply (x : Vec Ideal S5x384x512 .bf16) (b : Fin 5) (h : Fin 8) (d : Fin 64) :
    scV x (ix3 b h d) = rsclS (amS (colV x b h d)) := by
  unfold scV; rw [scV_gen, sclR_apply, amV_apply]

theorem scores_apply (x : Vec Ideal S5x384x3072 .bf16) (k : Vec Ideal S5x384x512 .bf16) (b : Fin 5) (s t : Fin 384) (h : Fin 8) (g : Fin 6) :
    scores x k (ix5 b h g s t) = (∑ d : Fin 64, cdK k (ix4 b t h d) * cdQ x (ix4 b s ⟨h.val * 6 + g.val, by omega⟩ d)) * scQ x (ix4 b h g s)
      * scK k (ix3 b h t) * Ideal.ofBits .f32 989855744#32 := by
  pointwise [scores]

theorem prob_apply (x : Vec Ideal S5x384x3072 .bf16) (k : Vec Ideal S5x384x512 .bf16) (b : Fin 5) (s t : Fin 384) (h : Fin 8) (g : Fin 6) :
    prob x k (ix5 b h g s t) = Scalar.select (IntOp.cmpi .sle (BitVec.ofNat 32 t.val) (BitVec.ofNat 32 s.val))
      (Ideal.exp (Scalar.select (IntOp.cmpi .sle (BitVec.ofNat 32 t.val) (BitVec.ofNat 32 s.val)) (scores x k (ix5 b h g s t)) (Ideal.ofBits .f32 4286578688#32)
        - Finset.fold max (Ideal.ofBits .f32 4286578688#32) (fun u : Fin 384 => Scalar.select (IntOp.cmpi .sle (BitVec.ofNat 32 u.val) (BitVec.ofNat 32 s.val))
          (scores x k (ix5 b h g s u)) (Ideal.ofBits .f32 4286578688#32)) Finset.univ)) 0 := by
  pointwise [prob, masked, maskR, maxR]

theorem outB_apply (x : Vec Ideal S5x384x3072 .bf16) (k v : Vec Ideal S5x384x512 .bf16) (b : Fin 5) (s : Fin 384) (h : Fin 8) (g : Fin 6) (e : Fin 64) :
    outB x k v (ix5 b h g s e) = Ideal.div ((∑ t : Fin 384, min (Ideal.ofBits .f32 1138753536#32) (max 0 (prob x k (ix5 b h g s t) * Ideal.ofBits .f32 1132462080#32))
      * cdV v (ix4 b t h e)) * Ideal.ofBits .f32 998244352#32 * scV v (ix3 b h e)) (∑ t : Fin 384, prob x k (ix5 b h g s t)) := by
  pointwise [outB, psum, pcod]

theorem outR_apply (x : Vec Ideal S5x384x3072 .bf16) (k v : Vec Ideal S5x384x512 .bf16) (b : Fin 5) (s : Fin 384) (j : Fin 3072) :
    outR x k v (ix3 b s j) = outB x k v (ix5 b ⟨j.val / 384, by omega⟩ ⟨j.val / 64 % 6, by omega⟩ s ⟨j.val % 64, by omega⟩) := by
  pointwise [outR]

/-- The output, as the weighted average over the values' codes. -/
theorem outB_eq (x : Vec Ideal S5x384x3072 .bf16) (k v : Vec Ideal S5x384x512 .bf16) (b : Fin 5) (s : Fin 384) (h : Fin 8) (g : Fin 6) (e : Fin 64) :
    outB x k v (ix5 b h g s e) = refOut (n := 384) s.val (fun t => (∑ d : Fin 64, cdK k (ix4 b t h d) * cdQ x (ix4 b s ⟨h.val * 6 + g.val, by omega⟩ d))
      * scQ x (ix4 b h g s) * scK k (ix3 b h t) * Ideal.ofBits .f32 989855744#32) (fun t => cdV v (ix4 b t h e)) (scV v (ix3 b h e)) := by
  rw [outB_apply]
  simp only [prob_apply, scores_apply, sel_le]
  rfl

end

end Cert.ReferenceIdeal.Hand

end
-- ==== Proof.Vals.lean ====
/- The kernel's result arrays are the reference's, over the extended reals, where the arguments are finite. -/
module

public import proofs.«01_k».proof.Proof.Fin
public import proofs.«01_k».proof.Proof.KHad
public import proofs.«01_k».proof.Proof.KOut
public import proofs.«01_k».proof.Proof.RPt

@[expose] public section

set_option maxRecDepth 16384

namespace Cert.KernelIdeal.Hand

open Cert.KernelIdeal Facts₀ Facts
open Cert.KernelIdeal.Gen (facts)
open Idealize.ShloMosaic Idealize.ShloMosaic.TcCoe
open Cert.Spec
open Cert.ReferenceIdeal.Hand (rowQ rowK colV outR tcQ tcK tcV scQ48 scQ scK scV cdQ cdK cdV)

noncomputable section

variable (m : (ℓ : Loc nD τ sig) → Buf (Elt Ideal) ℓ)

/-- The three arguments on core `c`. -/
abbrev aX (c : Dev nD) : Vec Ideal S5x384x3072 .bf16 := m ((c.tc : Thread nD τ).loc main_arg0)
/-- The keys' argument. -/
abbrev aK (c : Dev nD) : Vec Ideal S5x384x512 .bf16 := m ((c.tc : Thread nD τ).loc main_arg1)
/-- The values' argument. -/
abbrev aV (c : Dev nD) : Vec Ideal S5x384x512 .bf16 := m ((c.tc : Thread nD τ).loc main_arg2)

/-- The matrix a run loads is the sign matrix of four heads. -/
theorem ldW_had (c : Dev nD) (t : Fin cfg0.N) (i j : Fin 256) : ldW (bW m c t) (ix2 i j) =
    if i.val / 64 = j.val / 64 then hd ⟨i.val % 64, by omega⟩ ⟨j.val % 64, by omega⟩ else 0 := by
  rw [ldW_apply, bW_apply, V_v22]; exact had4_apply i j

/-- A run's rotated query head is the reference's. -/
theorem qr_apply (c : Dev nD) (t : Fin cfg0.N) (p : Fin 12) (b : Fin 5) (h : Fin 48) (s : Fin 384) (hb : b.val = t.val / 4)
    (hh : h.val = 12 * (t.val % 4) + p.val) (d : Fin 64) :
    qrOf (ldW (bW m c t)) (ldX (bX m c t)) p (ix2 d s) = rotS (rowQ (aX m c) b s h) d := by
  unfold qrOf
  rw [qHead_apply _ (ldW_had m c t)]
  congr 1
  funext e
  rw [ldX_apply]
  exact bX_apply m c t _ _ b hb ⟨h.val * 64 + e.val, by omega⟩ (by
    show h.val * 64 + e.val = 768 * (t.val % 4) + (p.val / 4 * 256 + (p.val % 4 * 64 + e.val)); omega)

/-- A run's rotated key head is the reference's. -/
theorem kr_apply (c : Dev nD) (t : Fin cfg0.N) (p : Fin 2) (b : Fin 5) (h : Fin 8) (s : Fin 384) (hb : b.val = t.val / 4)
    (hh : h.val = 2 * (t.val % 4) + p.val) (d : Fin 64) :
    krOf (ldW (bW m c t)) (ldK (bK m c t)) p (ix2 d s) = rotS (rowK (aK m c) b s h) d := by
  unfold krOf
  rw [kHead_apply _ (ldW_had m c t)]
  congr 1
  funext e
  rw [ldK_apply]
  exact bK_apply m c t _ _ b hb ⟨h.val * 64 + e.val, by omega⟩ (by
    show h.val * 64 + e.val = 128 * (t.val % 4) + (p.val * 64 + e.val); omega)

/-- A run's value column is the argument's. -/
theorem vl_apply (c : Dev nD) (t : Fin cfg0.N) (p : Fin 2) (b : Fin 5) (h : Fin 8) (s : Fin 384) (hb : b.val = t.val / 4)
    (hh : h.val = 2 * (t.val % 4) + p.val) (d : Fin 64) :
    ldK (bV m c t) (ix3 (0 : Fin 1) s ⟨p.val * 64 + d.val, by omega⟩) = colV (aV m c) b h d s := by
  rw [ldK_apply]
  exact bV_apply m c t _ _ b hb ⟨h.val * 64 + d.val, by omega⟩ (by
    show h.val * 64 + d.val = 128 * (t.val % 4) + (p.val * 64 + d.val); omega)

/-- The scales of `y` are one power of two, and so are their inverses. -/
def OneScale (y : EReal) : Prop := ∃ e : ℤ, sclS y = (((2 : ℝ) ^ e : ℝ) : EReal) ∧ invS y = (((2 : ℝ) ^ (-e) : ℝ) : EReal)
  ∧ rsclS y = (((2 : ℝ) ^ e : ℝ) : EReal) ∧ rinvS y = (((2 : ℝ) ^ (-e) : ℝ) : EReal)

/-- The bound of finite bf16 values. -/
def bnd : ℝ := (2 : ℝ) ^ (128 : ℤ)

/-- Finite arguments. -/
def FinArgs (c : Dev nD) : Prop := (∀ i, Bdd bnd (aX m c i)) ∧ (∀ i, Bdd bnd (aK m c i)) ∧ (∀ i, Bdd bnd (aV m c i))

theorem bnd64 : 64 * bnd ≤ (2 : ℝ) ^ (134 : ℤ) := by
  unfold bnd
  rw [show (134 : ℤ) = 6 + 128 by norm_num, zpow_add₀ (by norm_num : (2 : ℝ) ≠ 0)]; norm_num
theorem bnd_pos : 0 ≤ bnd := by unfold bnd; positivity
theorem bnd_le : bnd ≤ (2 : ℝ) ^ (134 : ℤ) := by linarith [bnd64, bnd_pos]

variable {m}

section
variable {c : Dev nD} (hf : FinArgs m c)
include hf

theorem bddQ (b : Fin 5) (s : Fin 384) (h : Fin 48) (d : Fin 64) : Bdd (64 * bnd) (rotS (rowQ (aX m c) b s h) d) :=
  bdd_rot _ _ bnd_pos (fun e => hf.1 _) d
theorem bddK (b : Fin 5) (s : Fin 384) (h : Fin 8) (d : Fin 64) : Bdd (64 * bnd) (rotS (rowK (aK m c) b s h) d) :=
  bdd_rot _ _ bnd_pos (fun e => hf.2.1 _) d
theorem bddV (b : Fin 5) (s : Fin 384) (h : Fin 8) (d : Fin 64) : Bdd bnd (colV (aV m c) b h d s) := hf.2.2 _

theorem scaleQ (b : Fin 5) (s : Fin 384) (h : Fin 48) : OneScale (amS (rotS (rowQ (aX m c) b s h))) :=
  scale_am (by norm_num) (rotS (rowQ (aX m c) b s h)) _ bnd64 (bddQ hf b s h)
theorem scaleK (b : Fin 5) (s : Fin 384) (h : Fin 8) : OneScale (amS (rotS (rowK (aK m c) b s h))) :=
  scale_am (by norm_num) (rotS (rowK (aK m c) b s h)) _ bnd64 (bddK hf b s h)
theorem scaleV (b : Fin 5) (h : Fin 8) (d : Fin 64) : OneScale (amS (colV (aV m c) b h d)) :=
  scale_am (by norm_num) (colV (aV m c) b h d) _ bnd_le (fun s => bddV hf b s h d)

/-- A query's code is the reference's. -/
theorem codeQ (t : Fin cfg0.N) (p : Fin 12) (b : Fin 5) (h : Fin 48) (s : Fin 384) (hb : b.val = t.val / 4)
    (hh : h.val = 12 * (t.val % 4) + p.val) (d : Fin 64) :
    cod8 (qrOf (ldW (bW m c t)) (ldX (bX m c t)) p) (ix2 d s) = cdQ (aX m c) (ix4 b s h d) := by
  rw [cod8_apply, Cert.ReferenceIdeal.Hand.cdQ_apply]
  simp only [qr_apply m c t p b h s hb hh]
  obtain ⟨e, -, h1, -, h2⟩ := scaleQ hf b s h
  rw [show (fun d => rotS (rowQ (aX m c) b s h) d) = rotS (rowQ (aX m c) b s h) from rfl, h1, h2]
/-- A query's scale is the reference's. -/
theorem sclQ (t : Fin cfg0.N) (p : Fin 12) (b : Fin 5) (h : Fin 48) (s : Fin 384) (hb : b.val = t.val / 4)
    (hh : h.val = 12 * (t.val % 4) + p.val) :
    scl64 (qrOf (ldW (bW m c t)) (ldX (bX m c t)) p) (ix2 (0 : Fin 1) s) = rsclS (amS (rotS (rowQ (aX m c) b s h))) := by
  rw [scl64_apply]
  simp only [qr_apply m c t p b h s hb hh]
  obtain ⟨e, h1, -, h2, -⟩ := scaleQ hf b s h
  rw [show (fun d => rotS (rowQ (aX m c) b s h) d) = rotS (rowQ (aX m c) b s h) from rfl, h1, h2]
/-- A key's code is the reference's. -/
theorem codeK (t : Fin cfg0.N) (p : Fin 2) (b : Fin 5) (h : Fin 8) (s : Fin 384) (hb : b.val = t.val / 4)
    (hh : h.val = 2 * (t.val % 4) + p.val) (d : Fin 64) :
    cod8 (krOf (ldW (bW m c t)) (ldK (bK m c t)) p) (ix2 d s) = cdK (aK m c) (ix4 b s h d) := by
  rw [cod8_apply, Cert.ReferenceIdeal.Hand.cdK_apply]
  simp only [kr_apply m c t p b h s hb hh]
  obtain ⟨e, -, h1, -, h2⟩ := scaleK hf b s h
  rw [show (fun d => rotS (rowK (aK m c) b s h) d) = rotS (rowK (aK m c) b s h) from rfl, h1, h2]
/-- A key's scale is the reference's. -/
theorem sclK (t : Fin cfg0.N) (p : Fin 2) (b : Fin 5) (h : Fin 8) (s : Fin 384) (hb : b.val = t.val / 4)
    (hh : h.val = 2 * (t.val % 4) + p.val) :
    scl64 (krOf (ldW (bW m c t)) (ldK (bK m c t)) p) (ix2 (0 : Fin 1) s) = scK (aK m c) (ix3 b h s) := by
  rw [scl64_apply, Cert.ReferenceIdeal.Hand.scK_apply]
  simp only [kr_apply m c t p b h s hb hh]
  obtain ⟨e, h1, -, h2, -⟩ := scaleK hf b s h
  rw [show (fun d => rotS (rowK (aK m c) b s h) d) = rotS (rowK (aK m c) b s h) from rfl, h1, h2]
/-- A value's code is the reference's. -/
theorem codeV (t : Fin cfg0.N) (p : Fin 2) (b : Fin 5) (h : Fin 8) (s : Fin 384) (hb : b.val = t.val / 4)
    (hh : h.val = 2 * (t.val % 4) + p.val) (d : Fin 64) :
    vHead (ldK (bV m c t)) p (ix2 d s) = cdV (aV m c) (ix4 b s h d) := by
  rw [vHead_apply, Cert.ReferenceIdeal.Hand.cdV_apply]
  simp only [vl_apply m c t p b h _ hb hh]
  obtain ⟨e, -, h1, -, h2⟩ := scaleV hf b h d
  rw [show (fun s => colV (aV m c) b h d s) = colV (aV m c) b h d from rfl, h1, h2]
/-- A value column's scale is the reference's. -/
theorem sclV (t : Fin cfg0.N) (p : Fin 2) (b : Fin 5) (h : Fin 8) (hb : b.val = t.val / 4)
    (hh : h.val = 2 * (t.val % 4) + p.val) (d : Fin 64) :
    vsRow (ldK (bV m c t)) p (ix2 (0 : Fin 1) d) = scV (aV m c) (ix3 b h d) := by
  rw [vsRow_apply, Cert.ReferenceIdeal.Hand.scV_apply]
  simp only [vl_apply m c t p b h _ hb hh]
  obtain ⟨e, h1, -, h2, -⟩ := scaleV hf b h d
  rw [show (fun s => colV (aV m c) b h d s) = colV (aV m c) b h d from rfl, h1, h2]

/-- The queries' codes. -/
theorem A5_eq : A5 m c = tcQ (aX m c) := by
  funext i
  obtain ⟨b, h, e, s, rfl⟩ : ∃ (b : Fin 5) (h : Fin 48) (e : Fin 64) (s : Fin 384), i = ix4 b h e s := ⟨i 0, i 1, i 2, i 3, eq_ix4 i⟩
  have hg : (gp 12 b h.val h.isLt).val = 4 * b.val + h.val / 12 := rfl
  refine (codeQ hf (gp 12 b h.val h.isLt) ⟨h.val % 12, Nat.mod_lt _ (by decide)⟩ b h s (by omega) (by rw [hg]; simp only; omega) e).trans ?_
  exact (Cert.ReferenceIdeal.Hand.tQ_gen (cdQ (aX m c)) b s h e).symm

/-- The queries' scales. -/
theorem A6_eq : A6 m c = scQ48 (aX m c) := by
  funext i
  obtain ⟨b, h, s, rfl⟩ : ∃ (b : Fin 5) (h : Fin 48) (s : Fin 384), i = ix3 b h s := ⟨i 0, i 1, i 2, eq_ix3 i⟩
  have hg : (gp 12 b h.val h.isLt).val = 4 * b.val + h.val / 12 := rfl
  refine (sclQ hf (gp 12 b h.val h.isLt) ⟨h.val % 12, Nat.mod_lt _ (by decide)⟩ b h s (by omega) (by rw [hg]; simp only; omega)).trans ?_
  exact (Cert.ReferenceIdeal.Hand.scQ48_apply (aX m c) b s h).symm

/-- The keys' codes. -/
theorem A7_eq : A7 m c = tcK (aK m c) := by
  funext i
  obtain ⟨b, h, e, s, rfl⟩ : ∃ (b : Fin 5) (h : Fin 8) (e : Fin 64) (s : Fin 384), i = ix4 b h e s := ⟨i 0, i 1, i 2, i 3, eq_ix4 i⟩
  have hg : (gp 2 b h.val h.isLt).val = 4 * b.val + h.val / 2 := rfl
  refine (codeK hf (gp 2 b h.val h.isLt) ⟨h.val % 2, Nat.mod_lt _ (by decide)⟩ b h s (by omega) (by rw [hg]; simp only; omega) e).trans ?_
  exact (Cert.ReferenceIdeal.Hand.tK_gen (cdK (aK m c)) b s h e).symm

/-- The keys' scales. -/
theorem A8_eq : A8 m c = scK (aK m c) := by
  funext i
  obtain ⟨b, h, s, rfl⟩ : ∃ (b : Fin 5) (h : Fin 8) (s : Fin 384), i = ix3 b h s := ⟨i 0, i 1, i 2, eq_ix3 i⟩
  have hg : (gp 2 b h.val h.isLt).val = 4 * b.val + h.val / 2 := rfl
  exact sclK hf (gp 2 b h.val h.isLt) ⟨h.val % 2, Nat.mod_lt _ (by decide)⟩ b h s (by omega) (by rw [hg]; simp only; omega)

/-- The values' codes. -/
theorem A9_eq : A9 m c = tcV (aV m c) := by
  funext i
  obtain ⟨b, h, e, s, rfl⟩ : ∃ (b : Fin 5) (h : Fin 8) (e : Fin 64) (s : Fin 384), i = ix4 b h e s := ⟨i 0, i 1, i 2, i 3, eq_ix4 i⟩
  have hg : (gp 2 b h.val h.isLt).val = 4 * b.val + h.val / 2 := rfl
  refine (codeV hf (gp 2 b h.val h.isLt) ⟨h.val % 2, Nat.mod_lt _ (by decide)⟩ b h s (by omega) (by rw [hg]; simp only; omega) e).trans ?_
  exact (Cert.ReferenceIdeal.Hand.tK_gen (cdV (aV m c)) b s h e).symm

/-- The values' scales. -/
theorem A10_eq : A10 m c = scV (aV m c) := by
  funext i
  obtain ⟨b, h, d, rfl⟩ : ∃ (b : Fin 5) (h : Fin 8) (d : Fin 64), i = ix3 b h d := ⟨i 0, i 1, i 2, eq_ix3 i⟩
  have hg : (gp 2 b h.val h.isLt).val = 4 * b.val + h.val / 2 := rfl
  exact sclV hf (gp 2 b h.val h.isLt) ⟨h.val % 2, Nat.mod_lt _ (by decide)⟩ b h (by omega) (by rw [hg]; simp only; omega) d

end

end

end Cert.KernelIdeal.Hand

end
-- ==== Proof.Attn.lean ====
/- The kernel's attention output is the reference's, over the extended reals, where the arguments are finite. -/
module

public import proofs.«01_k».proof.Proof.Vals

@[expose] public section

set_option maxRecDepth 16384

namespace Cert.KernelIdeal.Hand

open Cert.KernelIdeal Facts₀ Facts
open Cert.KernelIdeal.Gen (facts)
open Idealize.ShloMosaic Idealize.ShloMosaic.TcCoe
open Cert.Spec
open Cert.ReferenceIdeal.Hand (rowQ rowK colV outR outB scQ scK scV cdQ cdK cdV)

noncomputable section

variable {m : (ℓ : Loc nD τ sig) → Buf (Elt Ideal) ℓ}

section
variable {c : Dev nD} (hf : FinArgs m c)
include hf

/-- Every code is real. -/
theorem realQ (b : Fin 5) (s : Fin 384) (h : Fin 48) (e : Fin 64) : ∃ r : ℝ, cdQ (aX m c) (ix4 b s h e) = (r : EReal) := by
  rw [Cert.ReferenceIdeal.Hand.cdQ_apply]
  obtain ⟨x, hx, -⟩ := bddQ hf b s h e
  obtain ⟨k, -, -, -, hk⟩ := scaleQ hf b s h
  rw [hx, hk, ← EReal.coe_mul]; exact clip_real _
theorem realK (b : Fin 5) (s : Fin 384) (h : Fin 8) (e : Fin 64) : ∃ r : ℝ, cdK (aK m c) (ix4 b s h e) = (r : EReal) := by
  rw [Cert.ReferenceIdeal.Hand.cdK_apply]
  obtain ⟨x, hx, -⟩ := bddK hf b s h e
  obtain ⟨k, -, -, -, hk⟩ := scaleK hf b s h
  rw [hx, hk, ← EReal.coe_mul]; exact clip_real _
theorem realV (b : Fin 5) (s : Fin 384) (h : Fin 8) (e : Fin 64) : ∃ r : ℝ, cdV (aV m c) (ix4 b s h e) = (r : EReal) := by
  rw [Cert.ReferenceIdeal.Hand.cdV_apply]
  obtain ⟨x, hx, -⟩ := bddV hf b s h e
  obtain ⟨k, -, -, -, hk⟩ := scaleV hf b h e
  rw [hx, hk, ← EReal.coe_mul]; exact clip_real _

/-- What a run stores for one query and one column is the reference's output. -/
theorem attn (t : Fin cfg0.N) (p : Fin 12) (b : Fin 5) (h : Fin 8) (g : Fin 6) (s : Fin 384) (d : Fin 64) (i : ℕ) (q : Fin 128)
    (hb : b.val = t.val / 4) (hk : h.val = 2 * (t.val % 4) + p.val / 6) (hq : h.val * 6 + g.val = 12 * (t.val % 4) + p.val) (hs : s.val = 128 * i + q.val) :
    outOf (ldW (bW m c t)) (ldX (bX m c t)) (ldK (bK m c t)) (ldK (bV m c t)) p i (ix3 (0 : Fin 1) q d) = outB (aX m c) (aK m c) (aV m c) (ix5 b h g s d) := by
  have hp : p.val / 6 < 2 := by omega
  choose cq hcq using realQ hf b s ⟨h.val * 6 + g.val, by omega⟩
  choose ck hck using fun t' : Fin 384 => realK hf b t' h
  choose cv hcv using fun t' : Fin 384 => realV hf b t' h d
  obtain ⟨eq, -, -, hsq, -⟩ := scaleQ hf b s ⟨h.val * 6 + g.val, by omega⟩
  choose ek hek using fun t' : Fin 384 => scaleK hf b t' h
  obtain ⟨ev, -, -, hsv, -⟩ := scaleV hf b h d
  have hsk : ∀ t' : Fin 384, scK (aK m c) (ix3 b h t') = (((2 : ℝ) ^ (ek t') : ℝ) : EReal) := fun t' => by
    rw [Cert.ReferenceIdeal.Hand.scK_apply]; exact (hek t').2.2.1
  -- the reference
  have href : outB (aX m c) (aK m c) (aV m c) (ix5 b h g s d) = refOut (n := 384) s.val (fun t' => ((∑ e : Fin 64, ck t' e * cq e : ℝ) : EReal)
      * (((2 : ℝ) ^ eq : ℝ) : EReal) * (((2 : ℝ) ^ (ek t') : ℝ) : EReal) * Ideal.ofBits .f32 989855744#32) (fun t' => (cv t' : EReal)) (((2 : ℝ) ^ ev : ℝ) : EReal) := by
    rw [Cert.ReferenceIdeal.Hand.outB_eq]
    simp only [hcq, hck, hcv, hsk, Cert.ReferenceIdeal.Hand.scQ_apply, Cert.ReferenceIdeal.Hand.scV_apply, hsq, hsv, ← EReal.coe_mul, coe_sum]
  rw [href]
  -- the kernel
  have ha : ∀ t' : Fin 384, ∑ e : Fin 64, knat (krOf (ldW (bW m c t)) (ldK (bK m c t)) ⟨p.val / 6, hp⟩) (ix2 t' e)
      * cod8 (qrOf (ldW (bW m c t)) (ldX (bX m c t)) p) (ix2 e s) = ((∑ e : Fin 64, ck t' e * cq e : ℝ) : EReal) := by
    intro t'
    rw [← coe_sum]
    refine Finset.sum_congr rfl fun e _ => ?_
    rw [(knat_apply _ e t').trans (cod8_apply _ e t').symm, codeK hf t ⟨p.val / 6, hp⟩ b h t' hb hk e,
      codeQ hf t p b ⟨h.val * 6 + g.val, by omega⟩ s hb hq e, hck, hcq, EReal.coe_mul]
  have hks : ∀ t' : Fin 384, ksb (krOf (ldW (bW m c t)) (ldK (bK m c t)) ⟨p.val / 6, hp⟩) (ix2 t' q) = (((2 : ℝ) ^ (ek t') : ℝ) : EReal) := by
    intro t'
    rw [(ksb_apply _ t' q).trans (scl64_apply _ t').symm, sclK hf t ⟨p.val / 6, hp⟩ b h t' hb hk, hsk]
  have hr : rrow (qrOf (ldW (bW m c t)) (ldX (bX m c t)) p) (ix2 (0 : Fin 1) s) = (((2 : ℝ) ^ eq : ℝ) : EReal) * (((512 * Real.log 2)⁻¹ : ℝ) : EReal) := by
    rw [rrow_apply, ← scl64_apply, sclQ hf t p b ⟨h.val * 6 + g.val, by omega⟩ s hb hq, hsq]
  have hv : ∀ t' : Fin 384, vHead (ldK (bV m c t)) ⟨p.val / 6, hp⟩ (ix2 d t') = (cv t' : EReal) := fun t' => by
    rw [codeV hf t ⟨p.val / 6, hp⟩ b h t' hb hk d, hcv]
  have hvs : vsHead (ldK (bV m c t)) ⟨p.val / 6, hp⟩ (ix2 d q) = (((2 : ℝ) ^ ev : ℝ) : EReal) := by
    rw [(vsHead_apply _ ⟨p.val / 6, hp⟩ d q).trans (vsRow_apply _ ⟨p.val / 6, hp⟩ d).symm, sclV hf t ⟨p.val / 6, hp⟩ b h hb hk d,
      Cert.ReferenceIdeal.Hand.scV_apply, hsv]
  have hqs : (0 : ℝ) < (2 : ℝ) ^ eq := by positivity
  have hi : i = 0 ∨ i = 1 ∨ i = 2 := by omega
  rcases hi with rfl | rfl | rfl
  · have e : (⟨q.val, by omega⟩ : Fin 384) = s := Fin.ext (by show q.val = s.val; omega)
    have := out0_ref _ _ _ _ _ _ q d _ _ _ _ _ hqs (fun t' => by rw [e]; exact ha t') hks (by rw [e]; exact hr) hv hvs
    rw [hs, show 128 * 0 + q.val = q.val by omega]
    exact this
  · have e : (⟨128 + q.val, by omega⟩ : Fin 384) = s := Fin.ext (by show 128 + q.val = s.val; omega)
    have := out1_ref _ _ _ _ _ _ q d _ _ _ _ _ hqs (fun t' => by rw [e]; exact ha t') hks (by rw [e]; exact hr) hv hvs
    rw [hs]
    exact this
  · have e : (⟨256 + q.val, by omega⟩ : Fin 384) = s := Fin.ext (by show 256 + q.val = s.val; omega)
    have := out2_ref _ _ _ _ _ _ q d _ _ _ _ _ hqs (fun t' => by rw [e]; exact ha t') hks (by rw [e]; exact hr) hv hvs
    rw [hs]
    exact this

/-- The attention output. -/
theorem A4_eq : A4 m c = outR (aX m c) (aK m c) (aV m c) := by
  funext i
  obtain ⟨b, s, j, rfl⟩ : ∃ (b : Fin 5) (s : Fin 384) (j : Fin 3072), i = ix3 b s j := ⟨i 0, i 1, i 2, eq_ix3 i⟩
  have hg : (gp 768 b j.val j.isLt).val = 4 * b.val + j.val / 768 := rfl
  rw [Cert.ReferenceIdeal.Hand.outR_apply]
  have hd : (⟨j.val % 768 % 64, by omega⟩ : Fin 64) = ⟨j.val % 64, by omega⟩ := Fin.ext (by show j.val % 768 % 64 = j.val % 64; omega)
  rw [← hd]
  exact attn hf (gp 768 b j.val j.isLt) ⟨j.val % 768 / 64, by omega⟩ b ⟨j.val / 384, by omega⟩ ⟨j.val / 64 % 6, by omega⟩ s ⟨j.val % 768 % 64, by omega⟩
    (s.val / 128) ⟨s.val % 128, by omega⟩ (by omega) (by rw [hg]; simp only; omega) (by rw [hg]; simp only; omega) (by simp only; omega)

end

end

end Cert.KernelIdeal.Hand

end
-- ==== Proof.Finite.lean ====
/- What the precondition says of the arguments over the extended reals: every element is a real bounded by 2 ^ 128. -/
module

public import proofs.«01_k».proof.Defs
public import proofs.«01_k».proof.Proof.Vals

@[expose] public section

namespace Cert.KernelIdeal.Hand

open Idealize.ShloMosaic Idealize.ShloMosaic.TcCoe
open Cert.Spec

noncomputable section

/-- The pattern the precondition compares against is the largest bf16 number. -/
theorem ofBits_max : Ideal.ofBits .f32 0x7F7F0000#32 = ((255 * 2 ^ 120 : ℝ) : EReal) := by
  simp [Ideal.ofBits, Ideal.ieee, -EReal.coe_mul]; norm_num

/-- An extended real whose absolute value is at most a real is a real of at most that absolute value. -/
theorem bdd_of_le (x : EReal) (r : ℝ) (h : max x (-x) ≤ (r : EReal)) : Bdd r x := by
  obtain ⟨h1, h2⟩ := max_le_iff.mp h
  induction x using EReal.rec with
  | bot => exact absurd h2 (by simp)
  | top => exact absurd h1 (by simp)
  | coe x =>
    refine ⟨x, rfl, abs_le.mpr ⟨?_, EReal.coe_le_coe_iff.mp h1⟩⟩
    have : -x ≤ r := by
      rw [← EReal.coe_neg] at h2; exact EReal.coe_le_coe_iff.mp h2
    linarith

/-- One array of which the comparison holds everywhere. -/
theorem bdd_of_pre {s : Shape} (x : FVec Ideal s .bf16) (hb : FTy.bits .bf16 < FTy.bits .f32) (z : Shape) (dims : Fin z.rank → Fin s.rank) (h : z.BroadcastsInDim s dims)
    (hx : cmpf .ole (Host.absf (extf .f32 x hb)) (broadcastInDim s dims h (constant (F := Ideal) z .f32 0x7F7F0000#32)) = fun _ => 1#1) (i : s.Idx) :
    Bdd bnd (x i) := by
  have e := congrFun hx i
  have e' : Ideal.cmp .ole (max (x i) (-(x i))) (Ideal.ofBits .f32 0x7F7F0000#32) = 1#1 := e
  have l : max (x i) (-(x i)) ≤ Ideal.ofBits .f32 0x7F7F0000#32 := by
    by_contra hn
    simp [Ideal.cmp, hn] at e'
  rw [ofBits_max] at l
  obtain ⟨r, hr, hr'⟩ := bdd_of_le _ _ l
  exact ⟨r, hr, hr'.trans (by unfold bnd; norm_num)⟩

/-- The side conditions of the precondition. -/
theorem preFacts : Cert.Pre_finite.Facts := ⟨by decide, by decide, by decide⟩

/-- Under the precondition every argument is finite. -/
theorem finArgs_of_pre (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : FinArgs m c :=
  ⟨bdd_of_pre _ _ _ _ _ (h c).1, bdd_of_pre _ _ _ _ _ (h c).2.1, bdd_of_pre _ _ _ _ _ (h c).2.2⟩

end

end Cert.KernelIdeal.Hand

end
-- ==== Proof.RHost.lean ====
/- The reference's program as one straight line of host operations. -/
module

public import proofs.«01_k».proof.Proof.Gen.ReferenceIdeal
public import Idealize.ShloMosaic.Lib.Pipeline.Regions
public import Idealize.ShloMosaic.Lib.StableHlo.Run

@[expose] public section

set_option maxRecDepth 16384

noncomputable section

namespace Cert.ReferenceIdeal.Hand

open Cert.ReferenceIdeal Facts₀ Facts
open Cert.ReferenceIdeal.Gen (facts)
open Idealize.ShloMosaic Idealize.ShloMosaic.TcCoe Idealize.SL.Sem

variable {F : FTy → Type} [FloatOps F]

/-- 8 host operations of @main, window 0 (statements 1 … 60), in order. -/
abbrev main_part0_ops0 : List (HloOp τ sig (Elt F)) :=
  [ StableHlo.nullary main_v0 (iotaInDim S64 32 0),
    StableHlo.unary main_v0 main_v1 (broadcastInDim S64x1 ![0] bcast_S64_S64x1_0 : (⟨S64, .i32⟩ : BufTy).Contents (Elt F) → (⟨S64x1, .i32⟩ : BufTy).Contents (Elt F)),
    StableHlo.unary main_v0 main_v2 (broadcastInDim S1x64 ![1] bcast_S64_S1x64_1 : (⟨S64, .i32⟩ : BufTy).Contents (Elt F) → (⟨S1x64, .i32⟩ : BufTy).Contents (Elt F)),
    StableHlo.unary main_v1 main_v3 (broadcastInDim S64x64 ![0, 1] bcast_S64x1_S64x64_0_1 : (⟨S64x1, .i32⟩ : BufTy).Contents (Elt F) → (⟨S64x64, .i32⟩ : BufTy).Contents (Elt F)),
    StableHlo.unary main_v2 main_v4 (broadcastInDim S64x64 ![0, 1] bcast_S1x64_S64x64_0_1 : (⟨S1x64, .i32⟩ : BufTy).Contents (Elt F) → (⟨S64x64, .i32⟩ : BufTy).Contents (Elt F)),
    StableHlo.binary main_v3 main_v4 main_v5 (andi : (⟨S64x64, .i32⟩ : BufTy).Contents (Elt F) → (⟨S64x64, .i32⟩ : BufTy).Contents (Elt F) → (⟨S64x64, .i32⟩ : BufTy).Contents (Elt F)),
    StableHlo.unary main_v5 main_v6 (ctpop : (⟨S64x64, .i32⟩ : BufTy).Contents (Elt F) → (⟨S64x64, .i32⟩ : BufTy).Contents (Elt F)),
    StableHlo.nullary main_c (constantI S_ 32 2#32) ]
/-- Each touches references of the TensorCore only. -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub ..⟩
/-- 21 host operations of @remainder (main_call0), window 0 (statements 1 … 60), in order. -/
abbrev main_part0_ops1 : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S64x64, .i32⟩) (broadcastInDim S64x64 ![] bcast_S_S64x64),
    StableHlo.TRef.binary (.of main_v6 : StableHlo.TRef sig ⟨S64x64, .i32⟩) (.of main_call0_v3 : StableHlo.TRef sig ⟨S64x64, .i32⟩) (.of main_call0_v4 : StableHlo.TRef sig ⟨S64x64, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S64x64, .i32⟩) (broadcastInDim S64x64 ![] bcast_S_S64x64),
    StableHlo.TRef.binary (.of main_call0_v4 : StableHlo.TRef sig ⟨S64x64, .i32⟩) (.of main_call0_v5 : StableHlo.TRef sig ⟨S64x64, .i32⟩) (.of main_call0_v6 : StableHlo.TRef sig ⟨S64x64, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S64x64, .i32⟩) (broadcastInDim S64x64 ![] bcast_S_S64x64),
    StableHlo.TRef.binary (.of main_call0_v4 : StableHlo.TRef sig ⟨S64x64, .i32⟩) (.of main_call0_v7 : StableHlo.TRef sig ⟨S64x64, .i32⟩) (.of main_call0_v8 : StableHlo.TRef sig ⟨S64x64, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S64x64, .i1⟩) (broadcastInDim S64x64 ![] bcast_S_S64x64),
    StableHlo.TRef.binary (.of main_call0_v8 : StableHlo.TRef sig ⟨S64x64, .i1⟩) (.of main_call0_v10 : StableHlo.TRef sig ⟨S64x64, .i1⟩) (.of main_call0_v11 : StableHlo.TRef sig ⟨S64x64, .i1⟩) (cmpi .ne),
    StableHlo.TRef.binary (.of main_call0_v11 : StableHlo.TRef sig ⟨S64x64, .i1⟩) (.of main_call0_v6 : StableHlo.TRef sig ⟨S64x64, .i1⟩) (.of main_call0_v12 : StableHlo.TRef sig ⟨S64x64, .i1⟩) andi,
    StableHlo.TRef.unary main_call0_call0.v0 (.of main_call0_v13 : StableHlo.TRef sig ⟨S64x64, .i32⟩) (broadcastInDim S64x64 ![] bcast_S_S64x64),
    StableHlo.TRef.binary (.of main_call0_v4 : StableHlo.TRef sig ⟨S64x64, .i32⟩) (.of main_call0_v13 : StableHlo.TRef sig ⟨S64x64, .i32⟩) (.of main_call0_v14 : StableHlo.TRef sig ⟨S64x64, .i32⟩) addi,
    StableHlo.TRef.ternary (.of main_call0_v12 : StableHlo.TRef sig ⟨S64x64, .i1⟩) (.of main_call0_v14 : StableHlo.TRef sig ⟨S64x64, .i32⟩) (.of main_call0_v4 : StableHlo.TRef sig ⟨S64x64, .i32⟩) (.of main_v7 : StableHlo.TRef sig ⟨S64x64, .i32⟩) select ]
/-- Each touches references of the TensorCore only. -/
theorem main_part0_ops1_sub : (main_part0_ops1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 35 host operations of @main, window 0 (statements 1 … 60), in order. -/
abbrev main_part0_ops2 : List (HloOp τ sig (Elt F)) :=
  ( StableHlo.nullary main_c_0 (constantI S_ 32 2#32)
  :: StableHlo.unary main_c_0 main_v8 (broadcastInDim S64x64 ![] bcast_S_S64x64 : (⟨S_, .i32⟩ : BufTy).Contents (Elt F) → (⟨S64x64, .i32⟩ : BufTy).Contents (Elt F))
  :: StableHlo.binary main_v8 main_v7 main_v9 (muli : (⟨S64x64, .i32⟩ : BufTy).Contents (Elt F) → (⟨S64x64, .i32⟩ : BufTy).Contents (Elt F) → (⟨S64x64, .i32⟩ : BufTy).Contents (Elt F))
  :: StableHlo.nullary main_c_1 (constantI S_ 32 1#32)
  :: StableHlo.unary main_c_1 main_v10 (broadcastInDim S64x64 ![] bcast_S_S64x64 : (⟨S_, .i32⟩ : BufTy).Contents (Elt F) → (⟨S64x64, .i32⟩ : BufTy).Contents (Elt F))
  :: StableHlo.binary main_v10 main_v9 main_v11 (subi : (⟨S64x64, .i32⟩ : BufTy).Contents (Elt F) → (⟨S64x64, .i32⟩ : BufTy).Contents (Elt F) → (⟨S64x64, .i32⟩ : BufTy).Contents (Elt F))
  :: StableHlo.unary main_v11 main_v12 (sitofp .f32 : (⟨S64x64, .i32⟩ : BufTy).Contents (Elt F) → (⟨S64x64, .f32⟩ : BufTy).Contents (Elt F))
  :: StableHlo.reshape main_arg0 main_v13 (rfl : (.bf16 : EltTy) = .bf16) shapeCasts_S5x384x3072_S5x384x48x64
  :: StableHlo.unary main_v13 main_v14 ((extf .f32 · bitsLt_bf16_f32) : (⟨S5x384x48x64, .bf16⟩ : BufTy).Contents (Elt F) → (⟨S5x384x48x64, .f32⟩ : BufTy).Contents (Elt F))
  :: StableHlo.reshape main_arg1 main_v15 (rfl : (.bf16 : EltTy) = .bf16) shapeCasts_S5x384x512_S5x384x8x64
  :: StableHlo.unary main_v15 main_v16 ((extf .f32 · bitsLt_bf16_f32) : (⟨S5x384x8x64, .bf16⟩ : BufTy).Contents (Elt F) → (⟨S5x384x8x64, .f32⟩ : BufTy).Contents (Elt F))
  :: StableHlo.reshape main_arg2 main_v17 (rfl : (.bf16 : EltTy) = .bf16) shapeCasts_S5x384x512_S5x384x8x64
  :: StableHlo.unary main_v17 main_v18 ((extf .f32 · bitsLt_bf16_f32) : (⟨S5x384x8x64, .bf16⟩ : BufTy).Contents (Elt F) → (⟨S5x384x8x64, .f32⟩ : BufTy).Contents (Elt F))
  :: StableHlo.binary main_v14 main_v12 main_v19 ((fun l r => Host.dotGeneral dot_S5x384x48x64_S64x64_S5x384x48x64_3_0_012_1_n_n (some .fp32) l r) : (⟨S5x384x48x64, .f32⟩ : BufTy).Contents (Elt F) → (⟨S64x64, .f32⟩ : BufTy).Contents (Elt F) → (⟨S5x384x48x64, .f32⟩ : BufTy).Contents (Elt F))
  :: StableHlo.binary main_v16 main_v12 main_v20 ((fun l r => Host.dotGeneral dot_S5x384x8x64_S64x64_S5x384x8x64_3_0_012_1_n_n (some .fp32) l r) : (⟨S5x384x8x64, .f32⟩ : BufTy).Contents (Elt F) → (⟨S64x64, .f32⟩ : BufTy).Contents (Elt F) → (⟨S5x384x8x64, .f32⟩ : BufTy).Contents (Elt F))
  :: StableHlo.unary main_v19 main_v21 (Host.absf : (⟨S5x384x48x64, .f32⟩ : BufTy).Contents (Elt F) → (⟨S5x384x48x64, .f32⟩ : BufTy).Contents (Elt F))
  :: StableHlo.nullary main_cst (constant S_ .f32 0xFF800000#32)
  :: StableHlo.binary main_v21 main_cst main_v22 ((fun x v => Host.reduce FloatOps.maximumf x v reducesTo_S5x384x48x64_S5x384x48_d3 h_S_) : (⟨S5x384x48x64, .f32⟩ : BufTy).Contents (Elt F) → (⟨S_, .f32⟩ : BufTy).Contents (Elt F) → (⟨S5x384x48, .f32⟩ : BufTy).Contents (Elt F))
  :: StableHlo.unary main_v22 main_v23 (broadcastInDim S5x384x48x1 ![0, 1, 2] bcast_S5x384x48_S5x384x48x1_0_1_2 : (⟨S5x384x48, .f32⟩ : BufTy).Contents (Elt F) → (⟨S5x384x48x1, .f32⟩ : BufTy).Contents (Elt F))
  :: StableHlo.nullary main_cst_2 (constant S_ .f32 0x3B124925#32)
  :: StableHlo.unary main_cst_2 main_v24 (broadcastInDim S5x384x48x1 ![] bcast_S_S5x384x48x1 : (⟨S_, .f32⟩ : BufTy).Contents (Elt F) → (⟨S5x384x48x1, .f32⟩ : BufTy).Contents (Elt F))
  :: StableHlo.binary main_v23 main_v24 main_v25 (mulf : (⟨S5x384x48x1, .f32⟩ : BufTy).Contents (Elt F) → (⟨S5x384x48x1, .f32⟩ : BufTy).Contents (Elt F) → (⟨S5x384x48x1, .f32⟩ : BufTy).Contents (Elt F))
  :: StableHlo.nullary main_cst_3 (constant S_ .f32 0x40000000#32)
  :: StableHlo.unary main_cst_3 main_v26 (Host.log : (⟨S_, .f32⟩ : BufTy).Contents (Elt F) → (⟨S_, .f32⟩ : BufTy).Contents (Elt F))
  :: StableHlo.nullary main_cst_4 (constant S_ .f32 0x00800000#32)
  :: StableHlo.unary main_cst_4 main_v27 (broadcastInDim S5x384x48x1 ![] bcast_S_S5x384x48x1 : (⟨S_, .f32⟩ : BufTy).Contents (Elt F) → (⟨S5x384x48x1, .f32⟩ : BufTy).Contents (Elt F))
  :: StableHlo.binary main_v25 main_v27 main_v28 (cmpf .olt : (⟨S5x384x48x1, .f32⟩ : BufTy).Contents (Elt F) → (⟨S5x384x48x1, .f32⟩ : BufTy).Contents (Elt F) → (⟨S5x384x48x1, .i1⟩ : BufTy).Contents (Elt F))
  :: StableHlo.unary main_v25 main_v29 (Host.log : (⟨S5x384x48x1, .f32⟩ : BufTy).Contents (Elt F) → (⟨S5x384x48x1, .f32⟩ : BufTy).Contents (Elt F))
  :: StableHlo.unary main_v26 main_v30 (broadcastInDim S5x384x48x1 ![] bcast_S_S5x384x48x1 : (⟨S_, .f32⟩ : BufTy).Contents (Elt F) → (⟨S5x384x48x1, .f32⟩ : BufTy).Contents (Elt F))
  :: StableHlo.binary main_v29 main_v30 main_v31 (Host.divf : (⟨S5x384x48x1, .f32⟩ : BufTy).Contents (Elt F) → (⟨S5x384x48x1, .f32⟩ : BufTy).Contents (Elt F) → (⟨S5x384x48x1, .f32⟩ : BufTy).Contents (Elt F))
  :: StableHlo.unary main_v31 main_v32 (Host.floor : (⟨S5x384x48x1, .f32⟩ : BufTy).Contents (Elt F) → (⟨S5x384x48x1, .f32⟩ : BufTy).Contents (Elt F))
  :: StableHlo.nullary main_cst_5 (constant S_ .f32 0x3F800000#32)
  :: StableHlo.unary main_cst_5 main_v33 (broadcastInDim S5x384x48x1 ![] bcast_S_S5x384x48x1 : (⟨S_, .f32⟩ : BufTy).Contents (Elt F) → (⟨S5x384x48x1, .f32⟩ : BufTy).Contents (Elt F))
  :: StableHlo.binary main_v32 main_v33 main_v34 (addf : (⟨S5x384x48x1, .f32⟩ : BufTy).Contents (Elt F) → (⟨S5x384x48x1, .f32⟩ : BufTy).Contents (Elt F) → (⟨S5x384x48x1, .f32⟩ : BufTy).Contents (Elt F))
  :: StableHlo.nullary main_cst_6 (constant S_ .f32 0x00000000#32)
  :: [] )
/-- Each touches references of the TensorCore only. -/
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
/-- 3 host operations of @_where_0 (main_call1), window 0 (statements 1 … 60), in order. -/
abbrev main_part0_ops3 : List (HloOp τ sig (Elt F)) :=
  [ StableHlo.TRef.unary (.of main_cst_6 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S5x384x48x1, .f32⟩) (broadcastInDim S5x384x48x1 ![] bcast_S_S5x384x48x1),
    StableHlo.TRef.ternary (.of main_v28 : StableHlo.TRef sig ⟨S5x384x48x1, .i1⟩) (.of main_call1_v1 : StableHlo.TRef sig ⟨S5x384x48x1, .f32⟩) (.of main_v34 : StableHlo.TRef sig ⟨S5x384x48x1, .f32⟩) (.of main_v35 : StableHlo.TRef sig ⟨S5x384x48x1, .f32⟩) select ]
/-- Each touches references of the TensorCore only. -/
theorem main_part0_ops3_sub : (main_part0_ops3 : List (HloOp τ sig (Elt F))).Forall fun op => op.bufs ⊆ StableHlo.tcRefs τ sig :=
  ⟨StableHlo.unary_bufs_sub .., StableHlo.unary_bufs_sub .., StableHlo.ternary_bufs_sub ..⟩
/-- 11 host operations of @main, window 0 (statements 1 … 60), in order. -/
abbrev main_part0_ops4 : List (HloOp τ sig (Elt F)) :=
  [ StableHlo.unary main_v26 main_v36 (broadcastInDim S5x384x48x1 ![] bcast_S_S5x384x48x1 : (⟨S_, .f32⟩ : BufTy).Contents (Elt F) → (⟨S5x384x48x1, .f32⟩ : BufTy).Contents (Elt F)),
    StableHlo.binary main_v35 main_v36 main_v37 (mulf : (⟨S5x384x48x1, .f32⟩ : BufTy).Contents (Elt F) → (⟨S5x384x48x1, .f32⟩ : BufTy).Contents (Elt F) → (⟨S5x384x48x1, .f32⟩ : BufTy).Contents (Elt F)),
    StableHlo.unary main_v37 main_v38 (Host.exp : (⟨S5x384x48x1, .f32⟩ : BufTy).Contents (Elt F) → (⟨S5x384x48x1, .f32⟩ : BufTy).Contents (Elt F)),
    StableHlo.unary main_v35 main_v39 (Host.negf : (⟨S5x384x48x1, .f32⟩ : BufTy).Contents (Elt F) → (⟨S5x384x48x1, .f32⟩ : BufTy).Contents (Elt F)),
    StableHlo.unary main_v26 main_v40 (broadcastInDim S5x384x48x1 ![] bcast_S_S5x384x48x1 : (⟨S_, .f32⟩ : BufTy).Contents (Elt F) → (⟨S5x384x48x1, .f32⟩ : BufTy).Contents (Elt F)),
    StableHlo.binary main_v39 main_v40 main_v41 (mulf : (⟨S5x384x48x1, .f32⟩ : BufTy).Contents (Elt F) → (⟨S5x384x48x1, .f32⟩ : BufTy).Contents (Elt F) → (⟨S5x384x48x1, .f32⟩ : BufTy).Contents (Elt F)),
    StableHlo.unary main_v41 main_v42 (Host.exp : (⟨S5x384x48x1, .f32⟩ : BufTy).Contents (Elt F) → (⟨S5x384x48x1, .f32⟩ : BufTy).Contents (Elt F)),
    StableHlo.unary main_v42 main_v43 (broadcastInDim S5x384x48x64 ![0, 1, 2, 3] bcast_S5x384x48x1_S5x384x48x64_0_1_2_3 : (⟨S5x384x48x1, .f32⟩ : BufTy).Contents (Elt F) → (⟨S5x384x48x64, .f32⟩ : BufTy).Contents (Elt F)),
    StableHlo.binary main_v19 main_v43 main_v44 (mulf : (⟨S5x384x48x64, .f32⟩ : BufTy).Contents (Elt F) → (⟨S5x384x48x64, .f32⟩ : BufTy).Contents (Elt F) → (⟨S5x384x48x64, .f32⟩ : BufTy).Contents (Elt F)),
    StableHlo.nullary main_cst_7 (constant S_ .f32 0xC3E00000#32),
    StableHlo.nullary main_cst_8 (constant S_ .f32 0x43E00000#32) ]
/-- Each touches references of the TensorCore only. -/
theorem main_part0_ops4_sub : (main_part0_ops4 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub ..⟩
/-- 6 host operations of @clip (main_call2), window 0 (statements 1 … 60), in order. -/
abbrev main_part0_ops5 : List (HloOp τ sig (Elt F)) :=
  [ StableHlo.TRef.unary (.of main_cst_7 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S5x384x48x64, .f32⟩) (broadcastInDim S5x384x48x64 ![] bcast_S_S5x384x48x64),
    StableHlo.TRef.binary (.of main_call2_v1 : StableHlo.TRef sig ⟨S5x384x48x64, .f32⟩) (.of main_v44 : StableHlo.TRef sig ⟨S5x384x48x64, .f32⟩) (.of main_call2_v2 : StableHlo.TRef sig ⟨S5x384x48x64, .f32⟩) maximumf,
    StableHlo.TRef.unary (.of main_cst_8 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S5x384x48x64, .f32⟩) (broadcastInDim S5x384x48x64 ![] bcast_S_S5x384x48x64),
    StableHlo.TRef.binary (.of main_call2_v4 : StableHlo.TRef sig ⟨S5x384x48x64, .f32⟩) (.of main_call2_v2 : StableHlo.TRef sig ⟨S5x384x48x64, .f32⟩) (.of main_v45 : StableHlo.TRef sig ⟨S5x384x48x64, .f32⟩) minimumf ]
/-- Each touches references of the TensorCore only. -/
theorem main_part0_ops5_sub : (main_part0_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 3 host operations of @main, window 0 (statements 1 … 60), in order. -/
abbrev main_part0_ops6 : List (HloOp τ sig (Elt F)) :=
  [ StableHlo.unary main_v20 main_v46 (Host.absf : (⟨S5x384x8x64, .f32⟩ : BufTy).Contents (Elt F) → (⟨S5x384x8x64, .f32⟩ : BufTy).Contents (Elt F)),
    StableHlo.nullary main_cst_9 (constant S_ .f32 0xFF800000#32),
    StableHlo.binary main_v46 main_cst_9 main_v47 ((fun x v => Host.reduce FloatOps.maximumf x v reducesTo_S5x384x8x64_S5x384x8_d3 h_S_) : (⟨S5x384x8x64, .f32⟩ : BufTy).Contents (Elt F) → (⟨S_, .f32⟩ : BufTy).Contents (Elt F) → (⟨S5x384x8, .f32⟩ : BufTy).Contents (Elt F)) ]
/-- Each touches references of the TensorCore only. -/
theorem main_part0_ops6_sub : (main_part0_ops6 : List (HloOp τ sig (Elt F))).Forall fun op => op.bufs ⊆ StableHlo.tcRefs τ sig :=
  ⟨StableHlo.unary_bufs_sub .., StableHlo.nullary_bufs_sub .., StableHlo.binary_bufs_sub ..⟩
/-- Window 0 of `main` is its lines, one list after another. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5 ]
  (StableHlo.seq main_part0_ops6) : Prog (TpuEff nD τ sig (Elt F) (Pipeline.Sig Λ₀ (Fin 0) fun p => (pcfgs (F := F) p).Adm) .tc) PUnit) := by
  rewrite [StableHlo.chainK_seq_cons, Pipeline.chainK_cons, StableHlo.chainK_seq_cons, Pipeline.chainK_cons, StableHlo.chainK_seq_cons, Pipeline.chainK_cons]
  chain_rfl

/-- 17 host operations of @main, window 1 (statements 61 … 120), in order. -/
abbrev main_part1_ops0 : List (HloOp τ sig (Elt F)) :=
  [ StableHlo.unary main_v47 main_v48 (broadcastInDim S5x384x8x1 ![0, 1, 2] bcast_S5x384x8_S5x384x8x1_0_1_2 : (⟨S5x384x8, .f32⟩ : BufTy).Contents (Elt F) → (⟨S5x384x8x1, .f32⟩ : BufTy).Contents (Elt F)),
    StableHlo.nullary main_cst_10 (constant S_ .f32 0x3B124925#32),
    StableHlo.unary main_cst_10 main_v49 (broadcastInDim S5x384x8x1 ![] bcast_S_S5x384x8x1 : (⟨S_, .f32⟩ : BufTy).Contents (Elt F) → (⟨S5x384x8x1, .f32⟩ : BufTy).Contents (Elt F)),
    StableHlo.binary main_v48 main_v49 main_v50 (mulf : (⟨S5x384x8x1, .f32⟩ : BufTy).Contents (Elt F) → (⟨S5x384x8x1, .f32⟩ : BufTy).Contents (Elt F) → (⟨S5x384x8x1, .f32⟩ : BufTy).Contents (Elt F)),
    StableHlo.nullary main_cst_11 (constant S_ .f32 0x40000000#32),
    StableHlo.unary main_cst_11 main_v51 (Host.log : (⟨S_, .f32⟩ : BufTy).Contents (Elt F) → (⟨S_, .f32⟩ : BufTy).Contents (Elt F)),
    StableHlo.nullary main_cst_12 (constant S_ .f32 0x00800000#32),
    StableHlo.unary main_cst_12 main_v52 (broadcastInDim S5x384x8x1 ![] bcast_S_S5x384x8x1 : (⟨S_, .f32⟩ : BufTy).Contents (Elt F) → (⟨S5x384x8x1, .f32⟩ : BufTy).Contents (Elt F)),
    StableHlo.binary main_v50 main_v52 main_v53 (cmpf .olt : (⟨S5x384x8x1, .f32⟩ : BufTy).Contents (Elt F) → (⟨S5x384x8x1, .f32⟩ : BufTy).Contents (Elt F) → (⟨S5x384x8x1, .i1⟩ : BufTy).Contents (Elt F)),
    StableHlo.unary main_v50 main_v54 (Host.log : (⟨S5x384x8x1, .f32⟩ : BufTy).Contents (Elt F) → (⟨S5x384x8x1, .f32⟩ : BufTy).Contents (Elt F)),
    StableHlo.unary main_v51 main_v55 (broadcastInDim S5x384x8x1 ![] bcast_S_S5x384x8x1 : (⟨S_, .f32⟩ : BufTy).Contents (Elt F) → (⟨S5x384x8x1, .f32⟩ : BufTy).Contents (Elt F)),
    StableHlo.binary main_v54 main_v55 main_v56 (Host.divf : (⟨S5x384x8x1, .f32⟩ : BufTy).Contents (Elt F) → (⟨S5x384x8x1, .f32⟩ : BufTy).Contents (Elt F) → (⟨S5x384x8x1, .f32⟩ : BufTy).Contents (Elt F)),
    StableHlo.unary main_v56 main_v57 (Host.floor : (⟨S5x384x8x1, .f32⟩ : BufTy).Contents (Elt F) → (⟨S5x384x8x1, .f32⟩ : BufTy).Contents (Elt F)),
    StableHlo.nullary main_cst_13 (constant S_ .f32 0x3F800000#32),
    StableHlo.unary main_cst_13 main_v58 (broadcastInDim S5x384x8x1 ![] bcast_S_S5x384x8x1 : (⟨S_, .f32⟩ : BufTy).Contents (Elt F) → (⟨S5x384x8x1, .f32⟩ : BufTy).Contents (Elt F)),
    StableHlo.binary main_v57 main_v58 main_v59 (addf : (⟨S5x384x8x1, .f32⟩ : BufTy).Contents (Elt F) → (⟨S5x384x8x1, .f32⟩ : BufTy).Contents (Elt F) → (⟨S5x384x8x1, .f32⟩ : BufTy).Contents (Elt F)),
    StableHlo.nullary main_cst_14 (constant S_ .f32 0x00000000#32) ]
/-- Each touches references of the TensorCore only. -/
theorem main_part1_ops0_sub : (main_part1_ops0 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
/-- 3 host operations of @_where_1 (main_call3), window 1 (statements 61 … 120), in order. -/
abbrev main_part1_ops1 : List (HloOp τ sig (Elt F)) :=
  [ StableHlo.TRef.unary (.of main_cst_14 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S5x384x8x1, .f32⟩) (broadcastInDim S5x384x8x1 ![] bcast_S_S5x384x8x1),
    StableHlo.TRef.ternary (.of main_v53 : StableHlo.TRef sig ⟨S5x384x8x1, .i1⟩) (.of main_call3_v1 : StableHlo.TRef sig ⟨S5x384x8x1, .f32⟩) (.of main_v59 : StableHlo.TRef sig ⟨S5x384x8x1, .f32⟩) (.of main_v60 : StableHlo.TRef sig ⟨S5x384x8x1, .f32⟩) select ]
/-- Each touches references of the TensorCore only. -/
theorem main_part1_ops1_sub : (main_part1_ops1 : List (HloOp τ sig (Elt F))).Forall fun op => op.bufs ⊆ StableHlo.tcRefs τ sig :=
  ⟨StableHlo.unary_bufs_sub .., StableHlo.unary_bufs_sub .., StableHlo.ternary_bufs_sub ..⟩
/-- 11 host operations of @main, window 1 (statements 61 … 120), in order. -/
abbrev main_part1_ops2 : List (HloOp τ sig (Elt F)) :=
  [ StableHlo.unary main_v51 main_v61 (broadcastInDim S5x384x8x1 ![] bcast_S_S5x384x8x1 : (⟨S_, .f32⟩ : BufTy).Contents (Elt F) → (⟨S5x384x8x1, .f32⟩ : BufTy).Contents (Elt F)),
    StableHlo.binary main_v60 main_v61 main_v62 (mulf : (⟨S5x384x8x1, .f32⟩ : BufTy).Contents (Elt F) → (⟨S5x384x8x1, .f32⟩ : BufTy).Contents (Elt F) → (⟨S5x384x8x1, .f32⟩ : BufTy).Contents (Elt F)),
    StableHlo.unary main_v62 main_v63 (Host.exp : (⟨S5x384x8x1, .f32⟩ : BufTy).Contents (Elt F) → (⟨S5x384x8x1, .f32⟩ : BufTy).Contents (Elt F)),
    StableHlo.unary main_v60 main_v64 (Host.negf : (⟨S5x384x8x1, .f32⟩ : BufTy).Contents (Elt F) → (⟨S5x384x8x1, .f32⟩ : BufTy).Contents (Elt F)),
    StableHlo.unary main_v51 main_v65 (broadcastInDim S5x384x8x1 ![] bcast_S_S5x384x8x1 : (⟨S_, .f32⟩ : BufTy).Contents (Elt F) → (⟨S5x384x8x1, .f32⟩ : BufTy).Contents (Elt F)),
    StableHlo.binary main_v64 main_v65 main_v66 (mulf : (⟨S5x384x8x1, .f32⟩ : BufTy).Contents (Elt F) → (⟨S5x384x8x1, .f32⟩ : BufTy).Contents (Elt F) → (⟨S5x384x8x1, .f32⟩ : BufTy).Contents (Elt F)),
    StableHlo.unary main_v66 main_v67 (Host.exp : (⟨S5x384x8x1, .f32⟩ : BufTy).Contents (Elt F) → (⟨S5x384x8x1, .f32⟩ : BufTy).Contents (Elt F)),
    StableHlo.unary main_v67 main_v68 (broadcastInDim S5x384x8x64 ![0, 1, 2, 3] bcast_S5x384x8x1_S5x384x8x64_0_1_2_3 : (⟨S5x384x8x1, .f32⟩ : BufTy).Contents (Elt F) → (⟨S5x384x8x64, .f32⟩ : BufTy).Contents (Elt F)),
    StableHlo.binary main_v20 main_v68 main_v69 (mulf : (⟨S5x384x8x64, .f32⟩ : BufTy).Contents (Elt F) → (⟨S5x384x8x64, .f32⟩ : BufTy).Contents (Elt F) → (⟨S5x384x8x64, .f32⟩ : BufTy).Contents (Elt F)),
    StableHlo.nullary main_cst_15 (constant S_ .f32 0xC3E00000#32),
    StableHlo.nullary main_cst_16 (constant S_ .f32 0x43E00000#32) ]
/-- Each touches references of the TensorCore only. -/
theorem main_part1_ops2_sub : (main_part1_ops2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub ..⟩
/-- 6 host operations of @clip_2 (main_call4), window 1 (statements 61 … 120), in order. -/
abbrev main_part1_ops3 : List (HloOp τ sig (Elt F)) :=
  [ StableHlo.TRef.unary (.of main_cst_15 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S5x384x8x64, .f32⟩) (broadcastInDim S5x384x8x64 ![] bcast_S_S5x384x8x64),
    StableHlo.TRef.binary (.of main_call4_v1 : StableHlo.TRef sig ⟨S5x384x8x64, .f32⟩) (.of main_v69 : StableHlo.TRef sig ⟨S5x384x8x64, .f32⟩) (.of main_call4_v2 : StableHlo.TRef sig ⟨S5x384x8x64, .f32⟩) maximumf,
    StableHlo.TRef.unary (.of main_cst_16 : StableHlo.TRef sig ⟨S_, .f32⟩) (.of main_call4_v3 : StableHlo.TRef sig ⟨S_, .f32⟩) id,
    StableHlo.TRef.unary (.of main_call4_v3 : StableHlo.TRef sig ⟨S_, .f32⟩) (.of main_call4_v4 : StableHlo.TRef sig ⟨S5x384x8x64, .f32⟩) (broadcastInDim S5x384x8x64 ![] bcast_S_S5x384x8x64),
    StableHlo.TRef.binary (.of main_call4_v4 : StableHlo.TRef sig ⟨S5x384x8x64, .f32⟩) (.of main_call4_v2 : StableHlo.TRef sig ⟨S5x384x8x64, .f32⟩) (.of main_v70 : StableHlo.TRef sig ⟨S5x384x8x64, .f32⟩) minimumf ]
/-- Each touches references of the TensorCore only. -/
theorem main_part1_ops3_sub : (main_part1_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 20 host operations of @main, window 1 (statements 61 … 120), in order. -/
abbrev main_part1_ops4 : List (HloOp τ sig (Elt F)) :=
  [ StableHlo.unary main_v18 main_v71 (Host.absf : (⟨S5x384x8x64, .f32⟩ : BufTy).Contents (Elt F) → (⟨S5x384x8x64, .f32⟩ : BufTy).Contents (Elt F)),
    StableHlo.nullary main_cst_17 (constant S_ .f32 0xFF800000#32),
    StableHlo.binary main_v71 main_cst_17 main_v72 ((fun x v => Host.reduce FloatOps.maximumf x v reducesTo_S5x384x8x64_S5x8x64_d1 h_S_) : (⟨S5x384x8x64, .f32⟩ : BufTy).Contents (Elt F) → (⟨S_, .f32⟩ : BufTy).Contents (Elt F) → (⟨S5x8x64, .f32⟩ : BufTy).Contents (Elt F)),
    StableHlo.unary main_v72 main_v73 (broadcastInDim S5x1x8x64 ![0, 2, 3] bcast_S5x8x64_S5x1x8x64_0_2_3 : (⟨S5x8x64, .f32⟩ : BufTy).Contents (Elt F) → (⟨S5x1x8x64, .f32⟩ : BufTy).Contents (Elt F)),
    StableHlo.nullary main_cst_18 (constant S_ .f32 0x3B124925#32),
    StableHlo.unary main_cst_18 main_v74 (broadcastInDim S5x1x8x64 ![] bcast_S_S5x1x8x64 : (⟨S_, .f32⟩ : BufTy).Contents (Elt F) → (⟨S5x1x8x64, .f32⟩ : BufTy).Contents (Elt F)),
    StableHlo.binary main_v73 main_v74 main_v75 (mulf : (⟨S5x1x8x64, .f32⟩ : BufTy).Contents (Elt F) → (⟨S5x1x8x64, .f32⟩ : BufTy).Contents (Elt F) → (⟨S5x1x8x64, .f32⟩ : BufTy).Contents (Elt F)),
    StableHlo.nullary main_cst_19 (constant S_ .f32 0x40000000#32),
    StableHlo.unary main_cst_19 main_v76 (Host.log : (⟨S_, .f32⟩ : BufTy).Contents (Elt F) → (⟨S_, .f32⟩ : BufTy).Contents (Elt F)),
    StableHlo.nullary main_cst_20 (constant S_ .f32 0x00800000#32),
    StableHlo.unary main_cst_20 main_v77 (broadcastInDim S5x1x8x64 ![] bcast_S_S5x1x8x64 : (⟨S_, .f32⟩ : BufTy).Contents (Elt F) → (⟨S5x1x8x64, .f32⟩ : BufTy).Contents (Elt F)),
    StableHlo.binary main_v75 main_v77 main_v78 (cmpf .olt : (⟨S5x1x8x64, .f32⟩ : BufTy).Contents (Elt F) → (⟨S5x1x8x64, .f32⟩ : BufTy).Contents (Elt F) → (⟨S5x1x8x64, .i1⟩ : BufTy).Contents (Elt F)),
    StableHlo.unary main_v75 main_v79 (Host.log : (⟨S5x1x8x64, .f32⟩ : BufTy).Contents (Elt F) → (⟨S5x1x8x64, .f32⟩ : BufTy).Contents (Elt F)),
    StableHlo.unary main_v76 main_v80 (broadcastInDim S5x1x8x64 ![] bcast_S_S5x1x8x64 : (⟨S_, .f32⟩ : BufTy).Contents (Elt F) → (⟨S5x1x8x64, .f32⟩ : BufTy).Contents (Elt F)),
    StableHlo.binary main_v79 main_v80 main_v81 (Host.divf : (⟨S5x1x8x64, .f32⟩ : BufTy).Contents (Elt F) → (⟨S5x1x8x64, .f32⟩ : BufTy).Contents (Elt F) → (⟨S5x1x8x64, .f32⟩ : BufTy).Contents (Elt F)),
    StableHlo.unary main_v81 main_v82 (Host.floor : (⟨S5x1x8x64, .f32⟩ : BufTy).Contents (Elt F) → (⟨S5x1x8x64, .f32⟩ : BufTy).Contents (Elt F)),
    StableHlo.nullary main_cst_21 (constant S_ .f32 0x3F800000#32),
    StableHlo.unary main_cst_21 main_v83 (broadcastInDim S5x1x8x64 ![] bcast_S_S5x1x8x64 : (⟨S_, .f32⟩ : BufTy).Contents (Elt F) → (⟨S5x1x8x64, .f32⟩ : BufTy).Contents (Elt F)),
    StableHlo.binary main_v82 main_v83 main_v84 (addf : (⟨S5x1x8x64, .f32⟩ : BufTy).Contents (Elt F) → (⟨S5x1x8x64, .f32⟩ : BufTy).Contents (Elt F) → (⟨S5x1x8x64, .f32⟩ : BufTy).Contents (Elt F)),
    StableHlo.nullary main_cst_22 (constant S_ .f32 0x00000000#32) ]
/-- Each touches references of the TensorCore only. -/
theorem main_part1_ops4_sub : (main_part1_ops4 : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
/-- 3 host operations of @_where_3 (main_call5), window 1 (statements 61 … 120), in order. -/
abbrev main_part1_ops5 : List (HloOp τ sig (Elt F)) :=
  [ StableHlo.TRef.unary (.of main_cst_22 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S5x1x8x64, .f32⟩) (broadcastInDim S5x1x8x64 ![] bcast_S_S5x1x8x64),
    StableHlo.TRef.ternary (.of main_v78 : StableHlo.TRef sig ⟨S5x1x8x64, .i1⟩) (.of main_call5_v1 : StableHlo.TRef sig ⟨S5x1x8x64, .f32⟩) (.of main_v84 : StableHlo.TRef sig ⟨S5x1x8x64, .f32⟩) (.of main_v85 : StableHlo.TRef sig ⟨S5x1x8x64, .f32⟩) select ]
/-- Each touches references of the TensorCore only. -/
theorem main_part1_ops5_sub : (main_part1_ops5 : List (HloOp τ sig (Elt F))).Forall fun op => op.bufs ⊆ StableHlo.tcRefs τ sig :=
  ⟨StableHlo.unary_bufs_sub .., StableHlo.unary_bufs_sub .., StableHlo.ternary_bufs_sub ..⟩
/-- 9 host operations of @main, window 1 (statements 61 … 120), in order. -/
abbrev main_part1_ops6 : List (HloOp τ sig (Elt F)) :=
  [ StableHlo.unary main_v76 main_v86 (broadcastInDim S5x1x8x64 ![] bcast_S_S5x1x8x64 : (⟨S_, .f32⟩ : BufTy).Contents (Elt F) → (⟨S5x1x8x64, .f32⟩ : BufTy).Contents (Elt F)),
    StableHlo.binary main_v85 main_v86 main_v87 (mulf : (⟨S5x1x8x64, .f32⟩ : BufTy).Contents (Elt F) → (⟨S5x1x8x64, .f32⟩ : BufTy).Contents (Elt F) → (⟨S5x1x8x64, .f32⟩ : BufTy).Contents (Elt F)),
    StableHlo.unary main_v87 main_v88 (Host.exp : (⟨S5x1x8x64, .f32⟩ : BufTy).Contents (Elt F) → (⟨S5x1x8x64, .f32⟩ : BufTy).Contents (Elt F)),
    StableHlo.unary main_v85 main_v89 (Host.negf : (⟨S5x1x8x64, .f32⟩ : BufTy).Contents (Elt F) → (⟨S5x1x8x64, .f32⟩ : BufTy).Contents (Elt F)),
    StableHlo.unary main_v76 main_v90 (broadcastInDim S5x1x8x64 ![] bcast_S_S5x1x8x64 : (⟨S_, .f32⟩ : BufTy).Contents (Elt F) → (⟨S5x1x8x64, .f32⟩ : BufTy).Contents (Elt F)),
    StableHlo.binary main_v89 main_v90 main_v91 (mulf : (⟨S5x1x8x64, .f32⟩ : BufTy).Contents (Elt F) → (⟨S5x1x8x64, .f32⟩ : BufTy).Contents (Elt F) → (⟨S5x1x8x64, .f32⟩ : BufTy).Contents (Elt F)),
    StableHlo.unary main_v91 main_v92 (Host.exp : (⟨S5x1x8x64, .f32⟩ : BufTy).Contents (Elt F) → (⟨S5x1x8x64, .f32⟩ : BufTy).Contents (Elt F)),
    StableHlo.unary main_v92 main_v93 (broadcastInDim S5x384x8x64 ![0, 1, 2, 3] bcast_S5x1x8x64_S5x384x8x64_0_1_2_3 : (⟨S5x1x8x64, .f32⟩ : BufTy).Contents (Elt F) → (⟨S5x384x8x64, .f32⟩ : BufTy).Contents (Elt F)),
    StableHlo.binary main_v18 main_v93 main_v94 (mulf : (⟨S5x384x8x64, .f32⟩ : BufTy).Contents (Elt F) → (⟨S5x384x8x64, .f32⟩ : BufTy).Contents (Elt F) → (⟨S5x384x8x64, .f32⟩ : BufTy).Contents (Elt F)) ]
/-- Each touches references of the TensorCore only. -/
theorem main_part1_ops6_sub : (main_part1_ops6 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
/-- Window 1 of `main` is its lines, one list after another. -/
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5 ]
  (StableHlo.seq main_part1_ops6) : Prog (TpuEff nD τ sig (Elt F) (Pipeline.Sig Λ₀ (Fin 0) fun p => (pcfgs (F := F) p).Adm) .tc) PUnit) := by
  rewrite [StableHlo.chainK_seq_cons, Pipeline.chainK_cons, StableHlo.chainK_seq_cons, Pipeline.chainK_cons, StableHlo.chainK_seq_cons, Pipeline.chainK_cons]
  chain_rfl

/-- 2 host operations of @main, window 2 (statements 121 … 180), in order. -/
abbrev main_part2_ops0 : List (HloOp τ sig (Elt F)) :=
  [ StableHlo.nullary main_cst_23 (constant S_ .f32 0xC3E00000#32),
    StableHlo.nullary main_cst_24 (constant S_ .f32 0x43E00000#32) ]
/-- Each touches references of the TensorCore only. -/
theorem main_part2_ops0_sub : (main_part2_ops0 : List (HloOp τ sig (Elt F))).Forall fun op => op.bufs ⊆ StableHlo.tcRefs τ sig :=
  ⟨StableHlo.nullary_bufs_sub .., StableHlo.nullary_bufs_sub ..⟩
/-- 6 host operations of @clip_2 (main_call6), window 2 (statements 121 … 180), in order. -/
abbrev main_part2_ops1 : List (HloOp τ sig (Elt F)) :=
  [ StableHlo.TRef.unary (.of main_cst_23 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S5x384x8x64, .f32⟩) (broadcastInDim S5x384x8x64 ![] bcast_S_S5x384x8x64),
    StableHlo.TRef.binary (.of main_call6_v1 : StableHlo.TRef sig ⟨S5x384x8x64, .f32⟩) (.of main_v94 : StableHlo.TRef sig ⟨S5x384x8x64, .f32⟩) (.of main_call6_v2 : StableHlo.TRef sig ⟨S5x384x8x64, .f32⟩) maximumf,
    StableHlo.TRef.unary (.of main_cst_24 : StableHlo.TRef sig ⟨S_, .f32⟩) (.of main_call6_v3 : StableHlo.TRef sig ⟨S_, .f32⟩) id,
    StableHlo.TRef.unary (.of main_call6_v3 : StableHlo.TRef sig ⟨S_, .f32⟩) (.of main_call6_v4 : StableHlo.TRef sig ⟨S5x384x8x64, .f32⟩) (broadcastInDim S5x384x8x64 ![] bcast_S_S5x384x8x64),
    StableHlo.TRef.binary (.of main_call6_v4 : StableHlo.TRef sig ⟨S5x384x8x64, .f32⟩) (.of main_call6_v2 : StableHlo.TRef sig ⟨S5x384x8x64, .f32⟩) (.of main_v95 : StableHlo.TRef sig ⟨S5x384x8x64, .f32⟩) minimumf ]
/-- Each touches references of the TensorCore only. -/
theorem main_part2_ops1_sub : (main_part2_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 24 host operations of @main, window 2 (statements 121 … 180), in order. -/
abbrev main_part2_ops2 : List (HloOp τ sig (Elt F)) :=
  [ StableHlo.reshape main_v45 main_v96 (rfl : (.f32 : EltTy) = .f32) shapeCasts_S5x384x48x64_S5x384x8x6x64,
    StableHlo.binary main_v70 main_v96 main_v97 ((fun l r => Host.dotGeneral dot_S5x384x8x64_S5x384x8x6x64_S5x8x384x384x6_3_4_1_13_02_02 (some .fp32) l r) : (⟨S5x384x8x64, .f32⟩ : BufTy).Contents (Elt F) → (⟨S5x384x8x6x64, .f32⟩ : BufTy).Contents (Elt F) → (⟨S5x8x384x384x6, .f32⟩ : BufTy).Contents (Elt F)),
    StableHlo.unary main_v97 main_v98 ((transpose S5x8x6x384x384 [0, 1, 4, 3, 2] · transposes_S5x8x384x384x6_S5x8x6x384x384_0_1_4_3_2) : (⟨S5x8x384x384x6, .f32⟩ : BufTy).Contents (Elt F) → (⟨S5x8x6x384x384, .f32⟩ : BufTy).Contents (Elt F)),
    StableHlo.reshape main_v38 main_v99 (rfl : (.f32 : EltTy) = .f32) shapeCasts_S5x384x48x1_S5x384x8x6,
    StableHlo.unary main_v99 main_v100 ((transpose S5x8x6x384 [0, 2, 3, 1] · transposes_S5x384x8x6_S5x8x6x384_0_2_3_1) : (⟨S5x384x8x6, .f32⟩ : BufTy).Contents (Elt F) → (⟨S5x8x6x384, .f32⟩ : BufTy).Contents (Elt F)),
    StableHlo.reshape main_v63 main_v101 (rfl : (.f32 : EltTy) = .f32) shapeCasts_S5x384x8x1_S5x384x8,
    StableHlo.unary main_v101 main_v102 ((transpose S5x8x384 [0, 2, 1] · transposes_S5x384x8_S5x8x384_0_2_1) : (⟨S5x384x8, .f32⟩ : BufTy).Contents (Elt F) → (⟨S5x8x384, .f32⟩ : BufTy).Contents (Elt F)),
    StableHlo.reshape main_v88 main_v103 (rfl : (.f32 : EltTy) = .f32) shapeCasts_S5x1x8x64_S5x8x64,
    StableHlo.unary main_v100 main_v104 (broadcastInDim S5x8x6x384x1 ![0, 1, 2, 3] bcast_S5x8x6x384_S5x8x6x384x1_0_1_2_3 : (⟨S5x8x6x384, .f32⟩ : BufTy).Contents (Elt F) → (⟨S5x8x6x384x1, .f32⟩ : BufTy).Contents (Elt F)),
    StableHlo.unary main_v104 main_v105 (broadcastInDim S5x8x6x384x384 ![0, 1, 2, 3, 4] bcast_S5x8x6x384x1_S5x8x6x384x384_0_1_2_3_4 : (⟨S5x8x6x384x1, .f32⟩ : BufTy).Contents (Elt F) → (⟨S5x8x6x384x384, .f32⟩ : BufTy).Contents (Elt F)),
    StableHlo.binary main_v98 main_v105 main_v106 (mulf : (⟨S5x8x6x384x384, .f32⟩ : BufTy).Contents (Elt F) → (⟨S5x8x6x384x384, .f32⟩ : BufTy).Contents (Elt F) → (⟨S5x8x6x384x384, .f32⟩ : BufTy).Contents (Elt F)),
    StableHlo.unary main_v102 main_v107 (broadcastInDim S5x8x1x1x384 ![0, 1, 4] bcast_S5x8x384_S5x8x1x1x384_0_1_4 : (⟨S5x8x384, .f32⟩ : BufTy).Contents (Elt F) → (⟨S5x8x1x1x384, .f32⟩ : BufTy).Contents (Elt F)),
    StableHlo.unary main_v107 main_v108 (broadcastInDim S5x8x6x384x384 ![0, 1, 2, 3, 4] bcast_S5x8x1x1x384_S5x8x6x384x384_0_1_2_3_4 : (⟨S5x8x1x1x384, .f32⟩ : BufTy).Contents (Elt F) → (⟨S5x8x6x384x384, .f32⟩ : BufTy).Contents (Elt F)),
    StableHlo.binary main_v106 main_v108 main_v109 (mulf : (⟨S5x8x6x384x384, .f32⟩ : BufTy).Contents (Elt F) → (⟨S5x8x6x384x384, .f32⟩ : BufTy).Contents (Elt F) → (⟨S5x8x6x384x384, .f32⟩ : BufTy).Contents (Elt F)),
    StableHlo.nullary main_cst_25 (constant S_ .f32 0x3B000000#32),
    StableHlo.unary main_cst_25 main_v110 (broadcastInDim S5x8x6x384x384 ![] bcast_S_S5x8x6x384x384 : (⟨S_, .f32⟩ : BufTy).Contents (Elt F) → (⟨S5x8x6x384x384, .f32⟩ : BufTy).Contents (Elt F)),
    StableHlo.binary main_v109 main_v110 main_v111 (mulf : (⟨S5x8x6x384x384, .f32⟩ : BufTy).Contents (Elt F) → (⟨S5x8x6x384x384, .f32⟩ : BufTy).Contents (Elt F) → (⟨S5x8x6x384x384, .f32⟩ : BufTy).Contents (Elt F)),
    StableHlo.nullary main_v112 (iotaInDim S384 32 0),
    StableHlo.unary main_v112 main_v113 (broadcastInDim S1x384 ![1] bcast_S384_S1x384_1 : (⟨S384, .i32⟩ : BufTy).Contents (Elt F) → (⟨S1x384, .i32⟩ : BufTy).Contents (Elt F)),
    StableHlo.unary main_v112 main_v114 (broadcastInDim S384x1 ![0] bcast_S384_S384x1_0 : (⟨S384, .i32⟩ : BufTy).Contents (Elt F) → (⟨S384x1, .i32⟩ : BufTy).Contents (Elt F)),
    StableHlo.unary main_v113 main_v115 (broadcastInDim S384x384 ![0, 1] bcast_S1x384_S384x384_0_1 : (⟨S1x384, .i32⟩ : BufTy).Contents (Elt F) → (⟨S384x384, .i32⟩ : BufTy).Contents (Elt F)),
    StableHlo.unary main_v114 main_v116 (broadcastInDim S384x384 ![0, 1] bcast_S384x1_S384x384_0_1 : (⟨S384x1, .i32⟩ : BufTy).Contents (Elt F) → (⟨S384x384, .i32⟩ : BufTy).Contents (Elt F)),
    StableHlo.binary main_v115 main_v116 main_v117 (cmpi .sle : (⟨S384x384, .i32⟩ : BufTy).Contents (Elt F) → (⟨S384x384, .i32⟩ : BufTy).Contents (Elt F) → (⟨S384x384, .i1⟩ : BufTy).Contents (Elt F)),
    StableHlo.nullary main_cst_26 (constant S_ .f32 0xFF800000#32) ]
/-- Each touches references of the TensorCore only. -/
theorem main_part2_ops2_sub : (main_part2_ops2 : List (HloOp τ sig (Elt F))).Forall fun op => op.bufs ⊆ StableHlo.tcRefs τ sig :=
  ⟨StableHlo.reshape_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.nullary_bufs_sub ..⟩
/-- 4 host operations of @_where_4 (main_call7), window 2 (statements 121 … 180), in order. -/
abbrev main_part2_ops3 : List (HloOp τ sig (Elt F)) :=
  [ StableHlo.TRef.unary (.of main_cst_26 : StableHlo.TRef sig ⟨S_, .f32⟩) (.of main_call7_v0 : StableHlo.TRef sig ⟨S_, .f32⟩) id,
    StableHlo.TRef.unary (.of main_v117 : StableHlo.TRef sig ⟨S384x384, .i1⟩) (.of main_call7_v1 : StableHlo.TRef sig ⟨S5x8x6x384x384, .i1⟩) (broadcastInDim S5x8x6x384x384 ![3, 4] bcast_S384x384_S5x8x6x384x384_3_4),
    StableHlo.TRef.unary (.of main_call7_v0 : StableHlo.TRef sig ⟨S_, .f32⟩) (.of main_call7_v2 : StableHlo.TRef sig ⟨S5x8x6x384x384, .f32⟩) (broadcastInDim S5x8x6x384x384 ![] bcast_S_S5x8x6x384x384),
    StableHlo.TRef.ternary (.of main_call7_v1 : StableHlo.TRef sig ⟨S5x8x6x384x384, .i1⟩) (.of main_v111 : StableHlo.TRef sig ⟨S5x8x6x384x384, .f32⟩) (.of main_call7_v2 : StableHlo.TRef sig ⟨S5x8x6x384x384, .f32⟩) (.of main_v118 : StableHlo.TRef sig ⟨S5x8x6x384x384, .f32⟩) select ]
/-- Each touches references of the TensorCore only. -/
theorem main_part2_ops3_sub : (main_part2_ops3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 7 host operations of @main, window 2 (statements 121 … 180), in order. -/
abbrev main_part2_ops4 : List (HloOp τ sig (Elt F)) :=
  [ StableHlo.nullary main_cst_27 (constant S_ .f32 0xFF800000#32),
    StableHlo.binary main_v118 main_cst_27 main_v119 ((fun x v => Host.reduce FloatOps.maximumf x v reducesTo_S5x8x6x384x384_S5x8x6x384_d4 h_S_) : (⟨S5x8x6x384x384, .f32⟩ : BufTy).Contents (Elt F) → (⟨S_, .f32⟩ : BufTy).Contents (Elt F) → (⟨S5x8x6x384, .f32⟩ : BufTy).Contents (Elt F)),
    StableHlo.unary main_v119 main_v120 (broadcastInDim S5x8x6x384x1 ![0, 1, 2, 3] bcast_S5x8x6x384_S5x8x6x384x1_0_1_2_3 : (⟨S5x8x6x384, .f32⟩ : BufTy).Contents (Elt F) → (⟨S5x8x6x384x1, .f32⟩ : BufTy).Contents (Elt F)),
    StableHlo.unary main_v120 main_v121 (broadcastInDim S5x8x6x384x384 ![0, 1, 2, 3, 4] bcast_S5x8x6x384x1_S5x8x6x384x384_0_1_2_3_4 : (⟨S5x8x6x384x1, .f32⟩ : BufTy).Contents (Elt F) → (⟨S5x8x6x384x384, .f32⟩ : BufTy).Contents (Elt F)),
    StableHlo.binary main_v118 main_v121 main_v122 (subf : (⟨S5x8x6x384x384, .f32⟩ : BufTy).Contents (Elt F) → (⟨S5x8x6x384x384, .f32⟩ : BufTy).Contents (Elt F) → (⟨S5x8x6x384x384, .f32⟩ : BufTy).Contents (Elt F)),
    StableHlo.unary main_v122 main_v123 (Host.exp : (⟨S5x8x6x384x384, .f32⟩ : BufTy).Contents (Elt F) → (⟨S5x8x6x384x384, .f32⟩ : BufTy).Contents (Elt F)),
    StableHlo.nullary main_cst_28 (constant S_ .f32 0x00000000#32) ]
/-- Each touches references of the TensorCore only. -/
theorem main_part2_ops4_sub : (main_part2_ops4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub .., StableHlo.unary_bufs_sub .., StableHlo.nullary_bufs_sub ..⟩
/-- 4 host operations of @_where_4 (main_call8), window 2 (statements 121 … 180), in order. -/
abbrev main_part2_ops5 : List (HloOp τ sig (Elt F)) :=
  [ StableHlo.TRef.unary (.of main_cst_28 : StableHlo.TRef sig ⟨S_, .f32⟩) (.of main_call8_v0 : StableHlo.TRef sig ⟨S_, .f32⟩) id,
    StableHlo.TRef.unary (.of main_v117 : StableHlo.TRef sig ⟨S384x384, .i1⟩) (.of main_call8_v1 : StableHlo.TRef sig ⟨S5x8x6x384x384, .i1⟩) (broadcastInDim S5x8x6x384x384 ![3, 4] bcast_S384x384_S5x8x6x384x384_3_4),
    StableHlo.TRef.unary (.of main_call8_v0 : StableHlo.TRef sig ⟨S_, .f32⟩) (.of main_call8_v2 : StableHlo.TRef sig ⟨S5x8x6x384x384, .f32⟩) (broadcastInDim S5x8x6x384x384 ![] bcast_S_S5x8x6x384x384),
    StableHlo.TRef.ternary (.of main_call8_v1 : StableHlo.TRef sig ⟨S5x8x6x384x384, .i1⟩) (.of main_v123 : StableHlo.TRef sig ⟨S5x8x6x384x384, .f32⟩) (.of main_call8_v2 : StableHlo.TRef sig ⟨S5x8x6x384x384, .f32⟩) (.of main_v124 : StableHlo.TRef sig ⟨S5x8x6x384x384, .f32⟩) select ]
/-- Each touches references of the TensorCore only. -/
theorem main_part2_ops5_sub : (main_part2_ops5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 8 host operations of @main, window 2 (statements 121 … 180), in order. -/
abbrev main_part2_ops6 : List (HloOp τ sig (Elt F)) :=
  [ StableHlo.nullary main_cst_29 (constant S_ .f32 0x00000000#32),
    StableHlo.binary main_v124 main_cst_29 main_v125 ((fun x v => Host.reduceAdd x v reducesTo_S5x8x6x384x384_S5x8x6x384_d4 h_S_) : (⟨S5x8x6x384x384, .f32⟩ : BufTy).Contents (Elt F) → (⟨S_, .f32⟩ : BufTy).Contents (Elt F) → (⟨S5x8x6x384, .f32⟩ : BufTy).Contents (Elt F)),
    StableHlo.unary main_v125 main_v126 (broadcastInDim S5x8x6x384x1 ![0, 1, 2, 3] bcast_S5x8x6x384_S5x8x6x384x1_0_1_2_3 : (⟨S5x8x6x384, .f32⟩ : BufTy).Contents (Elt F) → (⟨S5x8x6x384x1, .f32⟩ : BufTy).Contents (Elt F)),
    StableHlo.nullary main_cst_30 (constant S_ .f32 0x43800000#32),
    StableHlo.unary main_cst_30 main_v127 (broadcastInDim S5x8x6x384x384 ![] bcast_S_S5x8x6x384x384 : (⟨S_, .f32⟩ : BufTy).Contents (Elt F) → (⟨S5x8x6x384x384, .f32⟩ : BufTy).Contents (Elt F)),
    StableHlo.binary main_v124 main_v127 main_v128 (mulf : (⟨S5x8x6x384x384, .f32⟩ : BufTy).Contents (Elt F) → (⟨S5x8x6x384x384, .f32⟩ : BufTy).Contents (Elt F) → (⟨S5x8x6x384x384, .f32⟩ : BufTy).Contents (Elt F)),
    StableHlo.nullary main_cst_31 (constant S_ .f32 0x00000000#32),
    StableHlo.nullary main_cst_32 (constant S_ .f32 0x43E00000#32) ]
/-- Each touches references of the TensorCore only. -/
theorem main_part2_ops6_sub : (main_part2_ops6 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub ..⟩
/-- 6 host operations of @clip_5 (main_call9), window 2 (statements 121 … 180), in order. -/
abbrev main_part2_ops7 : List (HloOp τ sig (Elt F)) :=
  [ StableHlo.TRef.unary (.of main_cst_31 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S5x8x6x384x384, .f32⟩) (broadcastInDim S5x8x6x384x384 ![] bcast_S_S5x8x6x384x384),
    StableHlo.TRef.binary (.of main_call9_v1 : StableHlo.TRef sig ⟨S5x8x6x384x384, .f32⟩) (.of main_v128 : StableHlo.TRef sig ⟨S5x8x6x384x384, .f32⟩) (.of main_call9_v2 : StableHlo.TRef sig ⟨S5x8x6x384x384, .f32⟩) maximumf,
    StableHlo.TRef.unary (.of main_cst_32 : StableHlo.TRef sig ⟨S_, .f32⟩) (.of main_call9_v3 : StableHlo.TRef sig ⟨S_, .f32⟩) id,
    StableHlo.TRef.unary (.of main_call9_v3 : StableHlo.TRef sig ⟨S_, .f32⟩) (.of main_call9_v4 : StableHlo.TRef sig ⟨S5x8x6x384x384, .f32⟩) (broadcastInDim S5x8x6x384x384 ![] bcast_S_S5x8x6x384x384),
    StableHlo.TRef.binary (.of main_call9_v4 : StableHlo.TRef sig ⟨S5x8x6x384x384, .f32⟩) (.of main_call9_v2 : StableHlo.TRef sig ⟨S5x8x6x384x384, .f32⟩) (.of main_v129 : StableHlo.TRef sig ⟨S5x8x6x384x384, .f32⟩) minimumf ]
/-- Each touches references of the TensorCore only. -/
theorem main_part2_ops7_sub : (main_part2_ops7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 15 host operations of @main, window 2 (statements 121 … 180), in order. -/
abbrev main_part2_ops8 : List (HloOp τ sig (Elt F)) :=
  [ StableHlo.binary main_v129 main_v95 main_v130 ((fun l r => Host.dotGeneral dot_S5x8x6x384x384_S5x384x8x64_S5x8x6x384x64_4_1_23_3_01_02 (some .fp32) l r) : (⟨S5x8x6x384x384, .f32⟩ : BufTy).Contents (Elt F) → (⟨S5x384x8x64, .f32⟩ : BufTy).Contents (Elt F) → (⟨S5x8x6x384x64, .f32⟩ : BufTy).Contents (Elt F)),
    StableHlo.nullary main_cst_33 (constant S_ .f32 0x3B800000#32),
    StableHlo.unary main_cst_33 main_v131 (broadcastInDim S5x8x6x384x64 ![] bcast_S_S5x8x6x384x64 : (⟨S_, .f32⟩ : BufTy).Contents (Elt F) → (⟨S5x8x6x384x64, .f32⟩ : BufTy).Contents (Elt F)),
    StableHlo.binary main_v130 main_v131 main_v132 (mulf : (⟨S5x8x6x384x64, .f32⟩ : BufTy).Contents (Elt F) → (⟨S5x8x6x384x64, .f32⟩ : BufTy).Contents (Elt F) → (⟨S5x8x6x384x64, .f32⟩ : BufTy).Contents (Elt F)),
    StableHlo.unary main_v103 main_v133 (broadcastInDim S5x8x1x1x64 ![0, 1, 4] bcast_S5x8x64_S5x8x1x1x64_0_1_4 : (⟨S5x8x64, .f32⟩ : BufTy).Contents (Elt F) → (⟨S5x8x1x1x64, .f32⟩ : BufTy).Contents (Elt F)),
    StableHlo.unary main_v133 main_v134 (broadcastInDim S5x8x6x384x64 ![0, 1, 2, 3, 4] bcast_S5x8x1x1x64_S5x8x6x384x64_0_1_2_3_4 : (⟨S5x8x1x1x64, .f32⟩ : BufTy).Contents (Elt F) → (⟨S5x8x6x384x64, .f32⟩ : BufTy).Contents (Elt F)),
    StableHlo.binary main_v132 main_v134 main_v135 (mulf : (⟨S5x8x6x384x64, .f32⟩ : BufTy).Contents (Elt F) → (⟨S5x8x6x384x64, .f32⟩ : BufTy).Contents (Elt F) → (⟨S5x8x6x384x64, .f32⟩ : BufTy).Contents (Elt F)),
    StableHlo.unary main_v126 main_v136 (broadcastInDim S5x8x6x384x64 ![0, 1, 2, 3, 4] bcast_S5x8x6x384x1_S5x8x6x384x64_0_1_2_3_4 : (⟨S5x8x6x384x1, .f32⟩ : BufTy).Contents (Elt F) → (⟨S5x8x6x384x64, .f32⟩ : BufTy).Contents (Elt F)),
    StableHlo.binary main_v135 main_v136 main_v137 (Host.divf : (⟨S5x8x6x384x64, .f32⟩ : BufTy).Contents (Elt F) → (⟨S5x8x6x384x64, .f32⟩ : BufTy).Contents (Elt F) → (⟨S5x8x6x384x64, .f32⟩ : BufTy).Contents (Elt F)),
    StableHlo.unary main_v137 main_v138 ((transpose S5x384x8x6x64 [0, 3, 1, 2, 4] · transposes_S5x8x6x384x64_S5x384x8x6x64_0_3_1_2_4) : (⟨S5x8x6x384x64, .f32⟩ : BufTy).Contents (Elt F) → (⟨S5x384x8x6x64, .f32⟩ : BufTy).Contents (Elt F)),
    StableHlo.reshape main_v138 main_v139 (rfl : (.f32 : EltTy) = .f32) shapeCasts_S5x384x8x6x64_S5x384x3072,
    StableHlo.unary main_v139 main_v140 ((truncf .bf16 · bitsLt_bf16_f32) : (⟨S5x384x3072, .f32⟩ : BufTy).Contents (Elt F) → (⟨S5x384x3072, .bf16⟩ : BufTy).Contents (Elt F)),
    StableHlo.reshape main_v100 main_v141 (rfl : (.f32 : EltTy) = .f32) shapeCasts_S5x8x6x384_S5x48x384,
    StableHlo.unary main_v45 main_v142 ((transpose S5x48x64x384 [0, 2, 3, 1] · transposes_S5x384x48x64_S5x48x64x384_0_2_3_1) : (⟨S5x384x48x64, .f32⟩ : BufTy).Contents (Elt F) → (⟨S5x48x64x384, .f32⟩ : BufTy).Contents (Elt F)),
    StableHlo.unary main_v142 main_v143 (Host.convertf .fp8e4m3 : (⟨S5x48x64x384, .f32⟩ : BufTy).Contents (Elt F) → (⟨S5x48x64x384, .fp8e4m3⟩ : BufTy).Contents (Elt F)) ]
/-- Each touches references of the TensorCore only. -/
theorem main_part2_ops8_sub : (main_part2_ops8 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub ..⟩
/-- Window 2 of `main` is its lines, one list after another. -/
theorem main_part2_chain (c : Dev nD) : main_part2 (F := F) c = (Pipeline.chainK
  [ StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7 ]
  (StableHlo.seq main_part2_ops8) : Prog (TpuEff nD τ sig (Elt F) (Pipeline.Sig Λ₀ (Fin 0) fun p => (pcfgs (F := F) p).Adm) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 4 host operations of @main, window 3, in order. -/
abbrev main_part3_ops0 : List (HloOp τ sig (Elt F)) :=
  [ StableHlo.unary main_v70 main_v144 ((transpose S5x8x64x384 [0, 2, 3, 1] · transposes_S5x384x8x64_S5x8x64x384_0_2_3_1) : (⟨S5x384x8x64, .f32⟩ : BufTy).Contents (Elt F) → (⟨S5x8x64x384, .f32⟩ : BufTy).Contents (Elt F)),
    StableHlo.unary main_v144 main_v145 (Host.convertf .fp8e4m3 : (⟨S5x8x64x384, .f32⟩ : BufTy).Contents (Elt F) → (⟨S5x8x64x384, .fp8e4m3⟩ : BufTy).Contents (Elt F)),
    StableHlo.unary main_v95 main_v146 ((transpose S5x8x64x384 [0, 2, 3, 1] · transposes_S5x384x8x64_S5x8x64x384_0_2_3_1) : (⟨S5x384x8x64, .f32⟩ : BufTy).Contents (Elt F) → (⟨S5x8x64x384, .f32⟩ : BufTy).Contents (Elt F)),
    StableHlo.unary main_v146 main_v147 (Host.convertf .fp8e4m3 : (⟨S5x8x64x384, .f32⟩ : BufTy).Contents (Elt F) → (⟨S5x8x64x384, .fp8e4m3⟩ : BufTy).Contents (Elt F)) ]
/-- Each touches references of the TensorCore only. -/
theorem main_part3_ops0_sub : (main_part3_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
/-- The last window of `main` is its lines. -/
theorem main_part3_chain (c : Dev nD) : main_part3 (F := F) c = (Pipeline.chain
  [ StableHlo.seq main_part3_ops0 ] : Prog (TpuEff nD τ sig (Elt F) (Pipeline.Sig Λ₀ (Fin 0) fun p => (pcfgs (F := F) p).Adm) .tc) PUnit) := by
  chain_rfl

/-- None of these lines leaves its result open. -/
theorem main_part0_ops0_fresh : (main_part0_ops0 : List (HloOp τ sig (Elt F))).Forall fun op => op.fresh = ∅ := by
  simp only [List.Forall]; repeat' constructor
/-- None of these lines leaves its result open. -/
theorem main_part0_ops1_fresh : (main_part0_ops1 : List (HloOp τ sig (Elt F))).Forall fun op => op.fresh = ∅ := by
  simp only [List.Forall]; repeat' constructor
/-- None of these lines leaves its result open. -/
theorem main_part0_ops2_fresh : (main_part0_ops2 : List (HloOp τ sig (Elt F))).Forall fun op => op.fresh = ∅ := by
  simp only [List.Forall]; repeat' constructor
/-- None of these lines leaves its result open. -/
theorem main_part0_ops3_fresh : (main_part0_ops3 : List (HloOp τ sig (Elt F))).Forall fun op => op.fresh = ∅ := by
  simp only [List.Forall]; repeat' constructor
/-- None of these lines leaves its result open. -/
theorem main_part0_ops4_fresh : (main_part0_ops4 : List (HloOp τ sig (Elt F))).Forall fun op => op.fresh = ∅ := by
  simp only [List.Forall]; repeat' constructor
/-- None of these lines leaves its result open. -/
theorem main_part0_ops5_fresh : (main_part0_ops5 : List (HloOp τ sig (Elt F))).Forall fun op => op.fresh = ∅ := by
  simp only [List.Forall]; repeat' constructor
/-- None of these lines leaves its result open. -/
theorem main_part0_ops6_fresh : (main_part0_ops6 : List (HloOp τ sig (Elt F))).Forall fun op => op.fresh = ∅ := by
  simp only [List.Forall]; repeat' constructor
/-- None of these lines leaves its result open. -/
theorem main_part1_ops0_fresh : (main_part1_ops0 : List (HloOp τ sig (Elt F))).Forall fun op => op.fresh = ∅ := by
  simp only [List.Forall]; repeat' constructor
/-- None of these lines leaves its result open. -/
theorem main_part1_ops1_fresh : (main_part1_ops1 : List (HloOp τ sig (Elt F))).Forall fun op => op.fresh = ∅ := by
  simp only [List.Forall]; repeat' constructor
/-- None of these lines leaves its result open. -/
theorem main_part1_ops2_fresh : (main_part1_ops2 : List (HloOp τ sig (Elt F))).Forall fun op => op.fresh = ∅ := by
  simp only [List.Forall]; repeat' constructor
/-- None of these lines leaves its result open. -/
theorem main_part1_ops3_fresh : (main_part1_ops3 : List (HloOp τ sig (Elt F))).Forall fun op => op.fresh = ∅ := by
  simp only [List.Forall]; repeat' constructor
/-- None of these lines leaves its result open. -/
theorem main_part1_ops4_fresh : (main_part1_ops4 : List (HloOp τ sig (Elt F))).Forall fun op => op.fresh = ∅ := by
  simp only [List.Forall]; repeat' constructor
/-- None of these lines leaves its result open. -/
theorem main_part1_ops5_fresh : (main_part1_ops5 : List (HloOp τ sig (Elt F))).Forall fun op => op.fresh = ∅ := by
  simp only [List.Forall]; repeat' constructor
/-- None of these lines leaves its result open. -/
theorem main_part1_ops6_fresh : (main_part1_ops6 : List (HloOp τ sig (Elt F))).Forall fun op => op.fresh = ∅ := by
  simp only [List.Forall]; repeat' constructor
/-- None of these lines leaves its result open. -/
theorem main_part2_ops0_fresh : (main_part2_ops0 : List (HloOp τ sig (Elt F))).Forall fun op => op.fresh = ∅ := by
  simp only [List.Forall]; repeat' constructor
/-- None of these lines leaves its result open. -/
theorem main_part2_ops1_fresh : (main_part2_ops1 : List (HloOp τ sig (Elt F))).Forall fun op => op.fresh = ∅ := by
  simp only [List.Forall]; repeat' constructor
/-- None of these lines leaves its result open. -/
theorem main_part2_ops2_fresh : (main_part2_ops2 : List (HloOp τ sig (Elt F))).Forall fun op => op.fresh = ∅ := by
  simp only [List.Forall]; repeat' constructor
/-- None of these lines leaves its result open. -/
theorem main_part2_ops3_fresh : (main_part2_ops3 : List (HloOp τ sig (Elt F))).Forall fun op => op.fresh = ∅ := by
  simp only [List.Forall]; repeat' constructor
/-- None of these lines leaves its result open. -/
theorem main_part2_ops4_fresh : (main_part2_ops4 : List (HloOp τ sig (Elt F))).Forall fun op => op.fresh = ∅ := by
  simp only [List.Forall]; repeat' constructor
/-- None of these lines leaves its result open. -/
theorem main_part2_ops5_fresh : (main_part2_ops5 : List (HloOp τ sig (Elt F))).Forall fun op => op.fresh = ∅ := by
  simp only [List.Forall]; repeat' constructor
/-- None of these lines leaves its result open. -/
theorem main_part2_ops6_fresh : (main_part2_ops6 : List (HloOp τ sig (Elt F))).Forall fun op => op.fresh = ∅ := by
  simp only [List.Forall]; repeat' constructor
/-- None of these lines leaves its result open. -/
theorem main_part2_ops7_fresh : (main_part2_ops7 : List (HloOp τ sig (Elt F))).Forall fun op => op.fresh = ∅ := by
  simp only [List.Forall]; repeat' constructor
/-- None of these lines leaves its result open. -/
theorem main_part2_ops8_fresh : (main_part2_ops8 : List (HloOp τ sig (Elt F))).Forall fun op => op.fresh = ∅ := by
  simp only [List.Forall]; repeat' constructor
/-- None of these lines leaves its result open. -/
theorem main_part3_ops0_fresh : (main_part3_ops0 : List (HloOp τ sig (Elt F))).Forall fun op => op.fresh = ∅ := by
  simp only [List.Forall]; repeat' constructor

/-- `main` is the chain of its windows' lists of lines. -/
theorem main_chain (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7,
    StableHlo.seq main_part2_ops8,
    StableHlo.seq main_part3_ops0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  chain_rfl

/-- A chain of straight lines is the straight line of their concatenation. -/
theorem chain_seq (Ls : List (List (HloOp τ sig (Elt F)))) :
    (Pipeline.chain (Ls.map StableHlo.seq) : Prog (TpuEff nD τ sig (Elt F) (Pipeline.Sig Λ₀ (Fin 0) fun p => (pcfgs (F := F) p).Adm) .tc) PUnit) = StableHlo.seq Ls.flatten := by
  induction Ls with
  | nil => rfl
  | cons l Ls ih => rw [List.map_cons, Pipeline.chain_cons, ih, List.flatten_cons, StableHlo.seq_append]

/-- What every entry of every list satisfies, every entry of their concatenation satisfies. -/
theorem forall_flatten {α : Type*} {p : α → Prop} (Ls : List (List α)) (h : Ls.Forall fun l => l.Forall p) : Ls.flatten.Forall p := by
  rw [List.forall_iff_forall_mem] at h ⊢
  intro a ha
  obtain ⟨l, hl, hal⟩ := List.mem_flatten.1 ha
  exact List.forall_iff_forall_mem.1 (h l hl) a hal

/-- The lists of the windows, in order. -/
abbrev hostLists : List (List (HloOp τ sig (Elt F))) :=
  [ main_part0_ops0, main_part0_ops1, main_part0_ops2, main_part0_ops3, main_part0_ops4, main_part0_ops5,
    main_part0_ops6, main_part1_ops0, main_part1_ops1, main_part1_ops2, main_part1_ops3, main_part1_ops4,
    main_part1_ops5, main_part1_ops6, main_part2_ops0, main_part2_ops1, main_part2_ops2, main_part2_ops3,
    main_part2_ops4, main_part2_ops5, main_part2_ops6, main_part2_ops7, main_part2_ops8, main_part3_ops0 ]

/-- All lines of the program. -/
abbrev hostAll : List (HloOp τ sig (Elt F)) := List.flatten hostLists

/-- The program is the straight line of its operations. -/
theorem main_eq (c : Dev nD) : main (F := F) c = StableHlo.seq hostAll :=
  (main_chain c).trans (chain_seq hostLists)

/-- Every line touches references of the TensorCore only. -/
theorem hostAll_sub : (hostAll : List (HloOp τ sig (Elt F))).Forall fun op => op.bufs ⊆ StableHlo.tcRefs τ sig :=
  forall_flatten hostLists ⟨main_part0_ops0_sub, main_part0_ops1_sub, main_part0_ops2_sub, main_part0_ops3_sub, main_part0_ops4_sub, main_part0_ops5_sub, main_part0_ops6_sub, main_part1_ops0_sub, main_part1_ops1_sub, main_part1_ops2_sub, main_part1_ops3_sub, main_part1_ops4_sub, main_part1_ops5_sub, main_part1_ops6_sub, main_part2_ops0_sub, main_part2_ops1_sub, main_part2_ops2_sub, main_part2_ops3_sub, main_part2_ops4_sub, main_part2_ops5_sub, main_part2_ops6_sub, main_part2_ops7_sub, main_part2_ops8_sub, main_part3_ops0_sub⟩

/-- No line leaves its result open. -/
theorem hostAll_fresh : ∀ op ∈ (hostAll : List (HloOp τ sig (Elt F))), op.fresh = ∅ :=
  List.forall_iff_forall_mem.1 (forall_flatten hostLists ⟨main_part0_ops0_fresh, main_part0_ops1_fresh, main_part0_ops2_fresh, main_part0_ops3_fresh, main_part0_ops4_fresh, main_part0_ops5_fresh, main_part0_ops6_fresh, main_part1_ops0_fresh, main_part1_ops1_fresh, main_part1_ops2_fresh, main_part1_ops3_fresh, main_part1_ops4_fresh, main_part1_ops5_fresh, main_part1_ops6_fresh, main_part2_ops0_fresh, main_part2_ops1_fresh, main_part2_ops2_fresh, main_part2_ops3_fresh, main_part2_ops4_fresh, main_part2_ops5_fresh, main_part2_ops6_fresh, main_part2_ops7_fresh, main_part2_ops8_fresh, main_part3_ops0_fresh⟩)

/-- The contents of a buffer at the end, from the contents the memory has at launch. -/
abbrev fin (m : (ℓ : Loc nD τ sig) → Buf (Elt F) ℓ) (c : Dev nD) (b : Ref sig .tc) : Buf (Elt F) ((c.tc : Thread nD τ).loc b) :=
  StableHlo.after hostAll (StableHlo.launchContents m c) (Proc.devRef .tc b)

/-- Every execution ends with each buffer at what the lines leave in it. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = fin m c b :=
  StableHlo.run_seq (by decide) (by decide) defs main (fun _ => hostAll) main_eq (fun _ => hostAll_sub) m ρ (fun _ => hostAll_fresh)

end Cert.ReferenceIdeal.Hand

end
-- ==== Proof.RVal.lean ====
/- What the lines leave in the buffers of the codes, the scales and the arguments. -/
module

public import proofs.«01_k».proof.Proof.RDefs
public import proofs.«01_k».proof.Proof.RHost
public import Idealize.ShloMosaic.Lib.StableHlo.RunRead

@[expose] public section

set_option maxRecDepth 16384

namespace Cert.ReferenceIdeal.Hand

open Cert.ReferenceIdeal Facts₀ Facts
open Cert.ReferenceIdeal.Gen (facts)
open Idealize.ShloMosaic Idealize.ShloMosaic.TcCoe

noncomputable section

variable {F : FTy → Type} [FloatOps F]
variable (m : (ℓ : Loc nD τ sig) → Buf (Elt F) ℓ)

open Idealize.ShloMosaic.StableHlo

set_option maxHeartbeats 4000000 in
/-- The queries' scales end in `main_v141`. -/
theorem fin_v141 (c : Dev nD) : (fin m c main_v141 : Vec F S5x48x384 .f32) = scQ48 (argX m c) := by
  change StableHlo.after hostAll (fun b => m (c, b)) (Proc.devRef .tc main_v141) = _
  after_reads_simp
  rfl

set_option maxHeartbeats 4000000 in
/-- The keys' scales end in `main_v102`. -/
theorem fin_v102 (c : Dev nD) : (fin m c main_v102 : Vec F S5x8x384 .f32) = scK (argK m c) := by
  change StableHlo.after hostAll (fun b => m (c, b)) (Proc.devRef .tc main_v102) = _
  after_reads_simp
  rfl

set_option maxHeartbeats 4000000 in
/-- The values' scales end in `main_v103`. -/
theorem fin_v103 (c : Dev nD) : (fin m c main_v103 : Vec F S5x8x64 .f32) = scV (argV m c) := by
  change StableHlo.after hostAll (fun b => m (c, b)) (Proc.devRef .tc main_v103) = _
  after_reads_simp
  rfl

set_option maxHeartbeats 4000000 in
/-- The queries' codes end in `main_v143`, cast to fp8. -/
theorem fin_v143 (c : Dev nD) : (fin m c main_v143 : Vec F S5x48x64x384 .fp8e4m3) = (Host.convertf .fp8e4m3 (tcQ (argX m c)) : Vec F S5x48x64x384 .fp8e4m3) := by
  change StableHlo.after hostAll (fun b => m (c, b)) (Proc.devRef .tc main_v143) = _
  after_reads_simp
  rfl

set_option maxHeartbeats 4000000 in
/-- The keys' codes end in `main_v145`, cast to fp8. -/
theorem fin_v145 (c : Dev nD) : (fin m c main_v145 : Vec F S5x8x64x384 .fp8e4m3) = (Host.convertf .fp8e4m3 (tcK (argK m c)) : Vec F S5x8x64x384 .fp8e4m3) := by
  change StableHlo.after hostAll (fun b => m (c, b)) (Proc.devRef .tc main_v145) = _
  after_reads_simp
  rfl

set_option maxHeartbeats 4000000 in
/-- The values' codes end in `main_v147`, cast to fp8. -/
theorem fin_v147 (c : Dev nD) : (fin m c main_v147 : Vec F S5x8x64x384 .fp8e4m3) = (Host.convertf .fp8e4m3 (tcV (argV m c)) : Vec F S5x8x64x384 .fp8e4m3) := by
  change StableHlo.after hostAll (fun b => m (c, b)) (Proc.devRef .tc main_v147) = _
  after_reads_simp
  rfl

set_option maxHeartbeats 4000000 in
/-- No line writes the first argument. -/
theorem fin_arg0 (c : Dev nD) : (fin m c main_arg0 : Vec F S5x384x3072 .bf16) = argX m c := by
  change StableHlo.after hostAll (fun b => m (c, b)) (Proc.devRef .tc main_arg0) = _
  after_reads_simp

set_option maxHeartbeats 4000000 in
/-- No line writes the second argument. -/
theorem fin_arg1 (c : Dev nD) : (fin m c main_arg1 : Vec F S5x384x512 .bf16) = argK m c := by
  change StableHlo.after hostAll (fun b => m (c, b)) (Proc.devRef .tc main_arg1) = _
  after_reads_simp

set_option maxHeartbeats 4000000 in
/-- No line writes the third argument. -/
theorem fin_arg2 (c : Dev nD) : (fin m c main_arg2 : Vec F S5x384x512 .bf16) = argV m c := by
  change StableHlo.after hostAll (fun b => m (c, b)) (Proc.devRef .tc main_arg2) = _
  after_reads_simp

end

end Cert.ReferenceIdeal.Hand

end
-- ==== Proof.RValOut.lean ====
/- What the lines leave in the buffer of the output. -/
module

public import proofs.«01_k».proof.Proof.RDefs
public import proofs.«01_k».proof.Proof.RHost
public import Idealize.ShloMosaic.Lib.StableHlo.RunRead

@[expose] public section

set_option maxRecDepth 16384

namespace Cert.ReferenceIdeal.Hand

open Cert.ReferenceIdeal Facts₀ Facts
open Cert.ReferenceIdeal.Gen (facts)
open Idealize.ShloMosaic Idealize.ShloMosaic.TcCoe

noncomputable section

variable {F : FTy → Type} [FloatOps F]
variable (m : (ℓ : Loc nD τ sig) → Buf (Elt F) ℓ)

open Idealize.ShloMosaic.StableHlo

set_option maxHeartbeats 4000000 in
/-- The output ends in `main_v140`. -/
theorem fin_v140 (c : Dev nD) : (fin m c main_v140 : Vec F S5x384x3072 .bf16) = outR (argX m c) (argK m c) (argV m c) := by
  change StableHlo.after hostAll (fun b => m (c, b)) (Proc.devRef .tc main_v140) = _
  after_reads_simp
  rfl

end

end Cert.ReferenceIdeal.Hand

end
-- ==== Proof.RRun.lean ====
/- What the reference's result arrays hold when the program has run. -/
module

public import proofs.«01_k».proof.Proof.RVal
public import proofs.«01_k».proof.Proof.RValOut

@[expose] public section

set_option maxRecDepth 16384

noncomputable section

namespace Cert.ReferenceIdeal.Hand

open Cert.ReferenceIdeal
open Idealize.ShloMosaic Idealize.ShloMosaic.TcCoe Idealize.SL.Sem

variable {F : FTy → Type} [FloatOps F]
variable (m : (ℓ : Loc nD τ sig) → Buf (Elt F) ℓ) (ρ : Dev nD → PrngReg)

/-- Every execution of the reference ends with each result at its formula and the arguments unchanged. -/
theorem run_values : θ_run defs (onTc (τ := τ) (main (F := F))) ⟨m, fun _ => 0, ρ⟩ fun r => ∀ c : Dev nD,
    r.2.mem ((c.tc : Thread nD τ).loc main_v140) = outR (argX m c) (argK m c) (argV m c)
    ∧ r.2.mem ((c.tc : Thread nD τ).loc main_v143) = (Host.convertf .fp8e4m3 (tcQ (argX m c)) : Vec F S5x48x64x384 .fp8e4m3)
    ∧ r.2.mem ((c.tc : Thread nD τ).loc main_v141) = scQ48 (argX m c)
    ∧ r.2.mem ((c.tc : Thread nD τ).loc main_v145) = (Host.convertf .fp8e4m3 (tcK (argK m c)) : Vec F S5x8x64x384 .fp8e4m3)
    ∧ r.2.mem ((c.tc : Thread nD τ).loc main_v102) = scK (argK m c)
    ∧ r.2.mem ((c.tc : Thread nD τ).loc main_v147) = (Host.convertf .fp8e4m3 (tcV (argV m c)) : Vec F S5x8x64x384 .fp8e4m3)
    ∧ r.2.mem ((c.tc : Thread nD τ).loc main_v103) = scV (argV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨
      (h c main_v140).trans (fin_v140 m c),
      (h c main_v143).trans (fin_v143 m c),
      (h c main_v141).trans (fin_v141 m c),
      (h c main_v145).trans (fin_v145 m c),
      (h c main_v102).trans (fin_v102 m c),
      (h c main_v147).trans (fin_v147 m c),
      (h c main_v103).trans (fin_v103 m c),
      (h c main_arg0).trans (fin_arg0 m c),
      (h c main_arg1).trans (fin_arg1 m c),
      (h c main_arg2).trans (fin_arg2 m c)⟩)
    (run_all m ρ)

/-- The reference's arguments end unchanged, and it has no semaphore that could end elsewhere than at zero. -/
theorem frame : θ_run defs (onTc (τ := τ) (main (F := F))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0 :=
  (θ_run defs _ _).mono (fun r h => ⟨fun c => ⟨(h c main_arg0).trans (fin_arg0 m c), (h c main_arg1).trans (fin_arg1 m c),
      (h c main_arg2).trans (fin_arg2 m c)⟩, sem_eq_zero_of_no_sems (by decide) r.2⟩)
    (run_all m ρ)

end Cert.ReferenceIdeal.Hand

end
-- ==== Proof.lean ====
module

public import proofs.«01_k».proof.Defs
public import proofs.«01_k».proof.Proof.KFrame
public import proofs.«01_k».proof.Proof.Attn
public import proofs.«01_k».proof.Proof.Finite
public import proofs.«01_k».proof.Proof.RRun

public import Idealize.ShloMosaic.Adequacy
public import Idealize.ShloMosaic.Init

@[expose] public section

noncomputable section

namespace Cert.Proof

open Idealize.ShloMosaic Idealize.ShloMosaic.TcCoe Idealize.SL.Sem

/-- The kernel's arguments end unchanged and its semaphores end at zero, over the extended reals. -/
theorem frame_KernelIdeal : Cert.quiescent_KernelIdeal (hKernelIdeal := Cert.KernelIdeal.Gen.facts) := fun m ρ _ =>
  (θ_run _ _ _).mono (fun _ h => ⟨h.1.1, h.2⟩) (Cert.KernelIdeal.Hand.run_values m ρ)

/-- The seven results agree where the arguments are finite. -/
theorem algebraic : Cert.algebraic_KernelIdeal_ReferenceIdeal_pre_finite (hKernelIdeal := Cert.KernelIdeal.Gen.facts)
    (hReferenceIdeal := Cert.ReferenceIdeal.Gen.facts) (hPre_finite := Cert.KernelIdeal.Hand.preFacts) := by
  intro m g m' g' hpre hargs
  have hf := fun c => Cert.KernelIdeal.Hand.finArgs_of_pre m hpre c
  have hX : ∀ c, Cert.ReferenceIdeal.Hand.argX m' c = Cert.KernelIdeal.Hand.aX m c := fun c => (hargs c).1
  have hK : ∀ c, Cert.ReferenceIdeal.Hand.argK m' c = Cert.KernelIdeal.Hand.aK m c := fun c => (hargs c).2.1
  have hV : ∀ c, Cert.ReferenceIdeal.Hand.argV m' c = Cert.KernelIdeal.Hand.aV m c := fun c => (hargs c).2.2
  refine ⟨fun c => Cert.KernelIdeal.Hand.A4 m c, fun c => Cert.KernelIdeal.Hand.A5 m c, fun c => Cert.KernelIdeal.Hand.A6 m c,
    fun c => Cert.KernelIdeal.Hand.A7 m c, fun c => Cert.KernelIdeal.Hand.A8 m c, fun c => Cert.KernelIdeal.Hand.A9 m c,
    fun c => Cert.KernelIdeal.Hand.A10 m c, ?_, ?_⟩
  · refine (θ_run _ _ _).mono (fun r h c => ?_) (Cert.KernelIdeal.Hand.run_values m g)
    obtain ⟨⟨ha, hv⟩, -⟩ := h
    obtain ⟨v0, v1, v2, v3, v4, v5, v6⟩ := hv c
    exact ⟨v0, v1, v2, v3, v4, v5, v6, ha c⟩
  · refine (θ_run _ _ _).mono (fun r h c => ?_) (Cert.ReferenceIdeal.Hand.run_values m' g')
    obtain ⟨v0, v1, v2, v3, v4, v5, v6, ha⟩ := h c
    rw [hX c, hK c, hV c] at v0
    rw [hX c] at v1 v2
    rw [hK c] at v3 v4
    rw [hV c] at v5 v6
    exact ⟨v0.trans (Cert.KernelIdeal.Hand.A4_eq (hf c)).symm, v1.trans (Cert.KernelIdeal.Hand.A5_eq (hf c)).symm,
      v2.trans (Cert.KernelIdeal.Hand.A6_eq (hf c)).symm, v3.trans (Cert.KernelIdeal.Hand.A7_eq (hf c)).symm,
      v4.trans (Cert.KernelIdeal.Hand.A8_eq (hf c)).symm, v5.trans (Cert.KernelIdeal.Hand.A9_eq (hf c)).symm,
      v6.trans (Cert.KernelIdeal.Hand.A10_eq (hf c)).symm, ha⟩

/-- Everything the certificate claims. -/
theorem claim : Cert.Claim := ⟨Cert.Kernel.Gen.facts, Cert.KernelIdeal.Gen.facts, Cert.ReferenceIdeal.Gen.facts, Cert.KernelIdeal.Hand.preFacts,
  fun m ρ _ => Cert.Kernel.Hand.frame m ρ, frame_KernelIdeal, fun m ρ _ => frame_KernelIdeal m ρ trivial,
  fun m ρ _ => Cert.ReferenceIdeal.Hand.frame m ρ, fun m ρ _ => Cert.ReferenceIdeal.Hand.frame m ρ,
  IdealRules.named_const.statement Cert.KernelIdeal.κ "score_scale_log2e" .f32 0x3B38AA3B#32 (((512 * (Real.log 2))⁻¹ : ℝ) : EReal) rfl,
  algebraic⟩

end Cert.Proof

end
